-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S17408x6144 : Shape := ⟨2, ![17408, 6144]⟩
abbrev S17408x128 : Shape := ⟨2, ![17408, 128]⟩
abbrev S2x16 : Shape := ⟨2, ![2, 16]⟩
abbrev S_ : Shape := ⟨0, ![]⟩

class Facts : Prop where
  bitsLt_bf16_f32 : FTy.bits .bf16 < FTy.bits .f32
  bcast_S_S17408x6144 : S_.BroadcastsInDim S17408x6144 (![] : Fin 0 → Fin S17408x6144.rank)
  reducesTo_S17408x6144_S_d0_1 : S17408x6144.ReducesTo [0, 1] S_
  h_S_ : 0 < S_.numel
  bcast_S_S17408x128 : S_.BroadcastsInDim S17408x128 (![] : Fin 0 → Fin S17408x128.rank)
  reducesTo_S17408x128_S_d0_1 : S17408x128.ReducesTo [0, 1] S_
  bcast_S_S2x16 : S_.BroadcastsInDim S2x16 (![] : Fin 0 → Fin S2x16.rank)
  reducesTo_S2x16_S_d0_1 : S2x16.ReducesTo [0, 1] S_

variable [Facts]

def fn_part1 {F : FTy → Type} [FloatOps F] (main_v14 : IVec S_ 1) (main_v15 : FVec F S2x16 .f32) (main_v16 : FVec F S2x16 .f32) : IVec S_ 1 :=
  let main_v17 : IVec S2x16 1 := cmpf .olt main_v15 main_v16
  let main_c_5 : IVec S_ 1 := constantI S_ 1 1#1
  let main_v18 : IVec S_ 1 := (fun x v => Host.reduce IntOp.andi x v reducesTo_S2x16_S_d0_1 h_S_) main_v17 main_c_5
  let main_v19 : IVec S_ 1 := andi main_v14 main_v18
  main_v19

def fn {F : FTy → Type} [FloatOps F] (main_arg0 : FVec F S17408x6144 .bf16) (main_arg1 : FVec F S17408x128 .f32) (main_arg2 : FVec F S2x16 .f32) (main_arg3 : FVec F S2x16 .f32) : IVec S_ 1 :=
  let main_v0 : FVec F S17408x6144 .f32 := (extf .f32 · bitsLt_bf16_f32) main_arg0
  let main_v1 : FVec F S17408x6144 .f32 := Host.absf main_v0
  let main_cst : FVec F S_ .f32 := constant S_ .f32 0x7F800000#32
  let main_v2 : FVec F S17408x6144 .f32 := broadcastInDim S17408x6144 ![] bcast_S_S17408x6144 main_cst
  let main_v3 : IVec S17408x6144 1 := cmpf .olt main_v1 main_v2
  let main_c : IVec S_ 1 := constantI S_ 1 1#1
  let main_v4 : IVec S_ 1 := (fun x v => Host.reduce IntOp.andi x v reducesTo_S17408x6144_S_d0_1 h_S_) main_v3 main_c
  let main_v5 : FVec F S17408x128 .f32 := Host.absf main_arg1
  let main_cst_0 : FVec F S_ .f32 := constant S_ .f32 0x7F800000#32
  let main_v6 : FVec F S17408x128 .f32 := broadcastInDim S17408x128 ![] bcast_S_S17408x128 main_cst_0
  let main_v7 : IVec S17408x128 1 := cmpf .olt main_v5 main_v6
  let main_c_1 : IVec S_ 1 := constantI S_ 1 1#1
  let main_v8 : IVec S_ 1 := (fun x v => Host.reduce IntOp.andi x v reducesTo_S17408x128_S_d0_1 h_S_) main_v7 main_c_1
  let main_v9 : IVec S_ 1 := andi main_v4 main_v8
  let main_v10 : FVec F S2x16 .f32 := Host.absf main_arg2
  let main_cst_2 : FVec F S_ .f32 := constant S_ .f32 0x7F800000#32
  let main_v11 : FVec F S2x16 .f32 := broadcastInDim S2x16 ![] bcast_S_S2x16 main_cst_2
  let main_v12 : IVec S2x16 1 := cmpf .olt main_v10 main_v11
  let main_c_3 : IVec S_ 1 := constantI S_ 1 1#1
  let main_v13 : IVec S_ 1 := (fun x v => Host.reduce IntOp.andi x v reducesTo_S2x16_S_d0_1 h_S_) main_v12 main_c_3
  let main_v14 : IVec S_ 1 := andi main_v9 main_v13
  let main_v15 : FVec F S2x16 .f32 := Host.absf main_arg3
  let main_cst_4 : FVec F S_ .f32 := constant S_ .f32 0x7F800000#32
  let main_v16 : FVec F S2x16 .f32 := broadcastInDim S2x16 ![] bcast_S_S2x16 main_cst_4
  fn_part1 (F := F) main_v14 main_v15 main_v16
-- ==== Kernel.lean ====
abbrev S17408x6144 : Shape := ⟨2, ![17408, 6144]⟩
abbrev S17408x128 : Shape := ⟨2, ![17408, 128]⟩
abbrev S2x16 : Shape := ⟨2, ![2, 16]⟩
abbrev S_ : Shape := ⟨0, ![]⟩
abbrev S1x32 : Shape := ⟨2, ![1, 32]⟩
abbrev S17408x64 : Shape := ⟨2, ![17408, 64]⟩
abbrev S17408x4x1x16 : Shape := ⟨4, ![17408, 4, 1, 16]⟩
abbrev S1x17408x4x16 : Shape := ⟨4, ![1, 17408, 4, 16]⟩
abbrev S1x17408x64 : Shape := ⟨3, ![1, 17408, 64]⟩
abbrev S1x17408x128 : Shape := ⟨3, ![1, 17408, 128]⟩
abbrev S1x64 : Shape := ⟨2, ![1, 64]⟩
abbrev S1x4x1x16 : Shape := ⟨4, ![1, 4, 1, 16]⟩
abbrev S1x1x4x16 : Shape := ⟨4, ![1, 1, 4, 16]⟩
abbrev S1x1x64 : Shape := ⟨3, ![1, 1, 64]⟩
abbrev S1x1x128 : Shape := ⟨3, ![1, 1, 128]⟩
abbrev S2x17408x2048 : Shape := ⟨3, ![2, 17408, 2048]⟩
abbrev S64x2048 : Shape := ⟨2, ![64, 2048]⟩
abbrev S1x64x128 : Shape := ⟨3, ![1, 64, 128]⟩
abbrev S1x64x2048 : Shape := ⟨3, ![1, 64, 2048]⟩
abbrev S16x128x128 : Shape := ⟨3, ![16, 128, 128]⟩
abbrev S64x128 : Shape := ⟨2, ![64, 128]⟩
abbrev S1x128 : Shape := ⟨2, ![1, 128]⟩
abbrev S64x64 : Shape := ⟨2, ![64, 64]⟩
abbrev S128x64 : Shape := ⟨2, ![128, 64]⟩
abbrev S128 : Shape := ⟨1, ![128]⟩
abbrev S64x1 : Shape := ⟨2, ![64, 1]⟩
abbrev S1x1 : Shape := ⟨2, ![1, 1]⟩
abbrev S128x128 : Shape := ⟨2, ![128, 128]⟩
abbrev S64x256 : Shape := ⟨2, ![64, 256]⟩
abbrev S1x128x128 : Shape := ⟨3, ![1, 128, 128]⟩
abbrev S192x64 : Shape := ⟨2, ![192, 64]⟩
abbrev S192x128 : Shape := ⟨2, ![192, 128]⟩

abbrev nBuf : Space → Nat
  | .hbm => 30
  | .vmem => 13
  | .smem => 0
  | _ => 0

abbrev bufTy : (tb : Table) → Fin (tcTables nBuf tb) → BufTy
  | .hbm, ⟨0, _⟩ => ⟨S17408x6144, .bf16⟩
  | .hbm, ⟨1, _⟩ => ⟨S17408x128, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S1x32, .f32⟩
  | .hbm, ⟨6, _⟩ => ⟨S17408x64, .f32⟩
  | .hbm, ⟨7, _⟩ => ⟨S17408x4x1x16, .f32⟩
  | .hbm, ⟨8, _⟩ => ⟨S1x17408x4x16, .f32⟩
  | .hbm, ⟨9, _⟩ => ⟨S1x17408x64, .f32⟩
  | .hbm, ⟨10, _⟩ => ⟨S_, .i32⟩
  | .hbm, ⟨11, _⟩ => ⟨S_, .f32⟩
  | .hbm, ⟨12, _⟩ => ⟨S1x17408x128, .f32⟩
  | .hbm, ⟨13, _⟩ => ⟨S1x32, .f32⟩
  | .hbm, ⟨14, _⟩ => ⟨S1x64, .f32⟩
  | .hbm, ⟨15, _⟩ => ⟨S1x4x1x16, .f32⟩
  | .hbm, ⟨16, _⟩ => ⟨S1x1x4x16, .f32⟩
  | .hbm, ⟨17, _⟩ => ⟨S1x1x64, .f32⟩
  | .hbm, ⟨18, _⟩ => ⟨S_, .i32⟩
  | .hbm, ⟨19, _⟩ => ⟨S_, .f32⟩
  | .hbm, ⟨20, _⟩ => ⟨S1x1x128, .f32⟩
  | .hbm, ⟨21, _⟩ => ⟨S1x32, .f32⟩
  | .hbm, ⟨22, _⟩ => ⟨S1x64, .f32⟩
  | .hbm, ⟨23, _⟩ => ⟨S1x4x1x16, .f32⟩
  | .hbm, ⟨24, _⟩ => ⟨S1x1x4x16, .f32⟩
  | .hbm, ⟨25, _⟩ => ⟨S1x1x64, .f32⟩
  | .hbm, ⟨26, _⟩ => ⟨S_, .i32⟩
  | .hbm, ⟨27, _⟩ => ⟨S_, .f32⟩
  | .hbm, ⟨28, _⟩ => ⟨S1x1x128, .f32⟩
  | .hbm, ⟨29, _⟩ => ⟨S2x17408x2048, .bf16⟩
  | .local _ .vmem, ⟨0, _⟩ => ⟨S64x2048, .bf16⟩
  | .local _ .vmem, ⟨1, _⟩ => ⟨S64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x2048, .bf16⟩
  | .local _ .vmem, ⟨5, _⟩ => ⟨S64x2048, .bf16⟩
  | .local _ .vmem, ⟨6, _⟩ => ⟨S1x64x128, .f32⟩
  | .local _ .vmem, ⟨7, _⟩ => ⟨S1x64x128, .f32⟩
  | .local _ .vmem, ⟨8, _⟩ => ⟨S1x1x128, .f32⟩
  | .local _ .vmem, ⟨9, _⟩ => ⟨S1x1x128, .f32⟩
  | .local _ .vmem, ⟨10, _⟩ => ⟨S1x64x2048, .bf16⟩
  | .local _ .vmem, ⟨11, _⟩ => ⟨S1x64x2048, .bf16⟩
  | .local _ .vmem, ⟨12, _⟩ => ⟨S16x128x128, .f32⟩
  | _, _ => ⟨S17408x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨4, ![4, 2, 1, 68], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg1 c0_i32
  let c3_i32 : BitVec 32 := 3#32
  let v1 : BitVec 32 := Scalar.subi c3_i32 arg3
  let v2 : BitVec 32 := Scalar.select v0 arg3 v1
  let c0_i32_0 : BitVec 32 := 0#32
  let v3 : BitVec 1 := Scalar.cmpi .eq arg1 c0_i32_0
  let c4_i32 : BitVec 32 := 4#32
  let v4 : BitVec 32 := Scalar.subi arg3 c4_i32
  let c67_i32 : BitVec 32 := 67#32
  let v5 : BitVec 32 := Scalar.subi c67_i32 arg3
  let v6 : BitVec 32 := Scalar.select v3 v4 v5
  let c4_i32_1 : BitVec 32 := 4#32
  let v7 : BitVec 1 := Scalar.cmpi .slt arg3 c4_i32_1
  let c4_i32_2 : BitVec 32 := 4#32
  let v8 : BitVec 32 := Scalar.muli arg0 c4_i32_2
  let c256_i32 : BitVec 32 := 256#32
  let v9 : BitVec 32 := Scalar.addi c256_i32 v8
  let v10 : BitVec 32 := Scalar.addi v9 v2
  let c64_i32 : BitVec 32 := 64#32
  let v11 : BitVec 32 := Scalar.muli arg0 c64_i32
  let v12 : BitVec 32 := Scalar.addi v11 v6
  let v13 : BitVec 32 := Scalar.select v7 v10 v12
  let c0_i32_3 : BitVec 32 := 0#32
  ![v13.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg1 c0_i32
  let c3_i32 : BitVec 32 := 3#32
  let v1 : BitVec 32 := Scalar.subi c3_i32 arg3
  let v2 : BitVec 32 := Scalar.select v0 arg3 v1
  let c0_i32_0 : BitVec 32 := 0#32
  let v3 : BitVec 1 := Scalar.cmpi .eq arg1 c0_i32_0
  let c4_i32 : BitVec 32 := 4#32
  let v4 : BitVec 32 := Scalar.subi arg3 c4_i32
  let c67_i32 : BitVec 32 := 67#32
  let v5 : BitVec 32 := Scalar.subi c67_i32 arg3
  let v6 : BitVec 32 := Scalar.select v3 v4 v5
  let c4_i32_1 : BitVec 32 := 4#32
  let v7 : BitVec 1 := Scalar.cmpi .slt arg3 c4_i32_1
  let c4_i32_2 : BitVec 32 := 4#32
  let v8 : BitVec 32 := Scalar.muli arg0 c4_i32_2
  let c256_i32 : BitVec 32 := 256#32
  let v9 : BitVec 32 := Scalar.addi c256_i32 v8
  let v10 : BitVec 32 := Scalar.addi v9 v2
  let c64_i32 : BitVec 32 := 64#32
  let v11 : BitVec 32 := Scalar.muli arg0 c64_i32
  let v12 : BitVec 32 := Scalar.addi v11 v6
  let v13 : BitVec 32 := Scalar.select v7 v10 v12
  let c1_i32 : BitVec 32 := 1#32
  let v14 : BitVec 32 := Scalar.addi c1_i32 arg2
  let c0_i32_3 : BitVec 32 := 0#32
  ![v13.toNat, v14.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg1 c0_i32
  let c3_i32 : BitVec 32 := 3#32
  let v1 : BitVec 32 := Scalar.subi c3_i32 arg3
  let v2 : BitVec 32 := Scalar.select v0 arg3 v1
  let c0_i32_0 : BitVec 32 := 0#32
  let v3 : BitVec 1 := Scalar.cmpi .eq arg1 c0_i32_0
  let c4_i32 : BitVec 32 := 4#32
  let v4 : BitVec 32 := Scalar.subi arg3 c4_i32
  let c67_i32 : BitVec 32 := 67#32
  let v5 : BitVec 32 := Scalar.subi c67_i32 arg3
  let v6 : BitVec 32 := Scalar.select v3 v4 v5
  let c4_i32_1 : BitVec 32 := 4#32
  let v7 : BitVec 1 := Scalar.cmpi .slt arg3 c4_i32_1
  let c4_i32_2 : BitVec 32 := 4#32
  let v8 : BitVec 32 := Scalar.muli arg0 c4_i32_2
  let c256_i32 : BitVec 32 := 256#32
  let v9 : BitVec 32 := Scalar.addi c256_i32 v8
  let v10 : BitVec 32 := Scalar.addi v9 v2
  let c64_i32 : BitVec 32 := 64#32
  let v11 : BitVec 32 := Scalar.muli arg0 c64_i32
  let v12 : BitVec 32 := Scalar.addi v11 v6
  let v13 : BitVec 32 := Scalar.select v7 v10 v12
  let c2_i32 : BitVec 32 := 2#32
  let v14 : BitVec 32 := Scalar.addi c2_i32 arg2
  let c0_i32_3 : BitVec 32 := 0#32
  ![v13.toNat, v14.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg1 c0_i32
  let c3_i32 : BitVec 32 := 3#32
  let v1 : BitVec 32 := Scalar.subi c3_i32 arg3
  let v2 : BitVec 32 := Scalar.select v0 arg3 v1
  let c0_i32_0 : BitVec 32 := 0#32
  let v3 : BitVec 1 := Scalar.cmpi .eq arg1 c0_i32_0
  let c4_i32 : BitVec 32 := 4#32
  let v4 : BitVec 32 := Scalar.subi arg3 c4_i32
  let c67_i32 : BitVec 32 := 67#32
  let v5 : BitVec 32 := Scalar.subi c67_i32 arg3
  let v6 : BitVec 32 := Scalar.select v3 v4 v5
  let c4_i32_1 : BitVec 32 := 4#32
  let v7 : BitVec 1 := Scalar.cmpi .slt arg3 c4_i32_1
  let c4_i32_2 : BitVec 32 := 4#32
  let v8 : BitVec 32 := Scalar.muli arg0 c4_i32_2
  let c256_i32 : BitVec 32 := 256#32
  let v9 : BitVec 32 := Scalar.addi c256_i32 v8
  let v10 : BitVec 32 := Scalar.addi v9 v2
  let c64_i32 : BitVec 32 := 64#32
  let v11 : BitVec 32 := Scalar.muli arg0 c64_i32
  let v12 : BitVec 32 := Scalar.addi v11 v6
  let v13 : BitVec 32 := Scalar.select v7 v10 v12
  let c0_i32_3 : BitVec 32 := 0#32
  let c0_i32_4 : BitVec 32 := 0#32
  ![arg2.toNat, v13.toNat, c0_i32_3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 1 := Scalar.cmpi .eq arg1 c0_i32
  let c3_i32 : BitVec 32 := 3#32
  let v1 : BitVec 32 := Scalar.subi c3_i32 arg3
  let v2 : BitVec 32 := Scalar.select v0 arg3 v1
  let c0_i32_0 : BitVec 32 := 0#32
  let v3 : BitVec 1 := Scalar.cmpi .eq arg1 c0_i32_0
  let c4_i32 : BitVec 32 := 4#32
  let v4 : BitVec 32 := Scalar.subi arg3 c4_i32
  let c67_i32 : BitVec 32 := 67#32
  let v5 : BitVec 32 := Scalar.subi c67_i32 arg3
  let v6 : BitVec 32 := Scalar.select v3 v4 v5
  let c4_i32_1 : BitVec 32 := 4#32
  let v7 : BitVec 1 := Scalar.cmpi .slt arg3 c4_i32_1
  let c4_i32_2 : BitVec 32 := 4#32
  let v8 : BitVec 32 := Scalar.muli arg0 c4_i32_2
  let c256_i32 : BitVec 32 := 256#32
  let v9 : BitVec 32 := Scalar.addi c256_i32 v8
  let v10 : BitVec 32 := Scalar.addi v9 v2
  let c64_i32 : BitVec 32 := 64#32
  let v11 : BitVec 32 := Scalar.muli arg0 c64_i32
  let v12 : BitVec 32 := Scalar.addi v11 v6
  let v13 : BitVec 32 := Scalar.select v7 v10 v12
  let c0_i32_3 : BitVec 32 := 0#32
  ![arg1.toNat, v13.toNat, arg2.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true, false]

abbrev stage0_6 : Fin 2 → Memref sig .tc .vmem S1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== ReferenceIdeal.lean ====
abbrev S17408x6144 : Shape := ⟨2, ![17408, 6144]⟩
abbrev S17408x128 : Shape := ⟨2, ![17408, 128]⟩
abbrev S2x16 : Shape := ⟨2, ![2, 16]⟩
abbrev S17408x2048 : Shape := ⟨2, ![17408, 2048]⟩
abbrev S17408x16x128 : Shape := ⟨3, ![17408, 16, 128]⟩
abbrev S16384x16x128 : Shape := ⟨3, ![16384, 16, 128]⟩
abbrev S4x4096x16x128 : Shape := ⟨4, ![4, 4096, 16, 128]⟩
abbrev S1024x16x128 : Shape := ⟨3, ![1024, 16, 128]⟩
abbrev S4x256x16x128 : Shape := ⟨4, ![4, 256, 16, 128]⟩
abbrev S17408x64 : Shape := ⟨2, ![17408, 64]⟩
abbrev S17408x4x16 : Shape := ⟨3, ![17408, 4, 16]⟩
abbrev S17408x2x16 : Shape := ⟨3, ![17408, 2, 16]⟩
abbrev S_ : Shape := ⟨0, ![]⟩
abbrev S1x2x16 : Shape := ⟨3, ![1, 2, 16]⟩
abbrev S16384x2x16 : Shape := ⟨3, ![16384, 2, 16]⟩
abbrev S4x4096x2x16 : Shape := ⟨4, ![4, 4096, 2, 16]⟩
abbrev S1024x2x16 : Shape := ⟨3, ![1024, 2, 16]⟩
abbrev S4x256x2x16 : Shape := ⟨4, ![4, 256, 2, 16]⟩
abbrev S4x4352x16x128 : Shape := ⟨4, ![4, 4352, 16, 128]⟩
abbrev S8x4352x16x128 : Shape := ⟨4, ![8, 4352, 16, 128]⟩
abbrev S4x256x1x16 : Shape := ⟨4, ![4, 256, 1, 16]⟩
abbrev S4x256x16 : Shape := ⟨3, ![4, 256, 16]⟩
abbrev S4x4096x1x16 : Shape := ⟨4, ![4, 4096, 1, 16]⟩
abbrev S4x4096x16 : Shape := ⟨3, ![4, 4096, 16]⟩
abbrev S4x4352x16 : Shape := ⟨3, ![4, 4352, 16]⟩
abbrev S8x4352x16 : Shape := ⟨3, ![8, 4352, 16]⟩
abbrev S4352x8x16x128 : Shape := ⟨4, ![4352, 8, 16, 128]⟩
abbrev S4352x8x16 : Shape := ⟨3, ![4352, 8, 16]⟩
abbrev S8x16x128x128 : Shape := ⟨4, ![8, 16, 128, 128]⟩
abbrev S1x8x16x128 : Shape := ⟨4, ![1, 8, 16, 128]⟩
abbrev S8x16x128 : Shape := ⟨3, ![8, 16, 128]⟩
abbrev S1x8x16 : Shape := ⟨3, ![1, 8, 16]⟩
abbrev S8x16 : Shape := ⟨2, ![8, 16]⟩
abbrev S8x16x1x1 : Shape := ⟨4, ![8, 16, 1, 1]⟩
abbrev S8x16x1 : Shape := ⟨3, ![8, 16, 1]⟩
abbrev S8x16x128x1 : Shape := ⟨4, ![8, 16, 128, 1]⟩
abbrev S8x16x1x128 : Shape := ⟨4, ![8, 16, 1, 128]⟩
abbrev S16384x2048 : Shape := ⟨2, ![16384, 2048]⟩
abbrev S1024x2048 : Shape := ⟨2, ![1024, 2048]⟩
abbrev S1x17408x2048 : Shape := ⟨3, ![1, 17408, 2048]⟩
abbrev S2x17408x2048 : Shape := ⟨3, ![2, 17408, 2048]⟩

abbrev nBuf : Space → Nat
  | .hbm => 191
  | .vmem => 0
  | .smem => 0
  | _ => 0

abbrev hbmTy0_0 (i : Nat) : BufTy := match i % 128 with
  | 0 => ⟨S17408x6144, .bf16⟩
  | 1 => ⟨S17408x128, .f32⟩
  | 2 => ⟨S2x16, .f32⟩
  | 3 => ⟨S2x16, .f32⟩
  | 4 => ⟨S17408x6144, .f32⟩
  | 5 => ⟨S17408x2048, .f32⟩
  | 6 => ⟨S17408x2048, .f32⟩
  | 7 => ⟨S17408x2048, .f32⟩
  | 8 => ⟨S17408x16x128, .f32⟩
  | 9 => ⟨S16384x16x128, .f32⟩
  | 10 => ⟨S4x4096x16x128, .f32⟩
  | 11 => ⟨S1024x16x128, .f32⟩
  | 12 => ⟨S4x256x16x128, .f32⟩
  | 13 => ⟨S17408x16x128, .f32⟩
  | 14 => ⟨S16384x16x128, .f32⟩
  | 15 => ⟨S4x4096x16x128, .f32⟩
  | 16 => ⟨S1024x16x128, .f32⟩
  | 17 => ⟨S4x256x16x128, .f32⟩
  | 18 => ⟨S17408x16x128, .f32⟩
  | 19 => ⟨S16384x16x128, .f32⟩
  | 20 => ⟨S4x4096x16x128, .f32⟩
  | 21 => ⟨S1024x16x128, .f32⟩
  | 22 => ⟨S4x256x16x128, .f32⟩
  | 23 => ⟨S17408x64, .f32⟩
  | 24 => ⟨S17408x4x16, .f32⟩
  | 25 => ⟨S17408x2x16, .f32⟩
  | 26 => ⟨S17408x2x16, .f32⟩
  | 27 => ⟨S17408x2x16, .f32⟩
  | 28 => ⟨S_, .f32⟩
  | 29 => ⟨S17408x2x16, .f32⟩
  | 30 => ⟨S17408x2x16, .f32⟩
  | 31 => ⟨S_, .f32⟩
  | 32 => ⟨S17408x2x16, .f32⟩
  | 33 => ⟨S17408x2x16, .f32⟩
  | 34 => ⟨S2x16, .f32⟩
  | 35 => ⟨S2x16, .f32⟩
  | 36 => ⟨S17408x2x16, .f32⟩
  | 37 => ⟨S1x2x16, .f32⟩
  | 38 => ⟨S17408x2x16, .f32⟩
  | 39 => ⟨S17408x2x16, .f32⟩
  | 40 => ⟨S_, .f32⟩
  | 41 => ⟨S17408x2x16, .f32⟩
  | 42 => ⟨S17408x2x16, .f32⟩
  | 43 => ⟨S17408x2x16, .f32⟩
  | 44 => ⟨S17408x2x16, .f32⟩
  | 45 => ⟨S17408x2x16, .i1⟩
  | 46 => ⟨S17408x2x16, .f32⟩
  | 47 => ⟨S17408x2x16, .f32⟩
  | 48 => ⟨S17408x2x16, .f32⟩
  | 49 => ⟨S17408x2x16, .f32⟩
  | 50 => ⟨S17408x2x16, .f32⟩
  | 51 => ⟨S17408x2x16, .f32⟩
  | 52 => ⟨S17408x2x16, .f32⟩
  | 53 => ⟨S17408x2x16, .f32⟩
  | 54 => ⟨S1x2x16, .f32⟩
  | 55 => ⟨S17408x2x16, .f32⟩
  | 56 => ⟨S17408x2x16, .f32⟩
  | 57 => ⟨S16384x2x16, .f32⟩
  | 58 => ⟨S4x4096x2x16, .f32⟩
  | 59 => ⟨S1024x2x16, .f32⟩
  | 60 => ⟨S4x256x2x16, .f32⟩
  | 61 => ⟨S16384x2x16, .f32⟩
  | 62 => ⟨S4x4096x2x16, .f32⟩
  | 63 => ⟨S1024x2x16, .f32⟩
  | 64 => ⟨S4x256x2x16, .f32⟩
  | 65 => ⟨S4x4352x16x128, .f32⟩
  | 66 => ⟨S4x256x16x128, .f32⟩
  | 67 => ⟨S4x4096x16x128, .f32⟩
  | 68 => ⟨S4x4352x16x128, .f32⟩
  | 69 => ⟨S8x4352x16x128, .f32⟩
  | 70 => ⟨S4x4352x16x128, .f32⟩
  | 71 => ⟨S4x256x16x128, .f32⟩
  | 72 => ⟨S4x4096x16x128, .f32⟩
  | 73 => ⟨S4x4352x16x128, .f32⟩
  | 74 => ⟨S8x4352x16x128, .f32⟩
  | 75 => ⟨S4x4352x16x128, .f32⟩
  | 76 => ⟨S4x256x16x128, .f32⟩
  | 77 => ⟨S4x4096x16x128, .f32⟩
  | 78 => ⟨S4x4352x16x128, .f32⟩
  | 79 => ⟨S8x4352x16x128, .f32⟩
  | 80 => ⟨S4x256x1x16, .f32⟩
  | 81 => ⟨S4x256x16, .f32⟩
  | 82 => ⟨S4x4096x1x16, .f32⟩
  | 83 => ⟨S4x4096x16, .f32⟩
  | 84 => ⟨S4x256x1x16, .f32⟩
  | 85 => ⟨S4x256x16, .f32⟩
  | 86 => ⟨S4x4096x1x16, .f32⟩
  | 87 => ⟨S4x4096x16, .f32⟩
  | 88 => ⟨S4x4352x16, .f32⟩
  | 89 => ⟨S4x256x16, .f32⟩
  | 90 => ⟨S4x4096x16, .f32⟩
  | 91 => ⟨S4x4352x16, .f32⟩
  | 92 => ⟨S8x4352x16, .f32⟩
  | 93 => ⟨S4x256x1x16, .f32⟩
  | 94 => ⟨S4x256x16, .f32⟩
  | 95 => ⟨S4x4096x1x16, .f32⟩
  | 96 => ⟨S4x4096x16, .f32⟩
  | 97 => ⟨S4x256x1x16, .f32⟩
  | 98 => ⟨S4x256x16, .f32⟩
  | 99 => ⟨S4x4096x1x16, .f32⟩
  | 100 => ⟨S4x4096x16, .f32⟩
  | 101 => ⟨S4x4352x16, .f32⟩
  | 102 => ⟨S4x256x16, .f32⟩
  | 103 => ⟨S4x4096x16, .f32⟩
  | 104 => ⟨S4x4352x16, .f32⟩
  | 105 => ⟨S8x4352x16, .f32⟩
  | 106 => ⟨S4352x8x16x128, .f32⟩
  | 107 => ⟨S4352x8x16x128, .f32⟩
  | 108 => ⟨S4352x8x16x128, .f32⟩
  | 109 => ⟨S4352x8x16, .f32⟩
  | 110 => ⟨S4352x8x16, .f32⟩
  | 111 => ⟨S_, .f32⟩
  | 112 => ⟨S8x16x128x128, .f32⟩
  | 113 => ⟨S_, .f32⟩
  | 114 => ⟨S4352x8x16x128, .f32⟩
  | 115 => ⟨S_, .i32⟩
  | 116 => ⟨S4352x8x16x128, .f32⟩
  | 117 => ⟨S4352x8x16x128, .f32⟩
  | 118 => ⟨S4352x8x16x128, .f32⟩
  | 119 => ⟨S4352x8x16, .f32⟩
  | 120 => ⟨S4352x8x16, .f32⟩
  | 121 => ⟨S_, .i32⟩
  | 122 => ⟨S8x16x128x128, .f32⟩
  | 123 => ⟨S4352x8x16x128, .f32⟩
  | 124 => ⟨S_, .i32⟩
  | 125 => ⟨S_, .i1⟩
  | 126 => ⟨S_, .i32⟩
  | 127 => ⟨S_, .i32⟩
  | _ => ⟨S17408x6144, .bf16⟩

abbrev hbmTy0_1 (i : Nat) : BufTy := match i % 128 with
  | 0 => ⟨S_, .i32⟩
  | 1 => ⟨S1x8x16x128, .f32⟩
  | 2 => ⟨S8x16x128, .f32⟩
  | 3 => ⟨S_, .i32⟩
  | 4 => ⟨S_, .i32⟩
  | 5 => ⟨S_, .i32⟩
  | 6 => ⟨S1x8x16x128, .f32⟩
  | 7 => ⟨S8x16x128, .f32⟩
  | 8 => ⟨S_, .i32⟩
  | 9 => ⟨S_, .i32⟩
  | 10 => ⟨S_, .i32⟩
  | 11 => ⟨S1x8x16x128, .f32⟩
  | 12 => ⟨S8x16x128, .f32⟩
  | 13 => ⟨S_, .i32⟩
  | 14 => ⟨S_, .i32⟩
  | 15 => ⟨S1x8x16, .f32⟩
  | 16 => ⟨S8x16, .f32⟩
  | 17 => ⟨S_, .i32⟩
  | 18 => ⟨S_, .i32⟩
  | 19 => ⟨S1x8x16, .f32⟩
  | 20 => ⟨S8x16, .f32⟩
  | 21 => ⟨S8x16, .f32⟩
  | 22 => ⟨S8x16x1x1, .f32⟩
  | 23 => ⟨S8x16x128x128, .f32⟩
  | 24 => ⟨S8x16x128x128, .f32⟩
  | 25 => ⟨S8x16x1, .f32⟩
  | 26 => ⟨S8x16x128, .f32⟩
  | 27 => ⟨S8x16x128, .f32⟩
  | 28 => ⟨S8x16x128, .f32⟩
  | 29 => ⟨S8x16x128, .f32⟩
  | 30 => ⟨S8x16x128x1, .f32⟩
  | 31 => ⟨S8x16x1x128, .f32⟩
  | 32 => ⟨S8x16x128x128, .f32⟩
  | 33 => ⟨S8x16x128x128, .f32⟩
  | 34 => ⟨S8x16x128x128, .f32⟩
  | 35 => ⟨S8x16x128x128, .f32⟩
  | 36 => ⟨S8x16x128, .f32⟩
  | 37 => ⟨S1x8x16x128, .f32⟩
  | 38 => ⟨S_, .i32⟩
  | 39 => ⟨S_, .i32⟩
  | 40 => ⟨S_, .i32⟩
  | 41 => ⟨S4352x8x16x128, .f32⟩
  | 42 => ⟨S_, .i32⟩
  | 43 => ⟨S_, .i32⟩
  | 44 => ⟨S8x4352x16x128, .f32⟩
  | 45 => ⟨S4x4352x16x128, .f32⟩
  | 46 => ⟨S4x4352x16x128, .f32⟩
  | 47 => ⟨S4x4096x16x128, .f32⟩
  | 48 => ⟨S4x256x16x128, .f32⟩
  | 49 => ⟨S16384x2048, .f32⟩
  | 50 => ⟨S1024x2048, .f32⟩
  | 51 => ⟨S17408x2048, .f32⟩
  | 52 => ⟨S4x4096x16x128, .f32⟩
  | 53 => ⟨S4x4096x16x128, .f32⟩
  | 54 => ⟨S4x256x16x128, .f32⟩
  | 55 => ⟨S4x256x16x128, .f32⟩
  | 56 => ⟨S16384x2048, .f32⟩
  | 57 => ⟨S1024x2048, .f32⟩
  | 58 => ⟨S17408x2048, .f32⟩
  | 59 => ⟨S1x17408x2048, .f32⟩
  | 60 => ⟨S1x17408x2048, .f32⟩
  | 61 => ⟨S2x17408x2048, .f32⟩
  | 62 => ⟨S2x17408x2048, .bf16⟩
  | _ => ⟨S17408x6144, .bf16⟩

abbrev hbmTy (i : Nat) : BufTy := match i / 128 with
  | 0 => hbmTy0_0 i
  | 1 => hbmTy0_1 i
  | _ => ⟨S17408x6144, .bf16⟩

abbrev bufTy : (tb : Table) → Fin (tcTables nBuf tb) → BufTy
  | .hbm, ⟨i, _⟩ => hbmTy i
  | _, _ => ⟨S17408x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_1 : Ref sig .tc := ⟨.hbm, 111, rfl⟩
abbrev main_v92 : Ref sig .tc := ⟨.hbm, 112, rfl⟩
abbrev main_cst_2 : Ref sig .tc := ⟨.hbm, 113, rfl⟩
abbrev main_v93 : Ref sig .tc := ⟨.hbm, 114, rfl⟩
abbrev main_c : Ref sig .tc := ⟨.hbm, 115, rfl⟩
abbrev main_v94_0 : Ref sig .tc := ⟨.hbm, 116, rfl⟩
abbrev main_v94_1 : Ref sig .tc := ⟨.hbm, 117, rfl⟩
abbrev main_v94_2 : Ref sig .tc := ⟨.hbm, 118, rfl⟩
abbrev main_v94_3 : Ref sig .tc := ⟨.hbm, 119, rfl⟩
abbrev main_v94_4 : Ref sig .tc := ⟨.hbm, 120, rfl⟩
abbrev main_v94_5 : Ref sig .tc := ⟨.hbm, 121, rfl⟩
abbrev main_v94_6 : Ref sig .tc := ⟨.hbm, 122, rfl⟩
abbrev main_v94_7 : Ref sig .tc := ⟨.hbm, 123, rfl⟩
abbrev main_while0c_c_10 : Ref sig .tc := ⟨.hbm, 124, rfl⟩
abbrev main_while0c_v114 : Ref sig .tc := ⟨.hbm, 125, rfl⟩
abbrev main_while0b_call11_c : Ref sig .tc := ⟨.hbm, 126, rfl⟩
abbrev main_while0b_call11_c_0 : Ref sig .tc := ⟨.hbm, 127, rfl⟩
abbrev main_while0b_call11_c_1 : Ref sig .tc := ⟨.hbm, 128, rfl⟩
abbrev main_while0b_call11_v0 : Ref sig .tc := ⟨.hbm, 129, rfl⟩
abbrev main_while0b_v114 : Ref sig .tc := ⟨.hbm, 130, rfl⟩
abbrev main_while0b_call12_c : Ref sig .tc := ⟨.hbm, 131, rfl⟩
abbrev main_while0b_call12_c_0 : Ref sig .tc := ⟨.hbm, 132, rfl⟩
abbrev main_while0b_call12_c_1 : Ref sig .tc := ⟨.hbm, 133, rfl⟩
abbrev main_while0b_call12_v0 : Ref sig .tc := ⟨.hbm, 134, rfl⟩
abbrev main_while0b_v115 : Ref sig .tc := ⟨.hbm, 135, rfl⟩
abbrev main_while0b_call13_c : Ref sig .tc := ⟨.hbm, 136, rfl⟩
abbrev main_while0b_call13_c_0 : Ref sig .tc := ⟨.hbm, 137, rfl⟩
abbrev main_while0b_call13_c_1 : Ref sig .tc := ⟨.hbm, 138, rfl⟩
abbrev main_while0b_call13_v0 : Ref sig .tc := ⟨.hbm, 139, rfl⟩
abbrev main_while0b_v116 : Ref sig .tc := ⟨.hbm, 140, rfl⟩
abbrev main_while0b_call14_c : Ref sig .tc := ⟨.hbm, 141, rfl⟩
abbrev main_while0b_call14_c_0 : Ref sig .tc := ⟨.hbm, 142, rfl⟩
abbrev main_while0b_call14_v0 : Ref sig .tc := ⟨.hbm, 143, rfl⟩
abbrev main_while0b_v117 : Ref sig .tc := ⟨.hbm, 144, rfl⟩
abbrev main_while0b_call15_c : Ref sig .tc := ⟨.hbm, 145, rfl⟩
abbrev main_while0b_call15_c_0 : Ref sig .tc := ⟨.hbm, 146, rfl⟩
abbrev main_while0b_call15_v0 : Ref sig .tc := ⟨.hbm, 147, rfl⟩
abbrev main_while0b_v118 : Ref sig .tc := ⟨.hbm, 148, rfl⟩
abbrev main_while0b_v119 : Ref sig .tc := ⟨.hbm, 149, rfl⟩
abbrev main_while0b_v120 : Ref sig .tc := ⟨.hbm, 150, rfl⟩
abbrev main_while0b_v121 : Ref sig .tc := ⟨.hbm, 151, rfl⟩
abbrev main_while0b_v122 : Ref sig .tc := ⟨.hbm, 152, rfl⟩
abbrev main_while0b_v123 : Ref sig .tc := ⟨.hbm, 153, rfl⟩
abbrev main_while0b_v124 : Ref sig .tc := ⟨.hbm, 154, rfl⟩
abbrev main_while0b_v125 : Ref sig .tc := ⟨.hbm, 155, rfl⟩
abbrev main_while0b_v126 : Ref sig .tc := ⟨.hbm, 156, rfl⟩
abbrev main_while0b_v127 : Ref sig .tc := ⟨.hbm, 157, rfl⟩
abbrev main_while0b_v128 : Ref sig .tc := ⟨.hbm, 158, rfl⟩
abbrev main_while0b_v129 : Ref sig .tc := ⟨.hbm, 159, rfl⟩
abbrev main_while0b_v130 : Ref sig .tc := ⟨.hbm, 160, rfl⟩
abbrev main_while0b_v131 : Ref sig .tc := ⟨.hbm, 161, rfl⟩
abbrev main_while0b_v132 : Ref sig .tc := ⟨.hbm, 162, rfl⟩
abbrev main_while0b_v133 : Ref sig .tc := ⟨.hbm, 163, rfl⟩
abbrev main_while0b_v134 : Ref sig .tc := ⟨.hbm, 164, rfl⟩
abbrev main_while0b_call16_v0 : Ref sig .tc := ⟨.hbm, 165, rfl⟩
abbrev main_while0b_call16_c : Ref sig .tc := ⟨.hbm, 166, rfl⟩
abbrev main_while0b_call16_c_0 : Ref sig .tc := ⟨.hbm, 167, rfl⟩
abbrev main_while0b_call16_c_1 : Ref sig .tc := ⟨.hbm, 168, rfl⟩
abbrev main_while0b_v135 : Ref sig .tc := ⟨.hbm, 169, rfl⟩
abbrev main_while0b_c_10 : Ref sig .tc := ⟨.hbm, 170, rfl⟩
abbrev main_while0b_v136 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩

abbrev nD : Nat := 1
abbrev τ : Topo := Topo.v7x

variable {F : FTy → Type} [FloatOps F]

abbrev main_while0_count : Scf.Loop 32 := ⟨0#32, 4352#32, 1#32⟩
-- ==== Kernel2.lean ====
abbrev S17408x2048 : Shape := ⟨2, ![17408, 2048]⟩
abbrev S8x12288 : Shape := ⟨2, ![8, 12288]⟩
abbrev S2048 : Shape := ⟨1, ![2048]⟩
abbrev S2048x13376 : Shape := ⟨2, ![2048, 13376]⟩
abbrev S8x1x12288 : Shape := ⟨3, ![8, 1, 12288]⟩
abbrev S2048x6144 : Shape := ⟨2, ![2048, 6144]⟩
abbrev S2048x2048 : Shape := ⟨2, ![2048, 2048]⟩
abbrev S2048x4096 : Shape := ⟨2, ![2048, 4096]⟩
abbrev S2048x1024 : Shape := ⟨2, ![2048, 1024]⟩
abbrev S2048x13312 : Shape := ⟨2, ![2048, 13312]⟩
abbrev S2048x64 : Shape := ⟨2, ![2048, 64]⟩
abbrev S_ : Shape := ⟨0, ![]⟩
abbrev S2048x128 : Shape := ⟨2, ![2048, 128]⟩
abbrev S1x2048 : Shape := ⟨2, ![1, 2048]⟩
abbrev S17408x13312 : Shape := ⟨2, ![17408, 13312]⟩
abbrev S17408x128 : Shape := ⟨2, ![17408, 128]⟩
abbrev S1024x2048 : Shape := ⟨2, ![1024, 2048]⟩
abbrev S1x1x2048 : Shape := ⟨3, ![1, 1, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 19
  | .vmem => 15
  | .smem => 0
  | _ => 0

abbrev bufTy : (tb : Table) → Fin (tcTables nBuf tb) → BufTy
  | .hbm, ⟨0, _⟩ => ⟨S17408x2048, .f32⟩
  | .hbm, ⟨1, _⟩ => ⟨S8x12288, .f32⟩
  | .hbm, ⟨2, _⟩ => ⟨S2048, .f32⟩
  | .hbm, ⟨3, _⟩ => ⟨S2048x13376, .f32⟩
  | .hbm, ⟨4, _⟩ => ⟨S8x1x12288, .f32⟩
  | .hbm, ⟨5, _⟩ => ⟨S2048x6144, .f32⟩
  | .hbm, ⟨6, _⟩ => ⟨S2048x2048, .f32⟩
  | .hbm, ⟨7, _⟩ => ⟨S2048x4096, .f32⟩
  | .hbm, ⟨8, _⟩ => ⟨S2048x1024, .f32⟩
  | .hbm, ⟨9, _⟩ => ⟨S2048x13312, .f32⟩
  | .hbm, ⟨10, _⟩ => ⟨S2048x13312, .bf16⟩
  | .hbm, ⟨11, _⟩ => ⟨S2048x64, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S1x2048, .f32⟩
  | .hbm, ⟨17, _⟩ => ⟨S17408x13312, .bf16⟩
  | .hbm, ⟨18, _⟩ => ⟨S17408x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![17, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c1_i32_6 : BitVec 32 := 1#32
  let c0_i32_7 : BitVec 32 := 0#32
  ![v18.toNat, c0_i32_5.toNat, c1_i32_6.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S17408x2048 : Shape := ⟨2, ![17408, 2048]⟩
abbrev S8x12288 : Shape := ⟨2, ![8, 12288]⟩
abbrev S2048 : Shape := ⟨1, ![2048]⟩
abbrev S2048x13376 : Shape := ⟨2, ![2048, 13376]⟩
abbrev S8x2048 : Shape := ⟨2, ![8, 2048]⟩
abbrev S16384x2048 : Shape := ⟨2, ![16384, 2048]⟩
abbrev S4x4096x2048 : Shape := ⟨3, ![4, 4096, 2048]⟩
abbrev S1024x2048 : Shape := ⟨2, ![1024, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x2048 : Shape := ⟨2, ![4, 2048]⟩
abbrev S4x1x2048 : Shape := ⟨3, ![4, 1, 2048]⟩
abbrev S1024 : Shape := ⟨1, ![1024]⟩
abbrev S1024x1 : Shape := ⟨2, ![1024, 1]⟩
abbrev S1x2048 : Shape := ⟨2, ![1, 2048]⟩
abbrev S17408x13376 : Shape := ⟨2, ![17408, 13376]⟩
abbrev S17408x6144 : Shape := ⟨2, ![17408, 6144]⟩
abbrev S17408x64 : Shape := ⟨2, ![17408, 64]⟩
abbrev S17408x1024 : Shape := ⟨2, ![17408, 1024]⟩
abbrev S17408x4096 : Shape := ⟨2, ![17408, 4096]⟩
abbrev S17408x13312 : Shape := ⟨2, ![17408, 13312]⟩
abbrev S17408x128 : Shape := ⟨2, ![17408, 128]⟩

abbrev nBuf : Space → Nat
  | .hbm => 78
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S8x12288, .f32⟩
  | .hbm, ⟨2, _⟩ => ⟨S2048, .f32⟩
  | .hbm, ⟨3, _⟩ => ⟨S2048x13376, .f32⟩
  | .hbm, ⟨4, _⟩ => ⟨S8x2048, .f32⟩
  | .hbm, ⟨5, _⟩ => ⟨S8x2048, .f32⟩
  | .hbm, ⟨6, _⟩ => ⟨S16384x2048, .f32⟩
  | .hbm, ⟨7, _⟩ => ⟨S4x4096x2048, .f32⟩
  | .hbm, ⟨8, _⟩ => ⟨S1024x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S1024x2048, .f32⟩
  | .hbm, ⟨37, _⟩ => ⟨S_, .f32⟩
  | .hbm, ⟨38, _⟩ => ⟨S1024, .f32⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S_, .f32⟩
  | .hbm, ⟨44, _⟩ => ⟨S1024x1, .f32⟩
  | .hbm, ⟨45, _⟩ => ⟨S1024x1, .f32⟩
  | .hbm, ⟨46, _⟩ => ⟨S1024x1, .f32⟩
  | .hbm, ⟨47, _⟩ => ⟨S1024x2048, .f32⟩
  | .hbm, ⟨48, _⟩ => ⟨S1024x2048, .f32⟩
  | .hbm, ⟨49, _⟩ => ⟨S1x2048, .f32⟩
  | .hbm, ⟨50, _⟩ => ⟨S1024x2048, .f32⟩
  | .hbm, ⟨51, _⟩ => ⟨S1024x2048, .f32⟩
  | .hbm, ⟨52, _⟩ => ⟨S1x2048, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S1x2048, .f32⟩
  | .hbm, ⟨58, _⟩ => ⟨S1024x2048, .f32⟩
  | .hbm, ⟨59, _⟩ => ⟨S1024x2048, .f32⟩
  | .hbm, ⟨60, _⟩ => ⟨S1x2048, .f32⟩
  | .hbm, ⟨61, _⟩ => ⟨S2048, .f32⟩
  | .hbm, ⟨62, _⟩ => ⟨S1x2048, .f32⟩
  | .hbm, ⟨63, _⟩ => ⟨S1024x2048, .f32⟩
  | .hbm, ⟨64, _⟩ => ⟨S1024x2048, .f32⟩
  | .hbm, ⟨65, _⟩ => ⟨S16384x2048, .f32⟩
  | .hbm, ⟨66, _⟩ => ⟨S17408x2048, .f32⟩
  | .hbm, ⟨67, _⟩ => ⟨S17408x13376, .f32⟩
  | .hbm, ⟨68, _⟩ => ⟨S17408x6144, .f32⟩
  | .hbm, ⟨69, _⟩ => ⟨S17408x64, .f32⟩
  | .hbm, ⟨70, _⟩ => ⟨S17408x2048, .f32⟩
  | .hbm, ⟨71, _⟩ => ⟨S17408x1024, .f32⟩
  | .hbm, ⟨72, _⟩ => ⟨S17408x4096, .f32⟩
  | .hbm, ⟨73, _⟩ => ⟨S17408x13312, .f32⟩
  | .hbm, ⟨74, _⟩ => ⟨S17408x13312, .bf16⟩
  | .hbm, ⟨75, _⟩ => ⟨S_, .i32⟩
  | .hbm, ⟨76, _⟩ => ⟨S_, .f32⟩
  | .hbm, ⟨77, _⟩ => ⟨S17408x128, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_c : Ref sig .tc := ⟨.hbm, 75, rfl⟩
abbrev main_call0_v0 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Kernel3.lean ====
abbrev S2x17408x2048 : Shape := ⟨3, ![2, 17408, 2048]⟩
abbrev S17408x13312 : Shape := ⟨2, ![17408, 13312]⟩
abbrev S16384x1024 : Shape := ⟨2, ![16384, 1024]⟩
abbrev S1024x1024 : Shape := ⟨2, ![1024, 1024]⟩
abbrev S128 : Shape := ⟨1, ![128]⟩
abbrev S2x4x256x256 : Shape := ⟨4, ![2, 4, 256, 256]⟩
abbrev S1024 : Shape := ⟨1, ![1024]⟩
abbrev S2x2048x2048 : Shape := ⟨3, ![2, 2048, 2048]⟩
abbrev S2x1024x2048 : Shape := ⟨3, ![2, 1024, 2048]⟩
abbrev S1x128 : Shape := ⟨2, ![1, 128]⟩
abbrev S1x1024 : Shape := ⟨2, ![1, 1024]⟩
abbrev S17408x2048 : Shape := ⟨2, ![17408, 2048]⟩
abbrev S2x256x2048 : Shape := ⟨3, ![2, 256, 2048]⟩
abbrev S256x2048 : Shape := ⟨2, ![256, 2048]⟩
abbrev S256x1024 : Shape := ⟨2, ![256, 1024]⟩
abbrev S1x4x256x256 : Shape := ⟨4, ![1, 4, 256, 256]⟩
abbrev S1x2048x2048 : Shape := ⟨3, ![1, 2048, 2048]⟩
abbrev S1x1024x2048 : Shape := ⟨3, ![1, 1024, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S2048x2048 : Shape := ⟨2, ![2048, 2048]⟩
abbrev S256x256 : Shape := ⟨2, ![256, 256]⟩
abbrev S1x1x256x256 : Shape := ⟨4, ![1, 1, 256, 256]⟩
abbrev S1x256 : Shape := ⟨2, ![1, 256]⟩
abbrev S1024x2048 : Shape := ⟨2, ![1024, 2048]⟩

abbrev nBuf : Space → Nat
  | .hbm => 12
  | .vmem => 21
  | .smem => 0
  | _ => 0

abbrev bufTy : (tb : Table) → Fin (tcTables nBuf tb) → BufTy
  | .hbm, ⟨0, _⟩ => ⟨S2x17408x2048, .bf16⟩
  | .hbm, ⟨1, _⟩ => ⟨S17408x13312, .bf16⟩
  | .hbm, ⟨2, _⟩ => ⟨S16384x1024, .bf16⟩
  | .hbm, ⟨3, _⟩ => ⟨S1024x1024, .bf16⟩
  | .hbm, ⟨4, _⟩ => ⟨S128, .f32⟩
  | .hbm, ⟨5, _⟩ => ⟨S2x4x256x256, .f32⟩
  | .hbm, ⟨6, _⟩ => ⟨S1024, .f32⟩
  | .hbm, ⟨7, _⟩ => ⟨S2x2048x2048, .f32⟩
  | .hbm, ⟨8, _⟩ => ⟨S2x1024x2048, .f32⟩
  | .hbm, ⟨9, _⟩ => ⟨S1x128, .f32⟩
  | .hbm, ⟨10, _⟩ => ⟨S1x1024, .f32⟩
  | .hbm, ⟨11, _⟩ => ⟨S17408x2048, .bf16⟩
  | .local _ .vmem, ⟨0, _⟩ => ⟨S2x256x2048, .bf16⟩
  | .local _ .vmem, ⟨1, _⟩ => ⟨S2x256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x128, .f32⟩
  | .local _ .vmem, ⟨13, _⟩ => ⟨S1x4x256x256, .f32⟩
  | .local _ .vmem, ⟨14, _⟩ => ⟨S1x1024, .f32⟩
  | .local _ .vmem, ⟨15, _⟩ => ⟨S1x2048x2048, .f32⟩
  | .local _ .vmem, ⟨16, _⟩ => ⟨S1x1024x2048, .f32⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x1024, .bf16⟩
  | _, _ => ⟨S2x17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![68], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S2x17408x2048 : Shape := ⟨3, ![2, 17408, 2048]⟩
abbrev S17408x13312 : Shape := ⟨2, ![17408, 13312]⟩
abbrev S16384x1024 : Shape := ⟨2, ![16384, 1024]⟩
abbrev S1024x1024 : Shape := ⟨2, ![1024, 1024]⟩
abbrev S128 : Shape := ⟨1, ![128]⟩
abbrev S2x4x256x256 : Shape := ⟨4, ![2, 4, 256, 256]⟩
abbrev S1024 : Shape := ⟨1, ![1024]⟩
abbrev S2x2048x2048 : Shape := ⟨3, ![2, 2048, 2048]⟩
abbrev S2x1024x2048 : Shape := ⟨3, ![2, 1024, 2048]⟩
abbrev S1x17408x2048 : Shape := ⟨3, ![1, 17408, 2048]⟩
abbrev S17408x2048 : Shape := ⟨2, ![17408, 2048]⟩
abbrev S17408x16x128 : Shape := ⟨3, ![17408, 16, 128]⟩
abbrev S_ : Shape := ⟨0, ![]⟩
abbrev S17408x16 : Shape := ⟨2, ![17408, 16]⟩
abbrev S17408x16x1 : Shape := ⟨3, ![17408, 16, 1]⟩
abbrev S1x1x128 : Shape := ⟨3, ![1, 1, 128]⟩
abbrev S1x2048x2048 : Shape := ⟨3, ![1, 2048, 2048]⟩
abbrev S2048x2048 : Shape := ⟨2, ![2048, 2048]⟩
abbrev S17408x1024 : Shape := ⟨2, ![17408, 1024]⟩
abbrev S17408x4x256 : Shape := ⟨3, ![17408, 4, 256]⟩
abbrev S1x4x256x256 : Shape := ⟨4, ![1, 4, 256, 256]⟩
abbrev S4x256x256 : Shape := ⟨3, ![4, 256, 256]⟩
abbrev S4x256x17408 : Shape := ⟨3, ![4, 256, 17408]⟩
abbrev S1x1024 : Shape := ⟨2, ![1, 1024]⟩
abbrev S1x1024x2048 : Shape := ⟨3, ![1, 1024, 2048]⟩
abbrev S1024x2048 : Shape := ⟨2, ![1024, 2048]⟩
abbrev S17408x4096 : Shape := ⟨2, ![17408, 4096]⟩

abbrev nBuf : Space → Nat
  | .hbm => 79
  | .vmem => 0
  | .smem => 0
  | _ => 0

abbrev bufTy : (tb : Table) → Fin (tcTables nBuf tb) → BufTy
  | .hbm, ⟨0, _⟩ => ⟨S2x17408x2048, .bf16⟩
  | .hbm, ⟨1, _⟩ => ⟨S17408x13312, .bf16⟩
  | .hbm, ⟨2, _⟩ => ⟨S16384x1024, .bf16⟩
  | .hbm, ⟨3, _⟩ => ⟨S1024x1024, .bf16⟩
  | .hbm, ⟨4, _⟩ => ⟨S128, .f32⟩
  | .hbm, ⟨5, _⟩ => ⟨S2x4x256x256, .f32⟩
  | .hbm, ⟨6, _⟩ => ⟨S1024, .f32⟩
  | .hbm, ⟨7, _⟩ => ⟨S2x2048x2048, .f32⟩
  | .hbm, ⟨8, _⟩ => ⟨S2x1024x2048, .f32⟩
  | .hbm, ⟨9, _⟩ => ⟨S17408x13312, .f32⟩
  | .hbm, ⟨10, _⟩ => ⟨S1x17408x2048, .bf16⟩
  | .hbm, ⟨11, _⟩ => ⟨S17408x2048, .bf16⟩
  | .hbm, ⟨12, _⟩ => ⟨S17408x2048, .f32⟩
  | .hbm, ⟨13, _⟩ => ⟨S1x17408x2048, .bf16⟩
  | .hbm, ⟨14, _⟩ => ⟨S17408x2048, .bf16⟩
  | .hbm, ⟨15, _⟩ => ⟨S17408x2048, .f32⟩
  | .hbm, ⟨16, _⟩ => ⟨S17408x2048, .f32⟩
  | .hbm, ⟨17, _⟩ => ⟨S17408x16x128, .f32⟩
  | .hbm, ⟨18, _⟩ => ⟨S17408x2048, .f32⟩
  | .hbm, ⟨19, _⟩ => ⟨S17408x16x128, .f32⟩
  | .hbm, ⟨20, _⟩ => ⟨S17408x16x128, .f32⟩
  | .hbm, ⟨21, _⟩ => ⟨S_, .f32⟩
  | .hbm, ⟨22, _⟩ => ⟨S17408x16, .f32⟩
  | .hbm, ⟨23, _⟩ => ⟨S17408x16x1, .f32⟩
  | .hbm, ⟨24, _⟩ => ⟨S_, .f32⟩
  | .hbm, ⟨25, _⟩ => ⟨S17408x16x1, .f32⟩
  | .hbm, ⟨26, _⟩ => ⟨S17408x16x1, .f32⟩
  | .hbm, ⟨27, _⟩ => ⟨S_, .f32⟩
  | .hbm, ⟨28, _⟩ => ⟨S17408x16x1, .f32⟩
  | .hbm, ⟨29, _⟩ => ⟨S17408x16x1, .f32⟩
  | .hbm, ⟨30, _⟩ => ⟨S17408x16x1, .f32⟩
  | .hbm, ⟨31, _⟩ => ⟨S17408x16x128, .f32⟩
  | .hbm, ⟨32, _⟩ => ⟨S17408x16x128, .f32⟩
  | .hbm, ⟨33, _⟩ => ⟨S1x1x128, .f32⟩
  | .hbm, ⟨34, _⟩ => ⟨S17408x16x128, .f32⟩
  | .hbm, ⟨35, _⟩ => ⟨S17408x16x128, .f32⟩
  | .hbm, ⟨36, _⟩ => ⟨S17408x16x128, .f32⟩
  | .hbm, ⟨37, _⟩ => ⟨S17408x16x128, .f32⟩
  | .hbm, ⟨38, _⟩ => ⟨S_, .f32⟩
  | .hbm, ⟨39, _⟩ => ⟨S17408x16x128, .f32⟩
  | .hbm, ⟨40, _⟩ => ⟨S17408x16x128, .f32⟩
  | .hbm, ⟨41, _⟩ => ⟨S_, .f32⟩
  | .hbm, ⟨42, _⟩ => ⟨S17408x16x128, .f32⟩
  | .hbm, ⟨43, _⟩ => ⟨S17408x16x128, .f32⟩
  | .hbm, ⟨44, _⟩ => ⟨S17408x16x128, .f32⟩
  | .hbm, ⟨45, _⟩ => ⟨S17408x16x128, .f32⟩
  | .hbm, ⟨46, _⟩ => ⟨S17408x2048, .f32⟩
  | .hbm, ⟨47, _⟩ => ⟨S1x2048x2048, .f32⟩
  | .hbm, ⟨48, _⟩ => ⟨S2048x2048, .f32⟩
  | .hbm, ⟨49, _⟩ => ⟨S17408x2048, .f32⟩
  | .hbm, ⟨50, _⟩ => ⟨S17408x1024, .bf16⟩
  | .hbm, ⟨51, _⟩ => ⟨S17408x1024, .f32⟩
  | .hbm, ⟨52, _⟩ => ⟨S17408x4x256, .f32⟩
  | .hbm, ⟨53, _⟩ => ⟨S1x4x256x256, .f32⟩
  | .hbm, ⟨54, _⟩ => ⟨S4x256x256, .f32⟩
  | .hbm, ⟨55, _⟩ => ⟨S4x256x17408, .f32⟩
  | .hbm, ⟨56, _⟩ => ⟨S17408x4x256, .f32⟩
  | .hbm, ⟨57, _⟩ => ⟨S17408x1024, .f32⟩
  | .hbm, ⟨58, _⟩ => ⟨S1x1024, .f32⟩
  | .hbm, ⟨59, _⟩ => ⟨S17408x1024, .f32⟩
  | .hbm, ⟨60, _⟩ => ⟨S17408x1024, .f32⟩
  | .hbm, ⟨61, _⟩ => ⟨S1x1024x2048, .f32⟩
  | .hbm, ⟨62, _⟩ => ⟨S1024x2048, .f32⟩
  | .hbm, ⟨63, _⟩ => ⟨S17408x2048, .f32⟩
  | .hbm, ⟨64, _⟩ => ⟨S17408x4096, .f32⟩
  | .hbm, ⟨65, _⟩ => ⟨S17408x4096, .f32⟩
  | .hbm, ⟨66, _⟩ => ⟨S17408x4096, .f32⟩
  | .hbm, ⟨67, _⟩ => ⟨S_, .f32⟩
  | .hbm, ⟨68, _⟩ => ⟨S17408x4096, .f32⟩
  | .hbm, ⟨69, _⟩ => ⟨S17408x4096, .f32⟩
  | .hbm, ⟨70, _⟩ => ⟨S_, .f32⟩
  | .hbm, ⟨71, _⟩ => ⟨S17408x4096, .f32⟩
  | .hbm, ⟨72, _⟩ => ⟨S17408x4096, .f32⟩
  | .hbm, ⟨73, _⟩ => ⟨S17408x2048, .f32⟩
  | .hbm, ⟨74, _⟩ => ⟨S17408x2048, .f32⟩
  | .hbm, ⟨75, _⟩ => ⟨S17408x2048, .f32⟩
  | .hbm, ⟨76, _⟩ => ⟨S17408x2048, .f32⟩
  | .hbm, ⟨77, _⟩ => ⟨S17408x2048, .f32⟩
  | .hbm, ⟨78, _⟩ => ⟨S17408x2048, .bf16⟩
  | _, _ => ⟨S2x17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_2 : Ref sig .tc := ⟨.hbm, 67, rfl⟩
abbrev main_v47 : Ref sig .tc := ⟨.hbm, 68, rfl⟩
abbrev main_v48 : Ref sig .tc := ⟨.hbm, 69, rfl⟩
abbrev main_cst_3 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Proof.Finite.lean ====
/- The precondition read back: an array whose every absolute value is below infinity holds real numbers. -/
module

public import proofs.«01_k».proof.Pre_finite
public import Idealize.ShloMosaic.Lib.ReduceAll
public import Idealize.ShloMosaic.Lib.Pointwise

@[expose] public section

set_option maxRecDepth 65536

noncomputable section

namespace Cert.Pre_finite

open Idealize.ShloMosaic

/-- The predicate's shape relations. -/
instance facts : Facts where
  bitsLt_bf16_f32 := by decide
  bcast_S_S17408x6144 := by decide
  reducesTo_S17408x6144_S_d0_1 := by decide
  h_S_ := by decide
  bcast_S_S17408x128 := by decide
  reducesTo_S17408x128_S_d0_1 := by decide
  bcast_S_S2x16 := by decide
  reducesTo_S2x16_S_d0_1 := by decide

theorem inf_eq : Ideal.ofBits .f32 0x7F800000#32 = ⊤ := by simp [Ideal.ofBits, Ideal.ieee]

/-- A number whose absolute value is below infinity is a real number. -/
theorem real_of {x : EReal} (h : Ideal.cmp .olt (max x (-x)) (Ideal.ofBits .f32 0x7F800000#32) = 1#1) :
    x = ((x.toReal : ℝ) : EReal) := by
  rw [inf_eq] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  refine (EReal.coe_toReal (fun e => ?_) (fun e => ?_)).symm
  · subst e; simp at h'
  · subst e; simp at h'

instance : Subsingleton S_.Idx := ⟨fun a b => funext fun k => k.elim0⟩

/-- All four arguments hold real numbers. -/
theorem reals (x : FVec Ideal S17408x6144 .bf16) (b : FVec Ideal S17408x128 .f32) (a t : FVec Ideal S2x16 .f32)
    (h : fn x b a t = fun _ => 1#1) :
    (∀ i, (x i : EReal) = ((EReal.toReal (x i) : ℝ) : EReal)) ∧ (∀ i, (b i : EReal) = ((EReal.toReal (b i) : ℝ) : EReal))
      ∧ (∀ i, (a i : EReal) = ((EReal.toReal (a i) : ℝ) : EReal)) ∧ (∀ i, (t i : EReal) = ((EReal.toReal (t i) : ℝ) : EReal)) := by
  have h0 := congrFun h (Shape.Idx.first Facts.h_S_)
  unfold fn fn_part1 at h0
  obtain ⟨h1, ht⟩ := IntOp.andi_eq_one.1 h0
  obtain ⟨h2, ha⟩ := IntOp.andi_eq_one.1 h1
  obtain ⟨hx, hb⟩ := IntOp.andi_eq_one.1 h2
  exact ⟨fun i => real_of (Host.reduce_andi_all _ _ _ _ _ hx i), fun i => real_of (Host.reduce_andi_all _ _ _ _ _ hb i),
    fun i => real_of (Host.reduce_andi_all _ _ _ _ _ ha i), fun i => real_of (Host.reduce_andi_all _ _ _ _ _ ht i)⟩

end Cert.Pre_finite

end
-- ==== Proof.Head.lean ====
/- One head of the chunked delta rule, as the kernel computes it.

   The kernel body treats sixteen heads in the same way, one after the other.  This file states what it
   does for one head, stage by stage and in the printed operations, as a function of the head's number;
   `pieces_B` and `pieces_A` then say that the sixteen blocks the body stores are sixteen instances of it. -/
module

public import proofs.«01_k».proof.Proof.Gen.KernelIdeal.Frame

@[expose] public section

set_option maxRecDepth 65536

noncomputable section

namespace Cert.KernelIdeal.Head

open Idealize.ShloMosaic Idealize.ShloMosaic.TcCoe Idealize.ShloMosaic.Tactic
open Cert.KernelIdeal Cert.KernelIdeal.Gen

variable {F : FTy → Type} [FloatOps F]

/-! ### The masks of a chunk -/

/-- The direction bit: 1 for the forward pass. -/
def fwd (i : grid0.Coords) : BitVec 1 := Scalar.cmpi .eq (BitVec.ofNat 32 (i 1)) 0#32

/-- Row numbers of a 64 by 64 block. -/
def rowI : IVec S64x64 32 := iota .tc S64x64 32 [0] iota_S64x64_d0_w32

/-- Column numbers of a 64 by 64 block. -/
def colI : IVec S64x64 32 := iota .tc S64x64 32 [1] iota_S64x64_d1_w32

/-- Ones where the row is not earlier than the column. -/
def incl (w : BitVec 1) : IVec S64x64 1 := cmpi .sge (Scalar.select w rowI colI) (Scalar.select w colI rowI)

/-- Ones where the row is later than the column. -/
def strict (w : BitVec 1) : IVec S64x64 1 := cmpi .sgt (Scalar.select w rowI colI) (Scalar.select w colI rowI)

/-- Ones where row and column lie in one block of `2 ^ n`. -/
def same (n : BitVec 32) : IVec S64x64 1 :=
  cmpi .eq (shrsi rowI (broadcast S64x64 n)) (shrsi colI (broadcast S64x64 n))

/-- The constant 0 on a 64 by 64 block. -/
def zero64 : FVec F S64x64 .f32 := broadcast S64x64 (Scalar.ofBits .f32 0x00000000#32)

/-- The unit matrix. -/
def eye : FVec F S64x64 .f32 :=
  select (cmpi .eq rowI colI) (broadcast S64x64 (Scalar.ofBits .f32 0x3F800000#32)) zero64

/-! ### The gates of a head -/

theorem slice_col (h : Fin 16) (n : Fin 4) : S64x128.Slices ![0, 16 * (n : ℕ) + (h : ℕ)] S64x1 := by
  revert h n; decide

theorem slice_row (h : Fin 16) (n : Fin 4) : S128x64.Slices ![16 * (n : ℕ) + (h : ℕ), 0] S1x64 := by
  revert h n; decide

theorem slice_one (h : Fin 16) (n : Fin 4) : S1x128.Slices ![0, 16 * (n : ℕ) + (h : ℕ)] S1x1 := by
  revert h n; decide

/-- The column of `x` that holds head `h` in the pass's direction: group `n` forward, the next one backward. -/
def pickCol (w : BitVec 1) (x : FVec F S64x128 .f32) (n n' : Fin 4) (h : Fin 16) : FVec F S64x1 .f32 :=
  Scalar.select w (extractStridedSlice S64x1 ![0, 16 * (n : ℕ) + (h : ℕ)] x (slice_col h n))
    (extractStridedSlice S64x1 ![0, 16 * (n' : ℕ) + (h : ℕ)] x (slice_col h n'))

/-- The running log decay of head `h` as a row. -/
def pickRow (w : BitVec 1) (x : FVec F S128x64 .f32) (n n' : Fin 4) (h : Fin 16) : FVec F S1x64 .f32 :=
  Scalar.select w (extractStridedSlice S1x64 ![16 * (n : ℕ) + (h : ℕ), 0] x (slice_row h n))
    (extractStridedSlice S1x64 ![16 * (n' : ℕ) + (h : ℕ), 0] x (slice_row h n'))

/-- The chunk's whole log decay of head `h`. -/
def pickOne (w : BitVec 1) (x : FVec F S1x128 .f32) (n n' : Fin 4) (h : Fin 16) : FVec F S1x1 .f32 :=
  Scalar.select w (extractStridedSlice S1x1 ![0, 16 * (n : ℕ) + (h : ℕ)] x (slice_one h n))
    (extractStridedSlice S1x1 ![0, 16 * (n' : ℕ) + (h : ℕ)] x (slice_one h n'))

/-- The write strengths of a chunk. -/
def betaT (x3 : Vec F S1x64x128 .f32) : FVec F S64x128 .f32 := k0_pay6 x3

/-- The log decays of a chunk. -/
def gT (x3 : Vec F S1x64x128 .f32) (x4 x5 : Vec F S1x1x128 .f32) : FVec F S64x128 .f32 := k0_pay7 x3 x4 x5

/-- Their running sums, in the pass's direction. -/
def gcT (w : BitVec 1) (g : FVec F S64x128 .f32) : FVec F S64x128 .f32 :=
  matmul dot_S64x64_S64x128_S64x128_1_0_0_1_n_n (some .fp32)
    (select (incl w) (broadcast S64x64 (Scalar.ofBits .f32 0x3F800000#32)) zero64) g
    (constant S64x128 .f32 0x00000000#32)

/-- Their sums over the chunk. -/
def gtT (g : FVec F S64x128 .f32) : FVec F S1x128 .f32 :=
  shapeCast S1x128 (multiReduction .add [0] S128 g 0x00000000#32 reduces_S64x128_S128 (.inl rfl) rfl)
    shapeCasts_S128_S1x128

/-- Write strength of head `h`. -/
def bC (w : BitVec 1) (x3 : Vec F S1x64x128 .f32) (h : Fin 16) : FVec F S64x1 .f32 :=
  pickCol w (betaT x3) 0 1 h

/-- Running log decay of head `h`, as a column. -/
def gC (w : BitVec 1) (g : FVec F S64x128 .f32) (h : Fin 16) : FVec F S64x1 .f32 := pickCol w (gcT w g) 2 3 h

/-- Running log decay of head `h`, as a row. -/
def gR (w : BitVec 1) (g : FVec F S64x128 .f32) (h : Fin 16) : FVec F S1x64 .f32 :=
  pickRow w (transpose S128x64 [1, 0] (gcT w g) transposes_S64x128_p1_0_S128x64) 2 3 h

/-- Log decay of head `h` over the chunk. -/
def gO (w : BitVec 1) (g : FVec F S64x128 .f32) (h : Fin 16) : FVec F S1x1 .f32 := pickOne w (gtT g) 2 3 h

/-! ### The stages of a head -/

/-- A column repeated along the rows of a 64 by 128 block. -/
def wide (x : FVec F S64x1 .f32) : FVec F S64x128 .f32 := broadcastTo S64x128 x broadcasts_S64x1_S64x128

/-- Keys times write strengths. -/
def kB (b : FVec F S64x1 .f32) (k : Vec F S64x128 .bf16) : FVec F S64x128 .f32 :=
  mulf (extf .f32 k bitsLt_bf16_f32) (wide b)

/-- The decay from one row to another. -/
def decay (m : IVec S64x64 1) (gc : FVec F S64x1 .f32) (gr : FVec F S1x64 .f32) : FVec F S64x64 .f32 :=
  select m (exp (select m (subf (broadcastTo S64x64 gc broadcasts_S64x1_S64x64)
    (broadcastTo S64x64 gr broadcasts_S1x64_S64x64)) zero64)) zero64

/-- Keys and queries against keys. -/
def kQ (kb : FVec F S64x128 .f32) (q k : Vec F S64x128 .bf16) : FVec F S128x64 .f32 :=
  matmul dot_S128x128_S64x128_S128x64_1_1_0_0_n_n none
    (truncf .bf16 (concatenate S128x128 0 [⟨S64x128, kb⟩, ⟨S64x128, extf .f32 q bitsLt_bf16_f32⟩]
      concatenates_S64x128_S64x128_S128x128_d0) bitsLt_bf16_f32) k (constant S128x64 .f32 0x00000000#32)

/-- The strictly triangular matrix of the chunk. -/
def aM (m : IVec S64x64 1) (kq : FVec F S128x64 .f32) (dec : FVec F S64x64 .f32) : FVec F S64x64 .f32 :=
  select m (mulf (extractStridedSlice S64x64 ![0, 0] kq slices_S128x64_o0_0_S64x64) dec) zero64

/-- Product of two 64 by 64 blocks, rounded operands. -/
def mm64 (x y : FVec F S64x64 .bf16) : FVec F S64x64 .f32 :=
  matmul dot_S64x64_S64x64_S64x64_1_0_0_1_n_n none x y (constant S64x64 .f32 0x00000000#32)

/-- Rounding a 64 by 64 block. -/
def r64 (x : FVec F S64x64 .f32) : FVec F S64x64 .bf16 := truncf .bf16 x bitsLt_bf16_f32

/-- Two products by `p` at once: of `t`, and of `p` itself. -/
def tp (t : FVec F S64x64 .f32) (p : FVec F S64x64 .bf16) : FVec F S128x64 .f32 :=
  matmul dot_S128x64_S64x64_S128x64_1_0_0_1_n_n none
    (concatenate S128x64 0 [⟨S64x64, r64 t⟩, ⟨S64x64, p⟩] concatenates_S64x64_S64x64_S128x64_d0) p
    (constant S128x64 .f32 0x00000000#32)

/-- `t + t p`. -/
def tNext (t : FVec F S64x64 .f32) (p : FVec F S64x64 .bf16) : FVec F S64x64 .f32 :=
  addf t (extractStridedSlice S64x64 ![0, 0] (tp t p) slices_S128x64_o0_0_S64x64)

/-- `p p`. -/
def pNext (t : FVec F S64x64 .f32) (p : FVec F S64x64 .bf16) : FVec F S64x64 .bf16 :=
  r64 (extractStridedSlice S64x64 ![64, 0] (tp t p) slices_S128x64_o64_0_S64x64)

/-- The triangular matrix inside its blocks of sixteen. -/
def a16 (a : FVec F S64x64 .f32) : FVec F S64x64 .f32 := select (same 4#32) a zero64

/-- The inverse inside the blocks of sixteen: four doublings. -/
def inv16 (a : FVec F S64x64 .f32) : FVec F S64x64 .f32 :=
  let t := subf eye (a16 a)
  let p := r64 (mm64 (r64 (a16 a)) (r64 (a16 a)))
  let t1 := tNext t p
  let p1 := pNext t p
  let t2 := tNext t1 p1
  let p2 := pNext t1 p1
  addf t2 (mm64 (r64 t2) p2)

/-- Taking in the blocks beside: `t - t d t`. -/
def merge (t d : FVec F S64x64 .f32) : FVec F S64x64 .f32 :=
  subf t (mm64 (r64 (mm64 (r64 t) (r64 d))) (r64 t))

/-- The inverse of the unit triangular matrix. -/
def triInv (a : FVec F S64x64 .f32) : FVec F S64x64 .f32 :=
  merge (merge (inv16 a) (subf (select (same 5#32) a zero64) (a16 a))) (select (same 5#32) zero64 a)

/-- The inverse applied to the values and to the decayed keys. -/
def sol (t : FVec F S64x64 .f32) (b gc : FVec F S64x1 .f32) (kb : FVec F S64x128 .f32) (v : Vec F S64x128 .bf16) :
    FVec F S64x256 .f32 :=
  matmul dot_S64x64_S64x256_S64x256_1_0_0_1_n_n none (r64 t)
    (truncf .bf16 (concatenate S64x256 1 [⟨S64x128, mulf (extf .f32 v bitsLt_bf16_f32) (wide b)⟩,
      ⟨S64x128, mulf kb (wide (exp gc))⟩] concatenates_S64x128_S64x128_S64x256_d1) bitsLt_bf16_f32)
    (constant S64x256 .f32 0x00000000#32)

/-- What the state before the chunk contributes. -/
def rM (so : FVec F S64x256 .f32) (gc : FVec F S64x1 .f32) (q : Vec F S64x128 .bf16) (s : FVec F S128x128 .f32) :
    FVec F S128x128 .f32 :=
  matmul dot_S128x128_S128x128_S128x128_1_0_0_1_n_n none
    (truncf .bf16 (concatenate S128x128 0 [⟨S64x128, extractStridedSlice S64x128 ![0, 128] so slices_S64x256_o0_128_S64x128⟩,
      ⟨S64x128, mulf (extf .f32 q bitsLt_bf16_f32) (wide (exp gc))⟩] concatenates_S64x128_S64x128_S128x128_d0) bitsLt_bf16_f32)
    (truncf .bf16 s bitsLt_bf16_f32) (constant S128x128 .f32 0x00000000#32)

/-- The chunk's updates. -/
def vN (so : FVec F S64x256 .f32) (r : FVec F S128x128 .f32) : FVec F S64x128 .bf16 :=
  truncf .bf16 (subf (extractStridedSlice S64x128 ![0, 0] so slices_S64x256_o0_0_S64x128)
    (extractStridedSlice S64x128 ![0, 0] r slices_S128x128_o0_0_S64x128)) bitsLt_bf16_f32

/-- Keys decayed to the end of the chunk. -/
def kD (k : Vec F S64x128 .bf16) (gc : FVec F S64x1 .f32) (gt : FVec F S1x1 .f32) : FVec F S64x128 .f32 :=
  mulf (extf .f32 k bitsLt_bf16_f32) (wide (exp (subf (broadcastTo S64x1 gt broadcasts_S1x1_S64x1) gc)))

/-- The rows that read the updates: decayed queries against keys, and keys decayed to the chunk's end. -/
def qkD (kq : FVec F S128x64 .f32) (dec : FVec F S64x64 .f32) (kd : FVec F S64x128 .f32) : FVec F S192x64 .bf16 :=
  concatenate S192x64 0 [⟨S64x64, r64 (mulf (extractStridedSlice S64x64 ![64, 0] kq slices_S128x64_o64_0_S64x64) dec)⟩,
    ⟨S128x64, truncf .bf16 (transpose S128x64 [1, 0] kd transposes_S64x128_p1_0_S128x64) bitsLt_bf16_f32⟩]
    concatenates_S64x64_S128x64_S192x64_d0

/-- Those rows times the updates. -/
def oU (qkd : FVec F S192x64 .bf16) (vn : FVec F S64x128 .bf16) : FVec F S192x128 .f32 :=
  matmul dot_S192x64_S64x128_S192x128_1_0_0_1_n_n none qkd vn (constant S192x128 .f32 0x00000000#32)

/-! ### One head, from its chunk and the state before it -/

section
variable (w : BitVec 1) (b gc : FVec F S64x1 .f32) (gr : FVec F S1x64 .f32) (gt : FVec F S1x1 .f32)
  (q k v : Vec F S64x128 .bf16) (s : FVec F S128x128 .f32)

/-- Keys and queries against keys. -/
def hKQ : FVec F S128x64 .f32 := kQ (kB b k) q k

/-- The inverse applied to values and keys. -/
def hSol : FVec F S64x256 .f32 :=
  sol (triInv (aM (strict w) (hKQ b q k) (decay (incl w) gc gr))) b gc (kB b k) v

/-- What the state contributes. -/
def hR : FVec F S128x128 .f32 := rM (hSol w b gc gr q k v) gc q s

/-- Outputs and the state's increment. -/
def hOU : FVec F S192x128 .f32 :=
  oU (qkD (hKQ b q k) (decay (incl w) gc gr) (kD k gc gt)) (vN (hSol w b gc gr q k v) (hR w b gc gr q k v s))

/-- The head's output rows. -/
def hOut : FVec F S64x128 .f32 :=
  addf (extractStridedSlice S64x128 ![64, 0] (hR w b gc gr q k v s) slices_S128x128_o64_0_S64x128)
    (extractStridedSlice S64x128 ![0, 0] (hOU w b gc gr gt q k v s) slices_S192x128_o0_0_S64x128)

/-- The head's state after the chunk. -/
def hSt : FVec F S128x128 .f32 :=
  addf (mulf s (broadcastTo S128x128 (exp gt) broadcasts_S1x1_S128x128))
    (extractStridedSlice S128x128 ![64, 0] (hOU w b gc gr gt q k v s) slices_S192x128_o64_0_S128x128)

end

/-! ### The sixteen heads -/

theorem inbX (h : Fin 16) : ∀ a, (![0, 128 * (h : ℕ)] : Fin 2 → Nat) a + S64x128.size a ≤ S64x2048.size a := by
  revert h; decide

theorem inbO (h : Fin 16) : ∀ a, (![0, 0, 128 * (h : ℕ)] : Fin 3 → Nat) a + S1x64x128.size a ≤ S1x64x2048.size a := by
  revert h; decide

theorem inbS (h : Fin 16) : ∀ a, (![(h : ℕ), 0, 0] : Fin 3 → Nat) a + S1x128x128.size a ≤ S16x128x128.size a := by
  revert h; decide

section
variable (w : BitVec 1) (x3 : Vec F S1x64x128 .f32) (x4 x5 : Vec F S1x1x128 .f32)
  (q k v : Fin 16 → Vec F S64x128 .bf16) (s : Fin 16 → FVec F S128x128 .f32)

/-- The block head `h` stores to the output. -/
def outBlk (h : Fin 16) : FVec F S1x64x128 .bf16 :=
  shapeCast S1x64x128 (truncf .bf16 (hOut w (bC w x3 h) (gC w (gT x3 x4 x5) h) (gR w (gT x3 x4 x5) h)
    (gO w (gT x3 x4 x5) h) (q h) (k h) (v h) (s h)) bitsLt_bf16_f32) shapeCasts_S64x128_S1x64x128

/-- The block head `h` stores to the state. -/
def stBlk (h : Fin 16) : FVec F S1x128x128 .f32 :=
  shapeCast S1x128x128 (hSt w (bC w x3 h) (gC w (gT x3 x4 x5) h) (gR w (gT x3 x4 x5) h)
    (gO w (gT x3 x4 x5) h) (q h) (k h) (v h) (s h)) shapeCasts_S128x128_S1x128x128

/-- All output blocks, last head first. -/
def outPieces : List (View.Piece (Elt F) S1x64x2048 .bf16) :=
  (List.finRange 16).reverse.map fun h : Fin 16 => ⟨Rect.unit ![0, 0, 128 * (h : ℕ)] S1x64x128.size (inbO h), outBlk w x3 x4 x5 q k v s h⟩

/-- All state blocks, last head first. -/
def stPieces : List (View.Piece (Elt F) S16x128x128 .f32) :=
  (List.finRange 16).reverse.map fun h : Fin 16 => ⟨Rect.unit ![(h : ℕ), 0, 0] S1x128x128.size (inbS h), stBlk w x3 x4 x5 q k v s h⟩

end

/-- The columns of head `h` in a staged block of queries, keys or values. -/
def cols (m : Memref sig .tc .vmem S64x2048 .bf16) (hm : m.IsWhole) (x : Vec F S64x2048 .bf16) (h : Fin 16) :
    Vec F S64x128 .bf16 :=
  View.readAt (Elt F) m.view (Rect.unit (s := S64x2048) ![0, 128 * (h : ℕ)] S64x128.size (inbX h)).toLoadRect (hm.unread x)

/-- The state of head `h` in the carried scratch. -/
def stOf (m : Memref sig .tc .vmem S16x128x128 .f32) (hm : m.IsWhole) (x : Vec F S16x128x128 .f32) (h : Fin 16) :
    FVec F S128x128 .f32 :=
  shapeCast S128x128 (View.readAt (Elt F) m.view (Rect.unit (s := S16x128x128) ![(h : ℕ), 0, 0] S1x128x128.size (inbS h)).toLoadRect
    (hm.unread x)) shapeCasts_S1x128x128_S128x128

/-- A whole staged block, as the body loads it. -/
def allOf3 (m : Memref sig .tc .vmem S1x64x128 .f32) (hm : m.IsWhole) (x : Vec F S1x64x128 .f32) : Vec F S1x64x128 .f32 :=
  View.readAt (Elt F) m.view (Rect.unit (s := S1x64x128) ![0, 0, 0] S1x64x128.size inb_S1x64x128_S1x64x128_0_0_0).toLoadRect (hm.unread x)

/-- A whole staged row, as the body loads it. -/
def allOf4 (m : Memref sig .tc .vmem S1x1x128 .f32) (hm : m.IsWhole) (x : Vec F S1x1x128 .f32) : Vec F S1x1x128 .f32 :=
  View.readAt (Elt F) m.view (Rect.unit (s := S1x1x128) ![0, 0, 0] S1x1x128.size inb_S1x1x128_S1x1x128_0_0_0).toLoadRect (hm.unread x)

section
variable (c : Dev nD) (i : grid0.Coords) (arg4 : Memref sig .tc .vmem S64x2048 .bf16) (harg4 : arg4.IsWhole)
  (arg5 : Memref sig .tc .vmem S64x2048 .bf16) (harg5 : arg5.IsWhole) (arg6 : Memref sig .tc .vmem S64x2048 .bf16)
  (harg6 : arg6.IsWhole) (arg7 : Memref sig .tc .vmem S1x64x128 .f32) (harg7 : arg7.IsWhole)
  (arg8 : Memref sig .tc .vmem S1x1x128 .f32) (harg8 : arg8.IsWhole) (arg9 : Memref sig .tc .vmem S1x1x128 .f32)
  (harg9 : arg9.IsWhole) (arg10 : Memref sig .tc .vmem S1x64x2048 .bf16) (harg10 : arg10.IsWhole)
  (arg11 : Memref sig .tc .vmem S16x128x128 .f32) (harg11 : arg11.IsWhole)
  (x0 x1 x2 : Vec F S64x2048 .bf16) (x3 : Vec F S1x64x128 .f32) (x4 x5 : Vec F S1x1x128 .f32)
  (xs0 : Vec F S16x128x128 .f32)

/-- The state a sweep starts from, as the body loads it back after clearing the scratch. -/
def st0 (m : Memref sig .tc .vmem S16x128x128 .f32) (h : Fin 16) : FVec F S128x128 .f32 :=
  shapeCast S128x128 (m.view.readCov (kernelRun0_A.sl.HS0_1 (F := F))
    (Rect.unit (s := S16x128x128) ![(h : ℕ), 0, 0] S1x128x128.size (inbS h)).toLoadRect) shapeCasts_S1x128x128_S128x128

/-- Past a sweep's first point: the output blocks. -/
theorem outPieces_B (hc0 : ¬cond0_0 i) :
    (kernelRun0_B c i arg4 harg4 arg5 harg5 arg6 harg6 arg7 harg7 arg8 harg8 arg9 harg9 arg10 harg10 arg11 harg11 hc0
      x0 x1 x2 x3 x4 x5 xs0).1
    = outPieces (fwd i) (allOf3 arg7 harg7 x3) (allOf4 arg8 harg8 x4) (allOf4 arg9 harg9 x5)
        (cols arg4 harg4 x0) (cols arg5 harg5 x1) (cols arg6 harg6 x2) (stOf arg11 harg11 xs0) := by
  rfl

/-- Past a sweep's first point: the state blocks. -/
theorem stPieces_B (hc0 : ¬cond0_0 i) :
    (kernelRun0_B c i arg4 harg4 arg5 harg5 arg6 harg6 arg7 harg7 arg8 harg8 arg9 harg9 arg10 harg10 arg11 harg11 hc0
      x0 x1 x2 x3 x4 x5 xs0).2.1
    = stPieces (fwd i) (allOf3 arg7 harg7 x3) (allOf4 arg8 harg8 x4) (allOf4 arg9 harg9 x5)
        (cols arg4 harg4 x0) (cols arg5 harg5 x1) (cols arg6 harg6 x2) (stOf arg11 harg11 xs0) := by
  rfl

/-- At a sweep's first point: the output blocks. -/
theorem outPieces_A (hc0 : cond0_0 i) :
    (kernelRun0_A c i arg4 harg4 arg5 harg5 arg6 harg6 arg7 harg7 arg8 harg8 arg9 harg9 arg10 harg10 arg11 harg11 hc0
      x0 x1 x2 x3 x4 x5).1
    = outPieces (fwd i) (allOf3 arg7 harg7 x3) (allOf4 arg8 harg8 x4) (allOf4 arg9 harg9 x5)
        (cols arg4 harg4 x0) (cols arg5 harg5 x1) (cols arg6 harg6 x2) (st0 arg11) := by
  rfl

/-- At a sweep's first point: the state blocks, on top of the cleared scratch. -/
theorem stPieces_A (hc0 : cond0_0 i) :
    (kernelRun0_A c i arg4 harg4 arg5 harg5 arg6 harg6 arg7 harg7 arg8 harg8 arg9 harg9 arg10 harg10 arg11 harg11 hc0
      x0 x1 x2 x3 x4 x5).2.1
    = stPieces (fwd i) (allOf3 arg7 harg7 x3) (allOf4 arg8 harg8 x4) (allOf4 arg9 harg9 x5)
        (cols arg4 harg4 x0) (cols arg5 harg5 x1) (cols arg6 harg6 x2) (st0 arg11) ++ kernelRun0_A.sl.HS0_1 := by
  rfl

end

end Cert.KernelIdeal.Head

end
-- ==== Proof.Masks.lean ====
/- The masks of a chunk, entry by entry: what the kernel's integer comparisons say of two rows. -/
module

public import proofs.«01_k».proof.Proof.Head
public import Idealize.ShloMosaic.Lib.Pointwise

@[expose] public section

set_option maxRecDepth 65536

noncomputable section

namespace Cert.KernelIdeal.Head

open Idealize.ShloMosaic Idealize.ShloMosaic.TcCoe Idealize.ShloMosaic.Tactic
open Cert.KernelIdeal Cert.KernelIdeal.Gen

/-! ### The masks -/

/-- The order in which a pass in direction `w` meets the rows of a chunk. -/
def dirE (w : BitVec 1) : Equiv.Perm (Fin 64) := if w = 1#1 then Equiv.refl _ else Fin.revPerm

theorem incl_apply : ∀ (w : BitVec 1) (p j : Fin 64),
    incl w (ix2 p j) = if (dirE w j : ℕ) ≤ dirE w p then 1#1 else 0#1 := by decide +kernel

theorem strict_apply : ∀ (w : BitVec 1) (p j : Fin 64),
    strict w (ix2 p j) = if (dirE w j : ℕ) < dirE w p then 1#1 else 0#1 := by decide +kernel

theorem same4_apply : ∀ (w : BitVec 1) (p j : Fin 64),
    same 4#32 (ix2 p j) = if (dirE w p : ℕ) / 16 = dirE w j / 16 then 1#1 else 0#1 := by decide +kernel

theorem same5_apply : ∀ (w : BitVec 1) (p j : Fin 64),
    same 5#32 (ix2 p j) = if (dirE w p : ℕ) / 32 = dirE w j / 32 then 1#1 else 0#1 := by decide +kernel

theorem diag_apply : ∀ (p j : Fin 64), cmpi .eq rowI colI (ix2 p j) = if p = j then 1#1 else 0#1 := by decide +kernel

end Cert.KernelIdeal.Head

end
-- ==== Proof.Chunk.lean ====
/- The chunked form of the gated delta rule over the real numbers: a block of 64 positions solved at once by a unit
   triangular system gives the states and the outputs of the recurrence taken position by position. -/
module

public import Mathlib.Analysis.SpecialFunctions.Exponential
public import Mathlib.Data.Matrix.Mul
public import Mathlib.Tactic.NoncommRing
public import Mathlib.Tactic.Linarith
public import Mathlib.Tactic.Ring

@[expose] public section

noncomputable section

namespace Cert.Delta

open Finset Matrix

/-! ## The recurrence -/

variable {ι : Type} [Fintype ι]

/-- What position `n` writes into the state `s` it finds: `β (v - (eᵍ s)ᵀ k)`. -/
def upd (k v : ℕ → ι → ℝ) (β g : ℕ → ℝ) (n : ℕ) (s : ι → ι → ℝ) (b : ι) : ℝ :=
  β n * (v n b - ∑ c, s c b * Real.exp (g n) * k n c)

/-- The state after the first `n` positions. -/
def state (k v : ℕ → ι → ℝ) (β g : ℕ → ℝ) : ℕ → ι → ι → ℝ
  | 0 => fun _ _ => 0
  | n + 1 => fun a b => state k v β g n a b * Real.exp (g n) + k n a * upd k v β g n (state k v β g n) b

/-- The output at position `n`: the state after it, read with the query. -/
def out (q k v : ℕ → ι → ℝ) (β g : ℕ → ℝ) (n : ℕ) (b : ι) : ℝ := ∑ a, state k v β g (n + 1) a b * q n a

/-! ## The inverse of a unit triangular matrix by doubling and merging -/

/-- Three doublings: `(1-x)(1+x²)(1+x⁴)(1+x⁸)` is the inverse of `1+x` when `x¹⁶ = 0`. -/
theorem doubling {R : Type} [Ring R] (x : R) (h : x ^ 16 = 0) :
    let p1 := x * x
    let t1 := (1 - x) + (1 - x) * p1
    let p2 := p1 * p1
    let t2 := t1 + t1 * p2
    let p3 := p2 * p2
    (1 + x) * (t2 + t2 * p3) = 1 := by
  intro p1 t1 p2 t2 p3
  have h2 : (1 + x) * (t2 + t2 * p3) = 1 - x ^ 16 := by
    simp only [t2, t1, p3, p2, p1]
    noncomm_ring
  rw [h2, h, sub_zero]

/-- Merging: a part `d` of the matrix that meets itself nowhere through `t` is taken in by one correction. -/
theorem merging {R : Type} [Ring R] (m t d : R) (h : m * t = 1) (h0 : d * t * d = 0) :
    (m + d) * (t - t * d * t) = 1 := by
  have e : (m + d) * (t - t * d * t) = m * t + d * t - (m * t) * d * t - (d * t * d) * t := by noncomm_ring
  rw [e, h, h0]; noncomm_ring

/-- A matrix supported on a relation. -/
def Supp {n : ℕ} (r : Fin n → Fin n → Prop) (x : Matrix (Fin n) (Fin n) ℝ) : Prop := ∀ i j, x i j ≠ 0 → r i j

theorem Supp.mul {n : ℕ} {r s w : Fin n → Fin n → Prop} {x y : Matrix (Fin n) (Fin n) ℝ} (hx : Supp r x) (hy : Supp s y)
    (h : ∀ i k j, r i k → s k j → w i j) : Supp w (x * y) := by
  intro i j hij
  rw [Matrix.mul_apply] at hij
  obtain ⟨k, -, hk⟩ := Finset.exists_ne_zero_of_sum_ne_zero hij
  exact h i k j (hx _ _ (left_ne_zero_of_mul hk)) (hy _ _ (right_ne_zero_of_mul hk))

theorem Supp.add {n : ℕ} {r : Fin n → Fin n → Prop} {x y : Matrix (Fin n) (Fin n) ℝ} (hx : Supp r x) (hy : Supp r y) :
    Supp r (x + y) := by
  intro i j hij
  by_cases h : x i j = 0
  · by_cases h' : y i j = 0
    · simp [h, h'] at hij
    · exact hy _ _ h'
  · exact hx _ _ h

theorem Supp.sub {n : ℕ} {r : Fin n → Fin n → Prop} {x y : Matrix (Fin n) (Fin n) ℝ} (hx : Supp r x) (hy : Supp r y) :
    Supp r (x - y) := by
  intro i j hij
  by_cases h : x i j = 0
  · by_cases h' : y i j = 0
    · simp [h, h'] at hij
    · exact hy _ _ h'
  · exact hx _ _ h

theorem Supp.mono {n : ℕ} {r s : Fin n → Fin n → Prop} {x : Matrix (Fin n) (Fin n) ℝ} (hx : Supp r x)
    (h : ∀ i j, r i j → s i j) : Supp s x := fun i j hij => h i j (hx i j hij)

theorem Supp.eq_zero {n : ℕ} {r : Fin n → Fin n → Prop} {x : Matrix (Fin n) (Fin n) ℝ} (hx : Supp r x)
    (h : ∀ i j, ¬ r i j) : x = 0 := by
  ext i j
  by_contra hij
  exact h i j (hx i j hij)

theorem Supp.one {n : ℕ} {r : Fin n → Fin n → Prop} (h : ∀ i, r i i) : Supp r (1 : Matrix (Fin n) (Fin n) ℝ) := by
  intro i j hij
  by_cases e : i = j
  · exact e ▸ h i
  · exact absurd (Matrix.one_apply_ne e) hij

theorem Supp.pow {n : ℕ} {x : Matrix (Fin n) (Fin n) ℝ} (p : Fin n → ℕ) (w : ℕ)
    (hx : Supp (fun i j => p j < p i ∧ p i / w = p j / w) x) :
    ∀ m, Supp (fun i j => p j + m ≤ p i ∧ p i / w = p j / w) (x ^ m)
  | 0 => by rw [pow_zero]; exact Supp.one fun i => ⟨le_refl _, rfl⟩
  | m + 1 => by
      rw [pow_succ]
      exact (Supp.pow p w hx m).mul hx fun i k j h1 h2 => ⟨by omega, h1.2.trans h2.2⟩

/-- The part of `a` on the diagonal blocks of 16 positions. -/
def diag16 (p : Fin 64 → ℕ) (a : Matrix (Fin 64) (Fin 64) ℝ) : Matrix (Fin 64) (Fin 64) ℝ :=
  Matrix.of fun i j => if p i / 16 = p j / 16 then a i j else 0
/-- The part of `a` on the diagonal blocks of 32 positions. -/
def diag32 (p : Fin 64 → ℕ) (a : Matrix (Fin 64) (Fin 64) ℝ) : Matrix (Fin 64) (Fin 64) ℝ :=
  Matrix.of fun i j => if p i / 32 = p j / 32 then a i j else 0
/-- The part of `a` outside them. -/
def off32 (p : Fin 64 → ℕ) (a : Matrix (Fin 64) (Fin 64) ℝ) : Matrix (Fin 64) (Fin 64) ℝ :=
  Matrix.of fun i j => if p i / 32 = p j / 32 then 0 else a i j

/-- The inverse of the diagonal blocks of 16, by doubling. -/
def inv16 (p : Fin 64 → ℕ) (a : Matrix (Fin 64) (Fin 64) ℝ) : Matrix (Fin 64) (Fin 64) ℝ :=
  let x := diag16 p a
  let p1 := x * x
  let t1 := (1 - x) + (1 - x) * p1
  let p2 := p1 * p1
  let t2 := t1 + t1 * p2
  let p3 := p2 * p2
  t2 + t2 * p3

/-- One merging step. -/
def merge (t d : Matrix (Fin 64) (Fin 64) ℝ) : Matrix (Fin 64) (Fin 64) ℝ := t - t * d * t

/-- The inverse of `1 + a`: the diagonal blocks of 16, merged to 32, merged to 64. -/
def triInv (p : Fin 64 → ℕ) (a : Matrix (Fin 64) (Fin 64) ℝ) : Matrix (Fin 64) (Fin 64) ℝ :=
  merge (merge (inv16 p a) (diag32 p a - diag16 p a)) (off32 p a)

theorem triInv_spec (p : Fin 64 → ℕ) (hp : ∀ i, p i < 64) (a : Matrix (Fin 64) (Fin 64) ℝ) (ha : Supp (fun i j => p j < p i) a) :
    (1 + a) * triInv p a = 1 := by
  have hx : Supp (fun i j => p j < p i ∧ p i / 16 = p j / 16) (diag16 p a) := by
    intro i j h
    simp only [diag16, Matrix.of_apply, ne_eq, ite_eq_right_iff, not_forall] at h
    obtain ⟨h1, h2⟩ := h
    exact ⟨ha i j h2, h1⟩
  have h16 : diag16 p a ^ 16 = 0 := (Supp.pow p 16 hx 16).eq_zero fun i j h => by have := hp i; have := hp j; omega
  have e1 : (1 + diag16 p a) * inv16 p a = 1 := doubling _ h16
  have hx' : Supp (fun i j => p i / 16 = p j / 16) (diag16 p a) := hx.mono fun _ _ h => h.2
  have mul16 : ∀ {y z : Matrix (Fin 64) (Fin 64) ℝ}, Supp (fun i j => p i / 16 = p j / 16) y →
      Supp (fun i j => p i / 16 = p j / 16) z → Supp (fun i j => p i / 16 = p j / 16) (y * z) :=
    fun hy hz => hy.mul hz fun _ _ _ h1 h2 => h1.trans h2
  have one16 : Supp (fun i j => p i / 16 = p j / 16) (1 : Matrix (Fin 64) (Fin 64) ℝ) := Supp.one fun _ => rfl
  have ht : Supp (fun i j => p i / 16 = p j / 16) (inv16 p a) := by
    have p1 := mul16 hx' hx'
    have t1 := (one16.sub hx').add (mul16 (one16.sub hx') p1)
    have p2 := mul16 p1 p1
    have t2 := t1.add (mul16 t1 p2)
    exact t2.add (mul16 t2 (mul16 p2 p2))
  have hd : Supp (fun i j => p j / 16 < p i / 16 ∧ p i / 32 = p j / 32) (diag32 p a - diag16 p a) := by
    intro i j h
    simp only [diag32, diag16, Matrix.sub_apply, Matrix.of_apply] at h
    by_cases h32 : p i / 32 = p j / 32
    · by_cases hh : p i / 16 = p j / 16
      · simp [h32, hh] at h
      · simp only [h32, hh, if_true, if_false, sub_zero] at h
        have := ha i j h
        exact ⟨by omega, h32⟩
    · have hh : ¬ p i / 16 = p j / 16 := by omega
      simp [h32, hh] at h
  have z1 : (diag32 p a - diag16 p a) * inv16 p a * (diag32 p a - diag16 p a) = 0 := by
    have s1 : Supp (fun i j => p j / 16 < p i / 16 ∧ p i / 32 = p j / 32) ((diag32 p a - diag16 p a) * inv16 p a) :=
      hd.mul ht fun i k j h1 h2 => by omega
    refine (s1.mul hd (w := fun _ _ => False) fun i k j h1 h2 => ?_).eq_zero fun _ _ h => h
    omega
  have e2 := merging _ _ _ e1 z1
  have e2' : (1 + diag32 p a) * merge (inv16 p a) (diag32 p a - diag16 p a) = 1 := by
    have : (1 : Matrix (Fin 64) (Fin 64) ℝ) + diag32 p a = 1 + diag16 p a + (diag32 p a - diag16 p a) := by abel
    rw [this]; exact e2
  have ht2 : Supp (fun i j => p i / 32 = p j / 32) (merge (inv16 p a) (diag32 p a - diag16 p a)) := by
    have ht' : Supp (fun i j => p i / 32 = p j / 32) (inv16 p a) := ht.mono fun i j h => by omega
    have hd' : Supp (fun i j => p i / 32 = p j / 32) (diag32 p a - diag16 p a) := hd.mono fun i j h => h.2
    exact ht'.sub ((ht'.mul hd' fun _ _ _ h1 h2 => h1.trans h2).mul ht' fun _ _ _ h1 h2 => h1.trans h2)
  have ho : Supp (fun i j => p j / 32 < p i / 32) (off32 p a) := by
    intro i j h
    simp only [off32, Matrix.of_apply] at h
    by_cases h32 : p i / 32 = p j / 32
    · simp [h32] at h
    · simp only [h32, if_false] at h
      have := ha i j h
      omega
  have z2 : off32 p a * merge (inv16 p a) (diag32 p a - diag16 p a) * off32 p a = 0 := by
    have s1 : Supp (fun i j => p j / 32 < p i / 32) (off32 p a * merge (inv16 p a) (diag32 p a - diag16 p a)) :=
      ho.mul ht2 fun i k j h1 h2 => by omega
    refine (s1.mul ho (w := fun _ _ => False) fun i k j h1 h2 => ?_).eq_zero fun _ _ h => h
    have := hp i
    omega
  have e3 := merging _ _ _ e2' z2
  have : (1 : Matrix (Fin 64) (Fin 64) ℝ) + a = 1 + diag32 p a + off32 p a := by
    ext i j
    simp only [Matrix.add_apply, diag32, off32, Matrix.of_apply]
    by_cases h32 : p i / 32 = p j / 32 <;> simp [h32]
  rw [this]; exact e3

/-! ## One chunk -/

/-- A sum over the rows of a chunk of a function of the row's position, kept below `n`, is the sum over the positions below `n`. -/
theorem sum_masked (e : Equiv.Perm (Fin 64)) (f : ℕ → ℝ) (n : ℕ) (hn : n ≤ 64) :
    (∑ j, if (e j : ℕ) < n then f (e j) else 0) = ∑ j ∈ range n, f j := by
  rw [Equiv.sum_comp e (fun j : Fin 64 => if (j : ℕ) < n then f j else 0),
    Fin.sum_univ_eq_sum_range (fun j => if j < n then f j else 0) 64, ← Finset.sum_filter]
  congr 1
  ext j
  simp only [mem_filter, mem_range]
  omega

section
variable (e : Equiv.Perm (Fin 64)) (K Q V : Fin 64 → ι → ℝ) (b g : Fin 64 → ℝ) (S : ι → ι → ℝ)

/-- The running sum of the log-decays up to and including the row's position. -/
def cG (i : Fin 64) : ℝ := ∑ j, (if (e j : ℕ) ≤ e i then 1 else 0) * g j
/-- The decay between two rows. -/
def cDec (i j : Fin 64) : ℝ := if (e j : ℕ) ≤ e i then Real.exp (cG e g i - cG e g j) else 0
/-- The strictly triangular matrix of the chunk. -/
def cA : Matrix (Fin 64) (Fin 64) ℝ :=
  Matrix.of fun i j => if (e j : ℕ) < e i then (∑ c, (K i c * b i) * K j c) * cDec e g i j else 0
/-- Its inverse. -/
def cT : Matrix (Fin 64) (Fin 64) ℝ := triInv (fun i => (e i : ℕ)) (cA e K b g)
/-- What the rows write into the state. -/
def cVn (i : Fin 64) (d : ι) : ℝ :=
  (∑ j, cT e K b g i j * (V j d * b j)) - ∑ c, (∑ j, cT e K b g i j * (K j c * b j * Real.exp (cG e g j))) * S c d
/-- The rows' outputs. -/
def cOut (i : Fin 64) (d : ι) : ℝ :=
  (∑ c, (Q i c * Real.exp (cG e g i)) * S c d) + ∑ j, ((∑ c, Q i c * K j c) * cDec e g i j) * cVn e K V b g S j d
/-- The state after the chunk. -/
def cS (a d : ι) : ℝ :=
  S a d * Real.exp (∑ j, g j) + ∑ j, (K j a * Real.exp ((∑ j, g j) - cG e g j)) * cVn e K V b g S j d

end

section
variable (e : Equiv.Perm (Fin 64)) (q k v : ℕ → ι → ℝ) (β γ : ℕ → ℝ) (n0 : ℕ)
  {K Q V : Fin 64 → ι → ℝ} {b g : Fin 64 → ℝ}
  (hK : ∀ i, K i = k (n0 + e i)) (hQ : ∀ i, Q i = q (n0 + e i)) (hV : ∀ i, V i = v (n0 + e i))
  (hb : ∀ i, b i = β (n0 + e i)) (hg : ∀ i, g i = γ (n0 + e i))

/-- The sum of the first `n` log-decays of the chunk. -/
def cum (γ : ℕ → ℝ) (n0 n : ℕ) : ℝ := ∑ j ∈ range n, γ (n0 + j)

theorem cum_succ (n : ℕ) : cum γ n0 (n + 1) = cum γ n0 n + γ (n0 + n) := Finset.sum_range_succ _ _

/-- What position `n0 + n` writes. -/
def wr (n : ℕ) (d : ι) : ℝ := upd k v β γ (n0 + n) (state k v β γ (n0 + n)) d

include hg in
theorem cG_eq (i : Fin 64) : cG e g i = cum γ n0 (e i + 1) := by
  unfold cG cum
  rw [← sum_masked e (fun j => γ (n0 + j)) _ (e i).isLt]
  refine Finset.sum_congr rfl fun j _ => ?_
  rw [hg j]
  by_cases h : (e j : ℕ) ≤ e i
  · rw [if_pos h, if_pos (Nat.lt_succ_of_le h), one_mul]
  · rw [if_neg h, if_neg (by omega), zero_mul]

include hg in
theorem gtot_eq : ∑ j, g j = cum γ n0 64 := by
  unfold cum
  rw [← sum_masked e (fun j => γ (n0 + j)) 64 le_rfl]
  exact Finset.sum_congr rfl fun j _ => by rw [hg j, if_pos (e j).isLt]

/-- The state inside the chunk: the state the chunk found, decayed, and what the positions so far wrote, decayed. -/
theorem state_closed (n : ℕ) (a d : ι) : state k v β γ (n0 + n) a d
    = Real.exp (cum γ n0 n) * state k v β γ n0 a d
      + ∑ j ∈ range n, Real.exp (cum γ n0 n - cum γ n0 (j + 1)) * k (n0 + j) a * wr k v β γ n0 j d := by
  induction n with
  | zero => simp [cum]
  | succ n ih =>
    rw [← Nat.add_assoc, Finset.sum_range_succ]
    show state k v β γ (n0 + n) a d * Real.exp (γ (n0 + n)) + k (n0 + n) a * wr k v β γ n0 n d = _
    rw [ih, add_mul, Finset.sum_mul, sub_self, Real.exp_zero, one_mul, cum_succ, Real.exp_add, ← add_assoc]
    congr 1
    congr 1
    · ring
    · refine Finset.sum_congr rfl fun j _ => ?_
      rw [show cum γ n0 n + γ (n0 + n) - cum γ n0 (j + 1) = (cum γ n0 n - cum γ n0 (j + 1)) + γ (n0 + n) by ring, Real.exp_add]
      ring

theorem wr_closed (n : ℕ) (d : ι) : wr k v β γ n0 n d
    = v (n0 + n) d * β (n0 + n) - (∑ c, k (n0 + n) c * β (n0 + n) * Real.exp (cum γ n0 (n + 1)) * state k v β γ n0 c d)
      - ∑ j ∈ range n, (∑ c, (k (n0 + n) c * β (n0 + n)) * k (n0 + j) c)
          * Real.exp (cum γ n0 (n + 1) - cum γ n0 (j + 1)) * wr k v β γ n0 j d := by
  conv_lhs => unfold wr upd
  have : ∀ c, state k v β γ (n0 + n) c d * Real.exp (γ (n0 + n)) * k (n0 + n) c
      = k (n0 + n) c * Real.exp (cum γ n0 (n + 1)) * state k v β γ n0 c d
        + ∑ j ∈ range n, k (n0 + n) c * k (n0 + j) c * (Real.exp (cum γ n0 (n + 1) - cum γ n0 (j + 1)) * wr k v β γ n0 j d) := by
    intro c
    rw [state_closed, add_mul, add_mul, cum_succ, Real.exp_add, Finset.sum_mul, Finset.sum_mul]
    congr 1
    · ring
    · refine Finset.sum_congr rfl fun j _ => ?_
      rw [show cum γ n0 n + γ (n0 + n) - cum γ n0 (j + 1) = (cum γ n0 n - cum γ n0 (j + 1)) + γ (n0 + n) by ring, Real.exp_add]
      ring
  rw [Finset.sum_congr rfl fun c _ => this c, Finset.sum_add_distrib, Finset.sum_comm, mul_sub, mul_add, Finset.mul_sum, Finset.mul_sum,
    sub_sub]
  congr 1
  · ring
  congr 1
  · exact Finset.sum_congr rfl fun c _ => by ring
  · refine Finset.sum_congr rfl fun j _ => ?_
    rw [← Finset.sum_mul, mul_assoc, ← mul_assoc (β (n0 + n)), Finset.mul_sum]
    congr 1
    exact Finset.sum_congr rfl fun c _ => by ring

/-- The unit triangular system the rows' writes solve. -/
theorem cVn_eq (S : ι → ι → ℝ) (K V : Fin 64 → ι → ℝ) (b g : Fin 64 → ℝ) (i : Fin 64) (d : ι) :
    cVn e K V b g S i d = V i d * b i - (∑ c, K i c * b i * Real.exp (cG e g i) * S c d) - ∑ j, cA e K b g i j * cVn e K V b g S j d := by
  classical
  have hT : (1 + cA e K b g) * cT e K b g = 1 := triInv_spec _ (fun i => (e i).isLt) _ fun i j h => by
    by_contra h'
    exact h (if_neg h')
  let rhs : Matrix (Fin 64) ι ℝ := Matrix.of fun j d => V j d * b j - ∑ c, K j c * b j * Real.exp (cG e g j) * S c d
  have hv : (Matrix.of fun i d => cVn e K V b g S i d) = cT e K b g * rhs := by
    ext i d
    simp only [Matrix.of_apply, Matrix.mul_apply, rhs, cVn, mul_sub, Finset.sum_sub_distrib]
    congr 1
    simp only [Finset.sum_mul, Finset.mul_sum]
    rw [Finset.sum_comm]
    exact Finset.sum_congr rfl fun _ _ => Finset.sum_congr rfl fun _ _ => by ring
  have h1 : (1 + cA e K b g) * (Matrix.of fun i d => cVn e K V b g S i d) = rhs := by
    rw [hv, ← Matrix.mul_assoc, hT, Matrix.one_mul]
  have h2 := congrFun (congrFun h1 i) d
  rw [Matrix.add_mul, Matrix.one_mul, Matrix.add_apply, Matrix.mul_apply] at h2
  simp only [Matrix.of_apply, rhs] at h2
  linarith

include hK hV hb hg in
theorem cVn_wr (i : Fin 64) (d : ι) : cVn e K V b g (state k v β γ n0) i d = wr k v β γ n0 (e i) d := by
  induction h : (e i : ℕ) using Nat.strong_induction_on generalizing i with
  | _ n ih =>
    rw [cVn_eq, wr_closed, hV i, hb i, hK i, cG_eq e γ n0 hg i, h]
    congr 1
    rw [← sum_masked e _ n (h ▸ (e i).isLt.le)]
    refine Finset.sum_congr rfl fun j _ => ?_
    simp only [cA, Matrix.of_apply, h]
    by_cases hj : (e j : ℕ) < n
    · rw [if_pos hj, if_pos hj, ih _ hj j rfl, cDec, h, if_pos hj.le, cG_eq e γ n0 hg i, cG_eq e γ n0 hg j, hK i, hK j, hb i, h]
    · rw [if_neg hj, if_neg hj, zero_mul]

include hK hQ hV hb hg in
/-- THE CHUNK'S OUTPUTS are the recurrence's. -/
theorem cOut_eq (i : Fin 64) (d : ι) : cOut e K Q V b g (state k v β γ n0) i d = out q k v β γ (n0 + e i) d := by
  unfold cOut out
  have hs : ∀ a, state k v β γ (n0 + e i + 1) a d * q (n0 + e i) a
      = Q i a * Real.exp (cG e g i) * state k v β γ n0 a d
        + ∑ j, (Q i a * K j a) * (cDec e g i j * cVn e K V b g (state k v β γ n0) j d) := by
    intro a
    rw [Nat.add_assoc, state_closed k v β γ n0 (e i + 1), add_mul, cG_eq e γ n0 hg i, hQ i]
    congr 1
    · ring
    rw [← sum_masked e _ _ (e i).isLt, Finset.sum_mul]
    refine Finset.sum_congr rfl fun j _ => ?_
    rw [cVn_wr e k v β γ n0 hK hV hb hg, cDec, cG_eq e γ n0 hg i, cG_eq e γ n0 hg j, hK j]
    by_cases hj : (e j : ℕ) ≤ e i
    · rw [if_pos hj, if_pos (Nat.lt_succ_of_le hj)]; ring
    · rw [if_neg hj, if_neg (by omega)]; ring
  rw [Finset.sum_congr rfl fun a _ => hs a, Finset.sum_add_distrib, Finset.sum_comm]
  congr 1
  refine Finset.sum_congr rfl fun j _ => ?_
  rw [← Finset.sum_mul, mul_assoc]

include hK hV hb hg in
/-- THE STATE AFTER THE CHUNK is the recurrence's. -/
theorem cS_eq (a d : ι) : cS e K V b g (state k v β γ n0) a d = state k v β γ (n0 + 64) a d := by
  unfold cS
  rw [state_closed k v β γ n0 64, gtot_eq e γ n0 hg, mul_comm]
  congr 1
  rw [← sum_masked e _ 64 le_rfl]
  refine Finset.sum_congr rfl fun j _ => ?_
  rw [if_pos (e j).isLt, cVn_wr e k v β γ n0 hK hV hb hg, cG_eq e γ n0 hg j, hK j]
  ring

end

end Cert.Delta

end
-- ==== Proof.HeadAt.lean ====
/- One head of the kernel over the reals: when the chunk's queries, keys, values, strengths, log decays and state are
   real numbers, so is every stage of the head, and the output rows and the new state are the chunk form `cOut`, `cS`. -/
module

public import proofs.«01_k».proof.Proof.Masks
public import proofs.«01_k».proof.Proof.Chunk
public import Idealize.ShloMosaic.Lib.Pointwise

@[expose] public section

set_option maxRecDepth 65536

noncomputable section

namespace Cert.KernelIdeal.Head

open Idealize.ShloMosaic Idealize.ShloMosaic.TcCoe Idealize.ShloMosaic.Tactic
open Cert.KernelIdeal Cert.KernelIdeal.Gen

/-! ### Real arithmetic inside the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_dot {ι : Type} (s : Finset ι) (f g : ι → ℝ) :
    ∑ i ∈ s, ((f i : ℝ) : EReal) * ((g i : ℝ) : EReal) = ((∑ i ∈ s, f i * g i : ℝ) : EReal) := by
  rw [← coe_sum]; exact Finset.sum_congr rfl fun i _ => (EReal.coe_mul _ _).symm

theorem sel_coe (P : Prop) [Decidable P] (c : BitVec 1) (hc : c = if P then 1#1 else 0#1) (a b : ℝ) :
    Scalar.select c ((a : ℝ) : EReal) ((b : ℝ) : EReal) = ((if P then a else b : ℝ) : EReal) := by
  subst hc; by_cases h : P
  · rw [if_pos h, if_pos h]; rfl
  · rw [if_neg h, if_neg h]; rfl

/-! ### The stages at real data -/

theorem r64_eq (x : FVec Ideal S64x64 .f32) : r64 x = x := rfl

theorem zero64_apply (p j : Fin 64) : (zero64 (F := Ideal) (ix2 p j) : EReal) = ((0 : ℝ) : EReal) := by
  pointwise [zero64]; exact EReal.coe_zero.symm

theorem wide_apply (x : FVec Ideal S64x1 .f32) (p : Fin 64) (a : Fin 128) : wide x (ix2 p a) = x (ix2 p 0) := by
  pointwise [wide]

section mats
variable {A D : Matrix (Fin 64) (Fin 64) ℝ}

/-- A 64 by 64 block holds the real matrix `A`. -/
def Is (x : S64x64.Idx → EReal) (A : Matrix (Fin 64) (Fin 64) ℝ) : Prop := ∀ p j, x (ix2 p j) = ((A p j : ℝ) : EReal)

theorem Is.mm {x y : FVec Ideal S64x64 .bf16} (hx : Is x A) (hy : Is y D) : Is (mm64 x y) (A * D) := by
  intro p j
  pointwise [mm64]
  simp only [hx p _, hy _ j, coe_dot]
  rfl

theorem Is.tNext {t : FVec Ideal S64x64 .f32} {p : FVec Ideal S64x64 .bf16} (ht : Is t A) (hp : Is p D) :
    Is (tNext t p) (A + A * D) := by
  intro i j
  pointwise [Head.tNext, tp, r64_eq]
  simp only [ht i _, hp _ j, coe_dot, ← EReal.coe_add]
  rfl

theorem Is.pNext {t : FVec Ideal S64x64 .f32} {p : FVec Ideal S64x64 .bf16} (hp : Is p D) :
    Is (pNext t p) (D * D) := by
  intro i j
  pointwise [Head.pNext, tp, r64_eq]
  simp only [hp i _, hp _ j, coe_dot]
  rfl

theorem Is.add {x y : FVec Ideal S64x64 .f32} (hx : Is x A) (hy : Is y D) : Is (addf x y) (A + D) := by
  intro i j
  pointwise
  rw [hx, hy, ← EReal.coe_add]; rfl

theorem Is.sub {x y : FVec Ideal S64x64 .f32} (hx : Is x A) (hy : Is y D) : Is (subf x y) (A - D) := by
  intro i j
  pointwise
  rw [hx, hy, ← EReal.coe_sub]; rfl

theorem Is.one : Is (eye (F := Ideal)) 1 := by
  intro i j
  pointwise [eye]
  rw [show IntOp.cmpi .eq (rowI (ix2 i j)) (colI (ix2 i j)) = _ from diag_apply i j, ← EReal.coe_one, zero64_apply,
    sel_coe _ _ rfl, Matrix.one_apply]

theorem Is.zero : Is (zero64 (F := Ideal)) 0 := fun i j => zero64_apply i j

theorem Is.sel {x y : FVec Ideal S64x64 .f32} {c : IVec S64x64 1} {P : Fin 64 → Fin 64 → Prop} [∀ i j, Decidable (P i j)]
    (hc : ∀ i j, c (ix2 i j) = if P i j then 1#1 else 0#1) (hx : Is x A) (hy : Is y D) :
    Is (select c x y) (Matrix.of fun i j => if P i j then A i j else D i j) := by
  intro i j
  pointwise
  rw [hx, hy, sel_coe _ _ (hc i j)]
  rfl

theorem Is.merge {t d : FVec Ideal S64x64 .f32} (ht : Is t A) (hd : Is d D) : Is (merge t d) (Cert.Delta.merge A D) :=
  Is.sub ht (Is.mm (Is.mm ht hd) ht)

variable (w : BitVec 1)

theorem Is.a16 {a : FVec Ideal S64x64 .f32} (ha : Is a A) : Is (a16 a) (Cert.Delta.diag16 (fun i => (dirE w i : ℕ)) A) :=
  Is.sel (same4_apply w) ha Is.zero

theorem Is.inv16 {a : FVec Ideal S64x64 .f32} (ha : Is a A) : Is (inv16 a) (Cert.Delta.inv16 (fun i => (dirE w i : ℕ)) A) := by
  have hx := Is.a16 w ha
  have h0 := Is.sub Is.one hx
  have hp := Is.mm hx hx
  have h1 := Is.tNext h0 hp
  have hp1 := Is.pNext (t := subf eye (Head.a16 a)) hp
  have h2 := Is.tNext h1 hp1
  have hp2 := Is.pNext (t := Head.tNext (subf eye (Head.a16 a)) (r64 (mm64 (r64 (Head.a16 a)) (r64 (Head.a16 a))))) hp1
  exact Is.add h2 (Is.mm h2 hp2)

/-- The kernel's triangular inverse is the blockwise inverse of Chunk.lean. -/
theorem Is.triInv {a : FVec Ideal S64x64 .f32} (ha : Is a A) : Is (triInv a) (Cert.Delta.triInv (fun i => (dirE w i : ℕ)) A) :=
  Is.merge (Is.merge (Is.inv16 w ha) (Is.sub (Is.sel (same5_apply w) ha Is.zero) (Is.a16 w ha)))
    (Is.sel (same5_apply w) Is.zero ha)

end mats

section head

variable (w : BitVec 1) {b gc : FVec Ideal S64x1 .f32} {gr : FVec Ideal S1x64 .f32} {gt : FVec Ideal S1x1 .f32}
  {q k v : Vec Ideal S64x128 .bf16} {s : FVec Ideal S128x128 .f32}
  {B G : Fin 64 → ℝ} {K Q V : Fin 64 → Fin 128 → ℝ} {S : Fin 128 → Fin 128 → ℝ}
  (hb : ∀ p, (b (ix2 p 0) : EReal) = ((B p : ℝ) : EReal))
  (hgc : ∀ p, (gc (ix2 p 0) : EReal) = ((Cert.Delta.cG (dirE w) G p : ℝ) : EReal))
  (hgr : ∀ p, (gr (ix2 0 p) : EReal) = ((Cert.Delta.cG (dirE w) G p : ℝ) : EReal))
  (hgt : (gt (ix2 0 0) : EReal) = ((∑ j, G j : ℝ) : EReal))
  (hq : ∀ p a, (q (ix2 p a) : EReal) = ((Q p a : ℝ) : EReal))
  (hk : ∀ p a, (k (ix2 p a) : EReal) = ((K p a : ℝ) : EReal))
  (hv : ∀ p a, (v (ix2 p a) : EReal) = ((V p a : ℝ) : EReal))
  (hs : ∀ a d, (s (ix2 a d) : EReal) = ((S a d : ℝ) : EReal))

include hb hk in
theorem kB_apply (p : Fin 64) (a : Fin 128) : (kB b k (ix2 p a) : EReal) = ((K p a * B p : ℝ) : EReal) := by
  pointwise [kB, wide_apply]
  rw [hb, hk, ← EReal.coe_mul]

include hgc hgr in
theorem decay_is : Is (decay (incl w) gc gr) (Matrix.of fun i j => Cert.Delta.cDec (dirE w) G i j) := by
  intro i j
  pointwise [decay]
  rw [hgc, hgr, zero64_apply, ← EReal.coe_sub, sel_coe _ _ (incl_apply w i j), Ideal.exp_coe, sel_coe _ _ (incl_apply w i j)]
  unfold Cert.Delta.cDec
  by_cases h : (dirE w j : ℕ) ≤ dirE w i
  · simp only [if_pos h, Matrix.of_apply]
  · simp only [if_neg h, Matrix.of_apply]

include hb hk in
theorem hKQ_top (i j : Fin 64) : (extractStridedSlice S64x64 ![0, 0] (hKQ b q k) slices_S128x64_o0_0_S64x64 (ix2 i j) : EReal)
    = ((∑ c, (K i c * B i) * K j c : ℝ) : EReal) := by
  pointwise [hKQ, kQ]
  simp only [kB_apply hb hk i _, hk j _, coe_dot]

include hq hk in
theorem hKQ_bot (i j : Fin 64) : (extractStridedSlice S64x64 ![64, 0] (hKQ b q k) slices_S128x64_o64_0_S64x64 (ix2 i j) : EReal)
    = ((∑ c, Q i c * K j c : ℝ) : EReal) := by
  pointwise [hKQ, kQ]
  simp only [hq i _, hk j _, coe_dot]

include hb hk hgc hgr in
theorem tri_is : Is (triInv (aM (strict w) (hKQ b q k) (decay (incl w) gc gr))) (Cert.Delta.cT (dirE w) K B G) := by
  refine Is.triInv w (A := Cert.Delta.cA (dirE w) K B G) ?_
  refine Is.sel (D := 0) (strict_apply w) (A := Matrix.of fun i j => (∑ c, (K i c * B i) * K j c) * Cert.Delta.cDec (dirE w) G i j) ?_ Is.zero
  intro i j
  exact (congrArg₂ (fun x y : EReal => x * y) (hKQ_top hb hk i j) (decay_is w hgc hgr i j)).trans (EReal.coe_mul _ _).symm

include hb hk hgc hgr hv in
theorem hSol_left (i : Fin 64) (d : Fin 128) :
    (extractStridedSlice S64x128 ![0, 0] (hSol w b gc gr q k v) slices_S64x256_o0_0_S64x128 (ix2 i d) : EReal)
    = ((∑ j, Cert.Delta.cT (dirE w) K B G i j * (V j d * B j) : ℝ) : EReal) := by
  pointwise [hSol, sol, r64_eq, wide_apply]
  simp only [tri_is w hb hgc hgr hk (q := q) i _, hv _ d, hb, ← EReal.coe_mul, coe_sum]

include hb hk hgc hgr in
theorem hSol_right (i : Fin 64) (d : Fin 128) :
    (extractStridedSlice S64x128 ![0, 128] (hSol w b gc gr q k v) slices_S64x256_o0_128_S64x128 (ix2 i d) : EReal)
    = ((∑ j, Cert.Delta.cT (dirE w) K B G i j * (K j d * B j * Real.exp (Cert.Delta.cG (dirE w) G j)) : ℝ) : EReal) := by
  pointwise [hSol, sol, r64_eq, wide_apply]
  simp only [tri_is w hb hgc hgr hk (q := q) i _, kB_apply hb hk _ d, hgc, Ideal.exp_coe, ← EReal.coe_mul, coe_sum]

include hb hk hgc hgr hs in
theorem hR_top (i : Fin 64) (d : Fin 128) :
    (extractStridedSlice S64x128 ![0, 0] (hR w b gc gr q k v s) slices_S128x128_o0_0_S64x128 (ix2 i d) : EReal)
    = ((∑ c, (∑ j, Cert.Delta.cT (dirE w) K B G i j * (K j c * B j * Real.exp (Cert.Delta.cG (dirE w) G j))) * S c d : ℝ) : EReal) := by
  have h := fun c => hSol_right w (q := q) (v := v) hb hgc hgr hk i c
  pointwise at h
  pointwise [hR, rM]
  simp only [h, hs _ d, ← EReal.coe_mul, coe_sum]

include hq hgc hs in
theorem hR_bot (i : Fin 64) (d : Fin 128) :
    (extractStridedSlice S64x128 ![64, 0] (hR w b gc gr q k v s) slices_S128x128_o64_0_S64x128 (ix2 i d) : EReal)
    = ((∑ c, (Q i c * Real.exp (Cert.Delta.cG (dirE w) G i)) * S c d : ℝ) : EReal) := by
  pointwise [hR, rM, wide_apply]
  simp only [hq i _, hgc, Ideal.exp_coe, hs _ d, ← EReal.coe_mul, coe_sum]

include hb hk hgc hgr hv hs in
theorem vN_apply (i : Fin 64) (d : Fin 128) :
    (vN (hSol w b gc gr q k v) (hR w b gc gr q k v s) (ix2 i d) : EReal)
    = ((Cert.Delta.cVn (dirE w) K V B G S i d : ℝ) : EReal) := by
  exact (congrArg₂ (fun x y : EReal => x - y) (hSol_left w hb hgc hgr hk hv i d) (hR_top w hb hgc hgr hk hs i d)).trans
    (EReal.coe_sub _ _).symm

include hk hgc hgt in
theorem kD_apply (j : Fin 64) (a : Fin 128) :
    (kD k gc gt (ix2 j a) : EReal) = ((K j a * Real.exp ((∑ i, G i) - Cert.Delta.cG (dirE w) G j) : ℝ) : EReal) := by
  pointwise [kD, wide_apply]
  rw [hk, hgc, hgt, ← EReal.coe_sub, Ideal.exp_coe, ← EReal.coe_mul]

include hb hgc hgr hgt hq hk hv hs in
/-- The head's output rows are the chunk form's. -/
theorem hOut_apply (i : Fin 64) (d : Fin 128) :
    (hOut w b gc gr gt q k v s (ix2 i d) : EReal) = ((Cert.Delta.cOut (dirE w) K Q V B G S i d : ℝ) : EReal) := by
  have h1 := fun j => vN_apply w hb hgc hgr hk hv hs (q := q) j d
  have h2 := fun j => hKQ_bot (b := b) hq hk i j
  have h3 := decay_is w hgc hgr
  pointwise at h2
  unfold hOut
  rw [addf_apply, hR_bot w hgc hq hs]
  pointwise [hOU, oU, qkD, r64_eq]
  simp only [h1, h2, h3 i _, ← EReal.coe_mul, coe_sum, ← EReal.coe_add]
  rfl

include hb hgc hgr hgt hk hv hs in
/-- The head's state after the chunk is the chunk form's. -/
theorem hSt_apply (a d : Fin 128) :
    (hSt w b gc gr gt q k v s (ix2 a d) : EReal) = ((Cert.Delta.cS (dirE w) K V B G S a d : ℝ) : EReal) := by
  have h1 := fun j => vN_apply w hb hgc hgr hk hv hs (q := q) j d
  have h2 := fun j => kD_apply w hgc hgt hk j a
  pointwise [hSt, hOU, oU, qkD, r64_eq]
  simp only [h1, h2, hs, hgt, Ideal.exp_coe, ← EReal.coe_mul, coe_sum, ← EReal.coe_add]
  rfl

end head

end Cert.KernelIdeal.Head

end
-- ==== Proof.Gates.lean ====
/- The gates of a chunk over the reals: write strengths, log decays, their running sums and their total, head by head. -/
module

public import proofs.«01_k».proof.Proof.HeadAt

@[expose] public section

set_option maxRecDepth 65536

noncomputable section

namespace Cert.KernelIdeal.Head

open Idealize.ShloMosaic Idealize.ShloMosaic.TcCoe Idealize.ShloMosaic.Tactic
open Cert.KernelIdeal Cert.KernelIdeal.Gen

/-- The logistic function. -/
def sigm (x : ℝ) : ℝ := 1 / (1 + Real.exp (-x))

/-- The softplus function, in its stable form. -/
def spl (x : ℝ) : ℝ := max x 0 + Real.log (1 + Real.exp (-|x|))

/-- The log decay of one position: `-exp a * softplus (x + d)`. -/
def gate (a x d : ℝ) : ℝ := -Real.exp a * spl (x + d)

theorem one_add_exp_pos (x : ℝ) : 0 < 1 + Real.exp x := by positivity

theorem div_coe (x y : ℝ) (hy : y ≠ 0) : Ideal.div ((x : ℝ) : EReal) ((y : ℝ) : EReal) = ((x / y : ℝ) : EReal) := by
  rw [Ideal.div, if_neg (by rw [← EReal.coe_zero]; exact fun h => hy (EReal.coe_injective h)), ← EReal.coe_inv, ← EReal.coe_mul,
    div_eq_mul_inv]

theorem log_coe (x : ℝ) (hx : 0 < x) : Ideal.log ((x : ℝ) : EReal) = ((Real.log x : ℝ) : EReal) := by
  show (if x ≤ 0 then ⊥ else ((Real.log x : ℝ) : EReal)) = _
  rw [if_neg (not_le.mpr hx)]

theorem abs_coe (x : ℝ) : (FloatOps.absf (F := Ideal) (φ := .f32) ((x : ℝ) : EReal) : EReal) = ((|x| : ℝ) : EReal) := by
  show max ((x : ℝ) : EReal) (-((x : ℝ) : EReal)) = _
  rw [← EReal.coe_neg]
  exact (EReal.coe_strictMono.monotone.map_max).symm

theorem max_coe (x y : ℝ) : max ((x : ℝ) : EReal) ((y : ℝ) : EReal) = ((max x y : ℝ) : EReal) :=
  (EReal.coe_strictMono.monotone.map_max).symm

section
variable (w : BitVec 1) {x3 : Vec Ideal S1x64x128 .f32} {x4 x5 : Vec Ideal S1x1x128 .f32}
  {X : Fin 64 → Fin 128 → ℝ} {A D : Fin 128 → ℝ}
  (h3 : ∀ p c, (x3 (ix3 0 p c) : EReal) = ((X p c : ℝ) : EReal))
  (h4 : ∀ c, (x4 (ix3 0 0 c) : EReal) = ((A c : ℝ) : EReal))
  (h5 : ∀ c, (x5 (ix3 0 0 c) : EReal) = ((D c : ℝ) : EReal))

include h3 in
theorem betaT_apply (p : Fin 64) (c : Fin 128) : (betaT x3 (ix2 p c) : EReal) = ((sigm (X p c) : ℝ) : EReal) := by
  pointwise [betaT, k0_pay6, k0_pay5]
  rw [h3, ← EReal.coe_zero, ← EReal.coe_one, ← EReal.coe_sub, Ideal.exp_coe, ← EReal.coe_add, zero_sub,
    div_coe _ _ (one_add_exp_pos _).ne']
  rfl

include h3 h4 h5 in
theorem gT_apply (p : Fin 64) (c : Fin 128) :
    (gT x3 x4 x5 (ix2 p c) : EReal) = ((gate (A c) (X p c) (D c) : ℝ) : EReal) := by
  pointwise [gT, k0_pay7, k0_pay5]
  rw [h3, h4, h5, ← EReal.coe_zero, ← EReal.coe_one, ← EReal.coe_add, abs_coe, ← EReal.coe_sub, Ideal.exp_coe, Ideal.exp_coe,
    ← EReal.coe_add, log_coe _ (by positivity), max_coe, ← EReal.coe_add, ← EReal.coe_sub, ← EReal.coe_mul, zero_sub, zero_sub]
  rfl

end

section
variable (w : BitVec 1) {g : FVec Ideal S64x128 .f32} {M : Fin 64 → Fin 128 → ℝ}
  (hg : ∀ p c, (g (ix2 p c) : EReal) = ((M p c : ℝ) : EReal))

include hg in
theorem gcT_apply (p : Fin 64) (c : Fin 128) :
    (gcT w g (ix2 p c) : EReal) = ((Cert.Delta.cG (dirE w) (fun j => M j c) p : ℝ) : EReal) := by
  pointwise [gcT]
  simp only [zero64_apply, ← EReal.coe_one, hg _ c, sel_coe _ _ (incl_apply w p _), coe_dot]
  rfl

include hg in
theorem gtT_apply (c : Fin 128) : (gtT g (ix2 0 c) : EReal) = ((∑ j, M j c : ℝ) : EReal) := by
  pointwise [gtT]
  simp only [hg, coe_sum]

end

/-- The column that holds head `h` in direction `w`, of two groups of sixteen. -/
def colOf (w : BitVec 1) (n n' : Fin 4) (h : Fin 16) : Fin 128 :=
  ⟨16 * (if w = 1#1 then n else n' : Fin 4) + h, by split <;> omega⟩

theorem pickCol_apply (w : BitVec 1) (x : FVec Ideal S64x128 .f32) (n n' : Fin 4) (h : Fin 16) (p : Fin 64) :
    pickCol w x n n' h (ix2 p 0) = x (ix2 p (colOf w n n' h)) := by
  rcases (by decide +revert : w = 0#1 ∨ w = 1#1) with rfl | rfl <;> pointwise [pickCol]
  all_goals rfl

theorem pickRow_apply (w : BitVec 1) (x : FVec Ideal S128x64 .f32) (n n' : Fin 4) (h : Fin 16) (p : Fin 64) :
    pickRow w x n n' h (ix2 0 p) = x (ix2 (colOf w n n' h) p) := by
  rcases (by decide +revert : w = 0#1 ∨ w = 1#1) with rfl | rfl <;> pointwise [pickRow]
  all_goals rfl

theorem pickOne_apply (w : BitVec 1) (x : FVec Ideal S1x128 .f32) (n n' : Fin 4) (h : Fin 16) :
    pickOne w x n n' h (ix2 0 0) = x (ix2 0 (colOf w n n' h)) := by
  rcases (by decide +revert : w = 0#1 ∨ w = 1#1) with rfl | rfl <;> pointwise [pickOne]
  all_goals rfl

section
variable (w : BitVec 1) {x3 : Vec Ideal S1x64x128 .f32} {x4 x5 : Vec Ideal S1x1x128 .f32}
  {q k v : Fin 16 → Vec Ideal S64x128 .bf16} {s : Fin 16 → FVec Ideal S128x128 .f32}
  {X : Fin 64 → Fin 128 → ℝ} {A D : Fin 128 → ℝ}
  {K Q V : Fin 16 → Fin 64 → Fin 128 → ℝ} {S : Fin 16 → Fin 128 → Fin 128 → ℝ}
  (h3 : ∀ p c, (x3 (ix3 0 p c) : EReal) = ((X p c : ℝ) : EReal))
  (h4 : ∀ c, (x4 (ix3 0 0 c) : EReal) = ((A c : ℝ) : EReal))
  (h5 : ∀ c, (x5 (ix3 0 0 c) : EReal) = ((D c : ℝ) : EReal))
  (hq : ∀ h p a, (q h (ix2 p a) : EReal) = ((Q h p a : ℝ) : EReal))
  (hk : ∀ h p a, (k h (ix2 p a) : EReal) = ((K h p a : ℝ) : EReal))
  (hv : ∀ h p a, (v h (ix2 p a) : EReal) = ((V h p a : ℝ) : EReal))
  (hs : ∀ h a d, (s h (ix2 a d) : EReal) = ((S h a d : ℝ) : EReal))

/-- Head `h`'s write strengths in a chunk whose gate inputs are `X`. -/
def betaR (X : Fin 64 → Fin 128 → ℝ) (h : Fin 16) (p : Fin 64) : ℝ := sigm (X p (colOf w 0 1 h))

/-- Head `h`'s log decays in a chunk. -/
def gateR (X : Fin 64 → Fin 128 → ℝ) (A D : Fin 128 → ℝ) (h : Fin 16) (p : Fin 64) : ℝ :=
  gate (A (colOf w 2 3 h)) (X p (colOf w 2 3 h)) (D (colOf w 2 3 h))

include h3 in
theorem bC_apply (h : Fin 16) (p : Fin 64) : (bC w x3 h (ix2 p 0) : EReal) = ((betaR w X h p : ℝ) : EReal) := by
  unfold bC
  rw [pickCol_apply, betaT_apply h3]; rfl

include h3 h4 h5 in
theorem gC_apply (h : Fin 16) (p : Fin 64) :
    (gC w (gT x3 x4 x5) h (ix2 p 0) : EReal) = ((Cert.Delta.cG (dirE w) (gateR w X A D h) p : ℝ) : EReal) := by
  unfold gC
  rw [pickCol_apply, gcT_apply w (gT_apply h3 h4 h5)]; rfl

include h3 h4 h5 in
theorem gR_apply (h : Fin 16) (p : Fin 64) :
    (gR w (gT x3 x4 x5) h (ix2 0 p) : EReal) = ((Cert.Delta.cG (dirE w) (gateR w X A D h) p : ℝ) : EReal) := by
  unfold gR
  rw [pickRow_apply]
  pointwise
  rw [gcT_apply w (gT_apply h3 h4 h5)]; rfl

include h3 h4 h5 in
theorem gO_apply (h : Fin 16) :
    (gO w (gT x3 x4 x5) h (ix2 0 0) : EReal) = ((∑ j, gateR w X A D h j : ℝ) : EReal) := by
  unfold gO
  rw [pickOne_apply, gtT_apply (gT_apply h3 h4 h5)]; rfl

include h3 h4 h5 hq hk hv hs in
/-- The block a head stores to the output, at real data. -/
theorem outBlk_apply (h : Fin 16) (p : Fin 64) (d : Fin 128) :
    (outBlk w x3 x4 x5 q k v s h (ix3 0 p d) : EReal)
    = ((Cert.Delta.cOut (dirE w) (K h) (Q h) (V h) (betaR w X h) (gateR w X A D h) (S h) p d : ℝ) : EReal) := by
  unfold outBlk
  pointwise
  exact hOut_apply w (bC_apply w h3 h) (gC_apply w h3 h4 h5 h) (gR_apply w h3 h4 h5 h) (gO_apply w h3 h4 h5 h)
    (hq h) (hk h) (hv h) (hs h) p d

include h3 h4 h5 hk hv hs in
/-- The block a head stores to the state, at real data. -/
theorem stBlk_apply (h : Fin 16) (a d : Fin 128) :
    (stBlk w x3 x4 x5 q k v s h (ix3 0 a d) : EReal)
    = ((Cert.Delta.cS (dirE w) (K h) (V h) (betaR w X h) (gateR w X A D h) (S h) a d : ℝ) : EReal) := by
  unfold stBlk
  pointwise
  exact hSt_apply w (bC_apply w h3 h) (gC_apply w h3 h4 h5 h) (gR_apply w h3 h4 h5 h) (gO_apply w h3 h4 h5 h)
    (hk h) (hv h) (hs h) a d

end

end Cert.KernelIdeal.Head

end
-- ==== Proof.Seq.lean ====
/- The sequences the recurrence runs over, row by row of the call's arguments. A direction `d` and a batch `b` visit the
   batch's 256 context rows first and its 4096 latent rows after them, forwards when `d = 0` and each part backwards when
   `d = 1`. -/
module

public import proofs.«01_k».proof.Proof.Gates

@[expose] public section

noncomputable section

namespace Cert.Delta

open Cert.KernelIdeal.Head (sigm gate)

/-- The row of position `n`, as a number. -/
def rowN (d b n : ℕ) : ℕ :=
  if n < 256 then 16384 + 256 * b + (if d = 0 then n else 255 - n)
  else 4096 * b + (if d = 0 then n - 256 else 4351 - n)

theorem rowN_lt {d b n : ℕ} (hb : b < 4) (hn : n < 4352) : rowN d b n < 17408 := by
  unfold rowN; split <;> split <;> omega

/-- The row of position `n`. -/
def row (d : Fin 2) (b : Fin 4) (n : ℕ) : Fin 17408 := ⟨rowN d b n % 17408, Nat.mod_lt _ (by decide)⟩

theorem row_val (d : Fin 2) (b : Fin 4) {n : ℕ} (hn : n < 4352) : (row d b n : ℕ) = rowN d b n :=
  Nat.mod_eq_of_lt (rowN_lt b.isLt hn)

/-- Every row is visited. -/
theorem exists_row (d : Fin 2) (r : Fin 17408) : ∃ (b : Fin 4) (n : ℕ), n < 4352 ∧ row d b n = r := by
  obtain ⟨r, hr⟩ := r
  by_cases h : r < 16384
  · refine ⟨⟨r / 4096, by omega⟩, if d = 0 then 256 + r % 4096 else 4351 - r % 4096, by split <;> omega, ?_⟩
    apply Fin.ext
    rw [row_val _ _ (by split <;> omega)]
    match d with
    | ⟨0, _⟩ => simp [rowN]; first | omega | (split <;> omega)
    | ⟨1, _⟩ => simp [rowN]; first | omega | (split <;> omega)
  · refine ⟨⟨(r - 16384) / 256, by omega⟩, if d = 0 then r % 256 else 255 - r % 256, by split <;> omega, ?_⟩
    apply Fin.ext
    rw [row_val _ _ (by split <;> omega)]
    match d with
    | ⟨0, _⟩ => simp [rowN]; first | omega | (split <;> omega)
    | ⟨1, _⟩ => simp [rowN]; first | omega | (split <;> omega)

section
variable (X : Fin 17408 → Fin 6144 → ℝ) (Ba : Fin 17408 → Fin 128 → ℝ) (Al Dt : Fin 2 → Fin 16 → ℝ)
  (d : Fin 2) (b : Fin 4) (h : Fin 16)

/-- Head `h`'s queries, keys and values along the sequence. -/
def sQ (n : ℕ) (a : Fin 128) : ℝ := X (row d b n) ⟨128 * (h : ℕ) + a, by omega⟩
def sK (n : ℕ) (a : Fin 128) : ℝ := X (row d b n) ⟨2048 + (128 * (h : ℕ) + a), by omega⟩
def sV (n : ℕ) (a : Fin 128) : ℝ := X (row d b n) ⟨4096 + (128 * (h : ℕ) + a), by omega⟩

/-- Head `h`'s writing strengths and log decays along the sequence. -/
def sB (n : ℕ) : ℝ := sigm (Ba (row d b n) ⟨16 * (d : ℕ) + h, by omega⟩)
def sG (n : ℕ) : ℝ := gate (Al d h) (Ba (row d b n) ⟨32 + (16 * (d : ℕ) + h), by omega⟩) (Dt d h)

/-- The state after `n` positions, and the output of position `n`. -/
def sState (n : ℕ) : Fin 128 → Fin 128 → ℝ :=
  state (sK X d b h) (sV X d b h) (sB Ba d b h) (sG Ba Al Dt d b h) n
def sOut (n : ℕ) (e : Fin 128) : ℝ :=
  out (sQ X d b h) (sK X d b h) (sV X d b h) (sB Ba d b h) (sG Ba Al Dt d b h) n e

end

end Cert.Delta

end
-- ==== Proof.HostData.lean ====
/- What the host hands the kernel: the gate inputs padded to 128 columns. -/
module

public import proofs.«01_k».proof.Proof.Gen.KernelIdeal.Value
public import Idealize.ShloMosaic.Lib.Pointwise
public import Idealize.ShloMosaic.Lib.Claim
public import Idealize.ShloMosaic.Lib.KernelVsHost

@[expose] public section

set_option maxRecDepth 65536

noncomputable section

namespace Cert.KernelIdeal.Host

open Idealize.ShloMosaic Idealize.ShloMosaic.TcCoe Idealize.ShloMosaic.Tactic
open Cert.KernelIdeal Cert.KernelIdeal.Gen

variable (m : (ℓ : Loc nD τ sig) → Buf (Elt Ideal) ℓ)

theorem pad3_in (n : Nat) (x : (⟨3, ![1, n, 64]⟩ : Shape).Idx → EReal) (v : S_.Idx → EReal)
    (hp : (⟨3, ![1, n, 64]⟩ : Shape).Pads (![0, 0, 0] : Fin 3 → Nat) ![0, 0, 64] ![0, 0, 0] ⟨3, ![1, n, 128]⟩)
    (hu : 0 < S_.numel) (r : Fin n) (c : Fin 128) (hc : (c : ℕ) < 64) :
    pad (⟨3, ![1, n, 128]⟩ : Shape) ![0, 0, 0] ![0, 0, 64] ![0, 0, 0] x v hp hu (ix3 0 r c)
      = x (ix3 0 r ⟨c, hc⟩) := by
  refine pad_apply_of_inside _ _ _ x v hp hu _ (ix3 0 r ⟨c, hc⟩) ?_
  intro t
  match t with
  | ⟨0, _⟩ => rfl
  | ⟨1, _⟩ => simp
  | ⟨2, _⟩ => simp

theorem pad3_out (n : Nat) (x : (⟨3, ![1, n, 64]⟩ : Shape).Idx → EReal) (v : S_.Idx → EReal)
    (hp : (⟨3, ![1, n, 64]⟩ : Shape).Pads (![0, 0, 0] : Fin 3 → Nat) ![0, 0, 64] ![0, 0, 0] ⟨3, ![1, n, 128]⟩)
    (hu : 0 < S_.numel) (r : Fin n) (c : Fin 128) (hc : ¬ (c : ℕ) < 64) :
    pad (⟨3, ![1, n, 128]⟩ : Shape) ![0, 0, 0] ![0, 0, 64] ![0, 0, 0] x v hp hu (ix3 0 r c)
      = v (Shape.Idx.first hu) := by
  refine pad_apply_of_not_inside _ _ _ x v hp hu _ (2 : Fin 3) ?_
  rintro ⟨-, -, h⟩
  exact hc (by simpa using h)

/-- The padding value, an integer zero read as a float. -/
theorem padding_zero (i : S_.Idx) :
    ((sitofp .f32 (constantI S_ 32 0#32) : FVec Ideal S_ .f32) i : EReal) = ((0 : ℝ) : EReal) := by
  show (((((0#32 : BitVec 32).toInt : ℤ) : ℝ)) : EReal) = _
  simp

/-- The gate inputs: the first 64 columns are the argument's, the rest zero. -/
theorem V_gates (c : Dev nD) (r : Fin 17408) (k : Fin 128) :
    (V m c main_v5 (ix3 0 r k) : EReal)
      = if (k : ℕ) < 64 then (m ((c : Thread nD τ).loc main_arg1) (ix2 r k) : EReal) else ((0 : ℝ) : EReal) := by
  show StableHlo.after _ _ (Proc.devRef .tc _) _ = _
  simp only [hostOps0, hostOps0_1, hostOps0_2, hostOps0_3, hostOps0_4, hostOps0_5, List.flatten_cons, List.flatten_nil, List.append_nil, List.cons_append, List.nil_append]
  after_results
  by_cases hk : (k : ℕ) < 64
  · rw [if_pos hk]
    refine (pad3_in 17408 _ _ pads_S1x17408x64_S1x17408x128_000_000_0640 h_S_ r k hk).trans ?_
    pointwise
    refine congrArg (m ((c : Thread nD τ).loc main_arg1)) (congrArg (ix2 r) (Fin.ext ?_))
    show (k : ℕ) / 16 * 16 + (k : ℕ) % 16 = k
    omega
  · rw [if_neg hk]
    refine (pad3_out 17408 _ _ pads_S1x17408x64_S1x17408x128_000_000_0640 h_S_ r k hk).trans ?_
    exact padding_zero (Shape.Idx.first h_S_)

/-- A per-direction parameter's place among the 128 columns: 32 columns in, direction by direction. -/
theorem V_rates (c : Dev nD) (d : Fin 2) (h : Fin 16) :
    (V m c main_v11 (ix3 0 0 ⟨32 + (16 * (d : ℕ) + h), by omega⟩) : EReal)
      = (m ((c : Thread nD τ).loc main_arg2) (ix2 d h) : EReal) := by
  show StableHlo.after _ _ (Proc.devRef .tc _) _ = _
  simp only [hostOps0, hostOps0_1, hostOps0_2, hostOps0_3, hostOps0_4, hostOps0_5, List.flatten_cons, List.flatten_nil, List.append_nil, List.cons_append, List.nil_append]
  after_results
  refine (pad3_in 1 _ _ pads_S1x1x64_S1x1x128_000_000_0640 h_S_ 0 _ (by show 32 + (16 * (d : ℕ) + h) < 64; omega)).trans ?_
  pointwise
  have e : (32 + (16 * (d : ℕ) + h)) / 16 * 16 + (32 + (16 * (d : ℕ) + h)) % 16 = 32 + (16 * (d : ℕ) + h) := by omega
  refine (dif_neg (show ¬ (32 + (16 * (d : ℕ) + h)) / 16 * 16 + (32 + (16 * (d : ℕ) + h)) % 16 < 32 by omega)).trans ?_
  refine congrArg (m ((c : Thread nD τ).loc main_arg2)) (congrArg₂ ix2 (Fin.ext ?_) (Fin.ext ?_))
  · show ((32 + (16 * (d : ℕ) + h)) / 16 * 16 + (32 + (16 * (d : ℕ) + h)) % 16 - 32) / 16 = d
    omega
  · show ((32 + (16 * (d : ℕ) + h)) / 16 * 16 + (32 + (16 * (d : ℕ) + h)) % 16 - 32) % 16 = h
    omega

theorem V_rates_zero (c : Dev nD) (k : Fin 128) (hk : ¬ (32 ≤ (k : ℕ) ∧ (k : ℕ) < 64)) :
    (V m c main_v11 (ix3 0 0 k) : EReal) = ((0 : ℝ) : EReal) := by
  show StableHlo.after _ _ (Proc.devRef .tc _) _ = _
  simp only [hostOps0, hostOps0_1, hostOps0_2, hostOps0_3, hostOps0_4, hostOps0_5, List.flatten_cons, List.flatten_nil, List.append_nil, List.cons_append, List.nil_append]
  after_results
  by_cases h64 : (k : ℕ) < 64
  · refine (pad3_in 1 _ _ pads_S1x1x64_S1x1x128_000_000_0640 h_S_ 0 k h64).trans ?_
    pointwise
    exact (dif_pos (show (k : ℕ) / 16 * 16 + (k : ℕ) % 16 < 32 by omega)).trans EReal.coe_zero.symm
  · refine (pad3_out 1 _ _ pads_S1x1x64_S1x1x128_000_000_0640 h_S_ 0 k h64).trans ?_
    exact padding_zero (Shape.Idx.first h_S_)

/-- A per-direction parameter's place among the 128 columns: 32 columns in, direction by direction. -/
theorem V_biases (c : Dev nD) (d : Fin 2) (h : Fin 16) :
    (V m c main_v17 (ix3 0 0 ⟨32 + (16 * (d : ℕ) + h), by omega⟩) : EReal)
      = (m ((c : Thread nD τ).loc main_arg3) (ix2 d h) : EReal) := by
  show StableHlo.after _ _ (Proc.devRef .tc _) _ = _
  simp only [hostOps0, hostOps0_1, hostOps0_2, hostOps0_3, hostOps0_4, hostOps0_5, List.flatten_cons, List.flatten_nil, List.append_nil, List.cons_append, List.nil_append]
  after_results
  refine (pad3_in 1 _ _ pads_S1x1x64_S1x1x128_000_000_0640 h_S_ 0 _ (by show 32 + (16 * (d : ℕ) + h) < 64; omega)).trans ?_
  pointwise
  have e : (32 + (16 * (d : ℕ) + h)) / 16 * 16 + (32 + (16 * (d : ℕ) + h)) % 16 = 32 + (16 * (d : ℕ) + h) := by omega
  refine (dif_neg (show ¬ (32 + (16 * (d : ℕ) + h)) / 16 * 16 + (32 + (16 * (d : ℕ) + h)) % 16 < 32 by omega)).trans ?_
  refine congrArg (m ((c : Thread nD τ).loc main_arg3)) (congrArg₂ ix2 (Fin.ext ?_) (Fin.ext ?_))
  · show ((32 + (16 * (d : ℕ) + h)) / 16 * 16 + (32 + (16 * (d : ℕ) + h)) % 16 - 32) / 16 = d
    omega
  · show ((32 + (16 * (d : ℕ) + h)) / 16 * 16 + (32 + (16 * (d : ℕ) + h)) % 16 - 32) % 16 = h
    omega

theorem V_biases_zero (c : Dev nD) (k : Fin 128) (hk : ¬ (32 ≤ (k : ℕ) ∧ (k : ℕ) < 64)) :
    (V m c main_v17 (ix3 0 0 k) : EReal) = ((0 : ℝ) : EReal) := by
  show StableHlo.after _ _ (Proc.devRef .tc _) _ = _
  simp only [hostOps0, hostOps0_1, hostOps0_2, hostOps0_3, hostOps0_4, hostOps0_5, List.flatten_cons, List.flatten_nil, List.append_nil, List.cons_append, List.nil_append]
  after_results
  by_cases h64 : (k : ℕ) < 64
  · refine (pad3_in 1 _ _ pads_S1x1x64_S1x1x128_000_000_0640 h_S_ 0 k h64).trans ?_
    pointwise
    exact (dif_pos (show (k : ℕ) / 16 * 16 + (k : ℕ) % 16 < 32 by omega)).trans EReal.coe_zero.symm
  · refine (pad3_out 1 _ _ pads_S1x1x64_S1x1x128_000_000_0640 h_S_ 0 k h64).trans ?_
    exact padding_zero (Shape.Idx.first h_S_)

end Cert.KernelIdeal.Host

end
-- ==== Proof.Blocks.lean ====
/- The blocks a grid point works on, element by element of the arrays they are cut from. -/
module

public import proofs.«01_k».proof.Proof.Seq
public import proofs.«01_k».proof.Proof.HostData

@[expose] public section

set_option maxRecDepth 65536

noncomputable section

namespace Cert.KernelIdeal.Blocks

open Idealize.ShloMosaic Idealize.ShloMosaic.TcCoe Idealize.ShloMosaic.Tactic
open Cert.KernelIdeal Cert.KernelIdeal.Gen

/-- The block of 64 rows that point `t` works on: the context blocks of a batch come before its latent ones, and each part
    runs backwards in the second direction. -/
def rb (t : ℕ) : ℕ :=
  if t % 68 < 4 then 256 + 4 * (t / 136) + (if t / 68 % 2 = 0 then t % 68 else 3 - t % 68)
  else 64 * (t / 136) + (if t / 68 % 2 = 0 then t % 68 - 4 else 67 - t % 68)

theorem rb_lt {t : ℕ} (ht : t < 544) : rb t < 272 := by
  unfold rb; split <;> split <;> omega

theorem map0 : ∀ t : Fin grid0.N, cc0_transform_0 (grid0.coords t) 0 = rb t ∧ cc0_transform_0 (grid0.coords t) 1 = 0 := by
  decide +kernel
theorem map1 : ∀ t : Fin grid0.N, cc0_transform_1 (grid0.coords t) 0 = rb t ∧ cc0_transform_1 (grid0.coords t) 1 = 1 := by
  decide +kernel
theorem map2 : ∀ t : Fin grid0.N, cc0_transform_2 (grid0.coords t) 0 = rb t ∧ cc0_transform_2 (grid0.coords t) 1 = 2 := by
  decide +kernel
theorem map3 : ∀ t : Fin grid0.N, cc0_transform_3 (grid0.coords t) 0 = 0 ∧ cc0_transform_3 (grid0.coords t) 1 = rb t
    ∧ cc0_transform_3 (grid0.coords t) 2 = 0 := by
  decide +kernel
theorem map4 : ∀ t : Fin grid0.N, cc0_transform_4 (grid0.coords t) 0 = 0 ∧ cc0_transform_4 (grid0.coords t) 1 = 0
    ∧ cc0_transform_4 (grid0.coords t) 2 = 0 := by
  decide +kernel
theorem map5 : ∀ t : Fin grid0.N, cc0_transform_5 (grid0.coords t) 0 = 0 ∧ cc0_transform_5 (grid0.coords t) 1 = 0
    ∧ cc0_transform_5 (grid0.coords t) 2 = 0 := by
  decide +kernel
theorem map6 : ∀ t : Fin grid0.N, cc0_transform_6 (grid0.coords t) 0 = (t : ℕ) / 68 % 2 ∧ cc0_transform_6 (grid0.coords t) 1 = rb t
    ∧ cc0_transform_6 (grid0.coords t) 2 = 0 := by
  decide +kernel

theorem fwd_point : ∀ t : Fin grid0.N, Head.fwd (grid0.coords t) = if (t : ℕ) / 68 % 2 = 0 then 1#1 else 0#1 := by
  decide +kernel

theorem tlt (t : Fin cfg0.N) : (t : ℕ) < 544 := Nat.lt_of_lt_of_eq t.isLt N_0

section
variable {F : FTy → Type} [FloatOps F] (m : (ℓ : Loc nD τ sig) → Buf (Elt F) ℓ) (c : Dev nD) (t : Fin cfg0.N)

theorem blk0 (p : Fin 64) (a : Fin 2048) :
    (iblk m c 0 t : Vec F S64x2048 .bf16) (ix2 p a)
      = m ((c : Thread nD τ).loc main_arg0) (ix2 ⟨64 * rb t + p, by have := rb_lt (tlt t); omega⟩ ⟨a, by omega⟩) := by
  refine Eq.trans (show _ = V m c main_arg0 (((cfg0.win 0).rect t).emb (ix2 p a)) from rfl) ?_
  rw [V_main_arg0]
  refine congrArg _ ?_
  funext x; apply Fin.ext
  refine ((cfg0.win 0).rect_emb_val t _ x).trans ?_
  match x with
  | ⟨0, _⟩ => exact (congrArg (· * 64 + (p : ℕ)) (map0 t).1).trans (by show rb t * 64 + (p : ℕ) = 64 * rb t + p; omega)
  | ⟨1, _⟩ => exact (congrArg (· * 2048 + (a : ℕ)) (map0 t).2).trans (by show 0 * 2048 + (a : ℕ) = a; omega)

theorem blk1 (p : Fin 64) (a : Fin 2048) :
    (iblk m c 1 t : Vec F S64x2048 .bf16) (ix2 p a)
      = m ((c : Thread nD τ).loc main_arg0) (ix2 ⟨64 * rb t + p, by have := rb_lt (tlt t); omega⟩ ⟨2048 + a, by omega⟩) := by
  refine Eq.trans (show _ = V m c main_arg0 (((cfg0.win 1).rect t).emb (ix2 p a)) from rfl) ?_
  rw [V_main_arg0]
  refine congrArg _ ?_
  funext x; apply Fin.ext
  refine ((cfg0.win 1).rect_emb_val t _ x).trans ?_
  match x with
  | ⟨0, _⟩ => exact (congrArg (· * 64 + (p : ℕ)) (map1 t).1).trans (by show rb t * 64 + (p : ℕ) = 64 * rb t + p; omega)
  | ⟨1, _⟩ => exact (congrArg (· * 2048 + (a : ℕ)) (map1 t).2).trans (by show 1 * 2048 + (a : ℕ) = 2048 + a; omega)

theorem blk2 (p : Fin 64) (a : Fin 2048) :
    (iblk m c 2 t : Vec F S64x2048 .bf16) (ix2 p a)
      = m ((c : Thread nD τ).loc main_arg0) (ix2 ⟨64 * rb t + p, by have := rb_lt (tlt t); omega⟩ ⟨4096 + a, by omega⟩) := by
  refine Eq.trans (show _ = V m c main_arg0 (((cfg0.win 2).rect t).emb (ix2 p a)) from rfl) ?_
  rw [V_main_arg0]
  refine congrArg _ ?_
  funext x; apply Fin.ext
  refine ((cfg0.win 2).rect_emb_val t _ x).trans ?_
  match x with
  | ⟨0, _⟩ => exact (congrArg (· * 64 + (p : ℕ)) (map2 t).1).trans (by show rb t * 64 + (p : ℕ) = 64 * rb t + p; omega)
  | ⟨1, _⟩ => exact (congrArg (· * 2048 + (a : ℕ)) (map2 t).2).trans (by show 2 * 2048 + (a : ℕ) = 4096 + a; omega)

theorem blk3 (p : Fin 64) (a : Fin 128) :
    (iblk m c 3 t : Vec F S1x64x128 .f32) (ix3 0 p a)
      = V m c main_v5 (ix3 0 ⟨64 * rb t + p, by have := rb_lt (tlt t); omega⟩ a) := by
  refine Eq.trans (show _ = V m c main_v5 (((cfg0.win 3).rect t).emb (ix3 0 p a)) from rfl) ?_
  refine congrArg _ ?_
  funext x; apply Fin.ext
  refine ((cfg0.win 3).rect_emb_val t _ x).trans ?_
  match x with
  | ⟨0, _⟩ => exact (congrArg (· * 1 + 0) (map3 t).1)
  | ⟨1, _⟩ => exact (congrArg (· * 64 + (p : ℕ)) (map3 t).2.1).trans (by show rb t * 64 + (p : ℕ) = 64 * rb t + p; omega)
  | ⟨2, _⟩ => exact (congrArg (· * 128 + (a : ℕ)) (map3 t).2.2).trans (by show 0 * 128 + (a : ℕ) = a; omega)

theorem blk4 (a : Fin 128) : (iblk m c 4 t : Vec F S1x1x128 .f32) (ix3 0 0 a) = V m c main_v11 (ix3 0 0 a) := by
  refine Eq.trans (show _ = V m c main_v11 (((cfg0.win 4).rect t).emb (ix3 0 0 a)) from rfl) ?_
  refine congrArg _ ?_
  funext x; apply Fin.ext
  refine ((cfg0.win 4).rect_emb_val t _ x).trans ?_
  match x with
  | ⟨0, _⟩ => exact (congrArg (· * 1 + 0) (map4 t).1)
  | ⟨1, _⟩ => exact (congrArg (· * 1 + 0) (map4 t).2.1)
  | ⟨2, _⟩ => exact (congrArg (· * 128 + (a : ℕ)) (map4 t).2.2).trans (by show 0 * 128 + (a : ℕ) = a; omega)

theorem blk5 (a : Fin 128) : (iblk m c 5 t : Vec F S1x1x128 .f32) (ix3 0 0 a) = V m c main_v17 (ix3 0 0 a) := by
  refine Eq.trans (show _ = V m c main_v17 (((cfg0.win 5).rect t).emb (ix3 0 0 a)) from rfl) ?_
  refine congrArg _ ?_
  funext x; apply Fin.ext
  refine ((cfg0.win 5).rect_emb_val t _ x).trans ?_
  match x with
  | ⟨0, _⟩ => exact (congrArg (· * 1 + 0) (map5 t).1)
  | ⟨1, _⟩ => exact (congrArg (· * 1 + 0) (map5 t).2.1)
  | ⟨2, _⟩ => exact (congrArg (· * 128 + (a : ℕ)) (map5 t).2.2).trans (by show 0 * 128 + (a : ℕ) = a; omega)

end

end Cert.KernelIdeal.Blocks

end
-- ==== Proof.Loads.lean ====
/- What the body loads and what its stores leave, element by element. -/
module

public import proofs.«01_k».proof.Proof.Head
public import Idealize.ShloMosaic.Lib.Pointwise
public import Idealize.ShloMosaic.Lib.WholeRead
public import Idealize.ShloMosaic.Lib.Writes

@[expose] public section

set_option maxRecDepth 65536

noncomputable section

namespace Cert.KernelIdeal.Head

open Idealize.ShloMosaic Idealize.ShloMosaic.TcCoe Idealize.ShloMosaic.Tactic
open Cert.KernelIdeal Cert.KernelIdeal.Gen

variable {F : FTy → Type} [FloatOps F]

theorem cols_apply (m : Memref sig .tc .vmem S64x2048 .bf16) (hm : m.IsWhole) (x : Vec F S64x2048 .bf16) (h : Fin 16)
    (p : Fin 64) (a : Fin 128) :
    cols m hm x h (ix2 p a) = x (ix2 p ⟨128 * (h : ℕ) + a, by omega⟩) := by
  refine (hm.readAt_unread x _ _).trans (congrArg x ?_)
  funext t; apply Fin.ext
  match t with
  | ⟨0, _⟩ => exact (Nat.zero_add _).trans (Nat.one_mul _)
  | ⟨1, _⟩ => exact congrArg (128 * (h : ℕ) + ·) (Nat.one_mul (a : ℕ))

theorem cast_state {α : Type} (x : S1x128x128.Idx → α) (a b : Fin 128) :
    shapeCast S128x128 x shapeCasts_S1x128x128_S128x128 (ix2 a b) = x (ix3 0 a b) := by
  pointwise

theorem stOf_apply (m : Memref sig .tc .vmem S16x128x128 .f32) (hm : m.IsWhole) (x : Vec F S16x128x128 .f32) (h : Fin 16)
    (a b : Fin 128) : stOf m hm x h (ix2 a b) = x (ix3 h a b) := by
  refine (cast_state _ a b).trans ((hm.readAt_unread x _ _).trans (congrArg x ?_))
  funext t; apply Fin.ext
  match t with
  | ⟨0, _⟩ => rfl
  | ⟨1, _⟩ => exact (Nat.zero_add _).trans (Nat.one_mul _)
  | ⟨2, _⟩ => exact (Nat.zero_add _).trans (Nat.one_mul _)

theorem allOf3_eq (m : Memref sig .tc .vmem S1x64x128 .f32) (hm : m.IsWhole) (x : Vec F S1x64x128 .f32) :
    allOf3 m hm x = x := by
  unfold allOf3
  rw [View.readAt_eq_ld, hm.read_unread]
  exact View.ld_unit_zero (by decide) _ _

theorem allOf4_eq (m : Memref sig .tc .vmem S1x1x128 .f32) (hm : m.IsWhole) (x : Vec F S1x1x128 .f32) :
    allOf4 m hm x = x := by
  unfold allOf4
  rw [View.readAt_eq_ld, hm.read_unread]
  exact View.ld_unit_zero (by decide) _ _

theorem st0_apply (m : Memref sig .tc .vmem S16x128x128 .f32) (h : Fin 16)
    (a b : Fin 128) : st0 (F := F) m h (ix2 a b) = Scalar.ofBits .f32 0x00000000#32 := by
  refine (cast_state _ a b).trans ?_
  have hc : ∀ y : S16x128x128.Idx, ∃ p ∈ kernelRun0_A.sl.HS0_1 (F := F), y ∈ p.1.set := fun y =>
    ⟨_, List.mem_cons_self, View.mem_set_unit_zero (by decide) inb_S16x128x128_S16x128x128_0_0_0 y⟩
  rw [View.readCov_eq_canon_ld _ _ _ hc]
  unfold kernelRun0_A.sl.HS0_1
  rw [View.canon_cons_unit_zero (by decide)]
  rfl

section
variable (w : BitVec 1) (x3 : Vec F S1x64x128 .f32) (x4 x5 : Vec F S1x1x128 .f32)
  (q k v : Fin 16 → Vec F S64x128 .bf16) (s : Fin 16 → FVec F S128x128 .f32)

/-- The output block the sixteen stores leave: head `h` in columns `128 h` to `128 h + 127`. -/
theorem read_outPieces {sig' : RefSig} {κ : Kind} {sp : Space} (V : View sig' κ sp S1x64x2048 .bf16) (f) (h : Fin 16) (p : Fin 64) (d : Fin 128) :
    V.read (Elt F) (V.writes (Elt F) f (outPieces w x3 x4 x5 q k v s)) (ix3 0 p ⟨128 * (h : ℕ) + d, by omega⟩)
    = outBlk w x3 x4 x5 q k v s h (ix3 0 p d) := by
  have e := View.read_writes_apply_of_pieces V f
    (fun y : S1x64x2048.Idx => outBlk w x3 x4 x5 q k v s ⟨(y 2 : ℕ) / 128, by have := (y 2).isLt; simp at this; omega⟩
      (ix3 0 (y 1) ⟨(y 2 : ℕ) % 128, Nat.mod_lt _ (by decide)⟩)) (outPieces w x3 x4 x5 q k v s) ?_
      (ix3 0 p ⟨128 * (h : ℕ) + d, by omega⟩) ?_
  · rw [e]
    have h1 : (128 * (h : ℕ) + (d : ℕ)) / 128 = h := by omega
    have h2 : (128 * (h : ℕ) + (d : ℕ)) % 128 = d := by omega
    exact congrArg₂ (fun (a : Fin 16) (b : Fin 128) => outBlk w x3 x4 x5 q k v s a (ix3 0 p b)) (Fin.ext h1) (Fin.ext h2)
  · intro pc hpc x
    obtain ⟨h', -, rfl⟩ := List.mem_map.mp hpc
    have hx : (x 2 : ℕ) < 128 := (x 2).isLt
    have e2 : (128 * (h' : ℕ) + 1 * (x 2 : ℕ)) / 128 = h' := by omega
    have e3 : (128 * (h' : ℕ) + 1 * (x 2 : ℕ)) % 128 = (x 2 : ℕ) := by omega
    have key : ∀ (a : Fin 16) (b : S1x64x128.Idx), h' = a → x = b →
        outBlk w x3 x4 x5 q k v s h' x = outBlk w x3 x4 x5 q k v s a b := by rintro _ _ rfl rfl; rfl
    refine key _ _ (Fin.ext e2.symm) ?_
    · funext t; apply Fin.ext
      match t with
      | ⟨0, _⟩ => have := (x 0).isLt; simp at this; exact (by omega : (x 0 : ℕ) = 0)
      | ⟨1, _⟩ => exact ((Nat.zero_add _).trans (Nat.one_mul (x 1 : ℕ))).symm
      | ⟨2, _⟩ => exact e3.symm
  · refine ⟨_, List.mem_map.mpr ⟨h, List.mem_reverse.mpr (List.mem_finRange h), rfl⟩, ?_⟩
    refine (Rect.mem_set_unit (inb := inbO h)).mpr fun t => ?_
    match t with
    | ⟨0, _⟩ => exact ⟨Nat.le_refl 0, Nat.zero_lt_one⟩
    | ⟨1, _⟩ => exact ⟨Nat.zero_le _, lt_of_lt_of_le p.isLt (Nat.le_add_left _ _)⟩
    | ⟨2, _⟩ => exact ⟨Nat.le_add_right _ _, Nat.add_lt_add_left d.isLt _⟩

/-- The state the sixteen stores leave, over whatever was stored before. -/
theorem read_stPieces {sig' : RefSig} {κ : Kind} {sp : Space} (V : View sig' κ sp S16x128x128 .f32) (f) (h : Fin 16) (a d : Fin 128) :
    V.read (Elt F) (V.writes (Elt F) f (stPieces w x3 x4 x5 q k v s)) (ix3 h a d)
    = stBlk w x3 x4 x5 q k v s h (ix3 0 a d) := by
  have e := View.read_writes_apply_of_pieces V f
    (fun y : S16x128x128.Idx => stBlk w x3 x4 x5 q k v s (y 0) (ix3 0 (y 1) (y 2))) (stPieces w x3 x4 x5 q k v s) ?_
      (ix3 h a d) ?_
  · exact e
  · intro pc hpc x
    obtain ⟨h', -, rfl⟩ := List.mem_map.mp hpc
    have h0 : (x 0 : ℕ) = 0 := by have := (x 0).isLt; simp at this; omega
    have key : ∀ (a : Fin 16) (b : S1x128x128.Idx), h' = a → x = b →
        stBlk w x3 x4 x5 q k v s h' x = stBlk w x3 x4 x5 q k v s a b := by rintro _ _ rfl rfl; rfl
    refine key _ _ (Fin.ext (by show (h' : ℕ) = (h' : ℕ) + 1 * (x 0 : ℕ); omega)) ?_
    · funext t; apply Fin.ext
      match t with
      | ⟨0, _⟩ => exact h0
      | ⟨1, _⟩ => exact ((Nat.zero_add _).trans (Nat.one_mul (x 1 : ℕ))).symm
      | ⟨2, _⟩ => exact ((Nat.zero_add _).trans (Nat.one_mul (x 2 : ℕ))).symm
  · refine ⟨_, List.mem_map.mpr ⟨h, List.mem_reverse.mpr (List.mem_finRange h), rfl⟩, ?_⟩
    refine (Rect.mem_set_unit (inb := inbS h)).mpr fun t => ?_
    match t with
    | ⟨0, _⟩ => exact ⟨Nat.le_refl _, Nat.lt_succ_self _⟩
    | ⟨1, _⟩ => exact ⟨Nat.zero_le _, lt_of_lt_of_le a.isLt (Nat.le_add_left _ _)⟩
    | ⟨2, _⟩ => exact ⟨Nat.zero_le _, lt_of_lt_of_le d.isLt (Nat.le_add_left _ _)⟩

end

end Cert.KernelIdeal.Head

end
-- ==== Proof.Point.lean ====
/- One grid point of the kernel at real data: what it leaves in the output block and in the state. -/
module

public import proofs.«01_k».proof.Proof.Gates
public import proofs.«01_k».proof.Proof.Loads
public import proofs.«01_k».proof.Proof.Gen.KernelIdeal.Value

@[expose] public section

set_option maxRecDepth 65536

noncomputable section

namespace Cert.KernelIdeal.Head

open Idealize.ShloMosaic Idealize.ShloMosaic.TcCoe Idealize.ShloMosaic.Tactic
open Cert.KernelIdeal Cert.KernelIdeal.Gen

/-- Head `h`'s 128 columns of a block of 2048 columns. -/
def hd (B : Fin 64 → Fin 2048 → ℝ) (h : Fin 16) (p : Fin 64) (a : Fin 128) : ℝ :=
  B p ⟨128 * (h : ℕ) + a, by omega⟩

section
variable (c : Dev nD) (i : grid0.Coords)
  (arg4 : Memref sig .tc .vmem S64x2048 .bf16) (harg4 : arg4.IsWhole)
  (arg5 : Memref sig .tc .vmem S64x2048 .bf16) (harg5 : arg5.IsWhole)
  (arg6 : Memref sig .tc .vmem S64x2048 .bf16) (harg6 : arg6.IsWhole)
  (arg7 : Memref sig .tc .vmem S1x64x128 .f32) (harg7 : arg7.IsWhole)
  (arg8 : Memref sig .tc .vmem S1x1x128 .f32) (harg8 : arg8.IsWhole)
  (arg9 : Memref sig .tc .vmem S1x1x128 .f32) (harg9 : arg9.IsWhole)
  (arg10 : Memref sig .tc .vmem S1x64x2048 .bf16) (harg10 : arg10.IsWhole)
  (arg11 : Memref sig .tc .vmem S16x128x128 .f32) (harg11 : arg11.IsWhole)
  (x0 x1 x2 : Vec Ideal S64x2048 .bf16) (x3 : Vec Ideal S1x64x128 .f32) (x4 x5 : Vec Ideal S1x1x128 .f32)
  (xs0 : Vec Ideal S16x128x128 .f32)
  {Q K V : Fin 64 → Fin 2048 → ℝ} {X : Fin 64 → Fin 128 → ℝ} {A D : Fin 128 → ℝ} {S : Fin 16 → Fin 128 → Fin 128 → ℝ}
  (h0 : ∀ p a, (x0 (ix2 p a) : EReal) = (Q p a : ℝ))
  (h1 : ∀ p a, (x1 (ix2 p a) : EReal) = (K p a : ℝ))
  (h2 : ∀ p a, (x2 (ix2 p a) : EReal) = (V p a : ℝ))
  (h3 : ∀ p a, (x3 (ix3 0 p a) : EReal) = (X p a : ℝ))
  (h4 : ∀ a, (x4 (ix3 0 0 a) : EReal) = (A a : ℝ))
  (h5 : ∀ a, (x5 (ix3 0 0 a) : EReal) = (D a : ℝ))
  (hs : ∀ h a b, (xs0 (ix3 h a b) : EReal) = (S h a b : ℝ))

theorem cols_real (m : Memref sig .tc .vmem S64x2048 .bf16) (hm : m.IsWhole) {x : Vec Ideal S64x2048 .bf16}
    {B : Fin 64 → Fin 2048 → ℝ} (hB : ∀ p a, (x (ix2 p a) : EReal) = (B p a : ℝ)) (h : Fin 16) (p : Fin 64) (a : Fin 128) :
    (cols m hm x h (ix2 p a) : EReal) = ((hd B h p a : ℝ) : EReal) :=
  (cols_apply m hm x h p a).trans (hB _ _)

theorem st0_real (m : Memref sig .tc .vmem S16x128x128 .f32) (h : Fin 16) (a b : Fin 128) :
    (st0 (F := Ideal) m h (ix2 a b) : EReal) = ((0 : ℝ) : EReal) := by
  refine (st0_apply m h a b).trans ?_
  pointwise
  exact EReal.coe_zero.symm

include h0 h1 h2 h3 h4 h5 hs in
theorem out_B (hc0 : ¬cond0_0 i) (h : Fin 16) (p : Fin 64) (d : Fin 128) :
    (out0_B_6 c i arg4 harg4 arg5 harg5 arg6 harg6 arg7 harg7 arg8 harg8 arg9 harg9 arg10 harg10 arg11 harg11 hc0
      x0 x1 x2 x3 x4 x5 xs0 (ix3 0 p ⟨128 * (h : ℕ) + d, by omega⟩) : EReal)
    = ((Cert.Delta.cOut (dirE (fwd i)) (hd K h) (hd Q h) (hd V h) (betaR (fwd i) X h) (gateR (fwd i) X A D h) (S h) p d : ℝ)
        : EReal) := by
  unfold out0_B_6
  rw [outPieces_B, allOf3_eq, allOf4_eq, allOf4_eq]
  refine (read_outPieces (F := Ideal) _ _ _ _ _ _ _ _ VO0_6 _ h p d).trans ?_
  exact outBlk_apply _ h3 h4 h5 (cols_real arg4 harg4 h0) (cols_real arg5 harg5 h1) (cols_real arg6 harg6 h2)
    (fun h a b => (stOf_apply arg11 harg11 xs0 h a b).trans (hs h a b)) h p d

include h1 h2 h3 h4 h5 hs in
theorem st_B (hc0 : ¬cond0_0 i) (h : Fin 16) (a d : Fin 128) :
    (sout0_B_0 c i arg4 harg4 arg5 harg5 arg6 harg6 arg7 harg7 arg8 harg8 arg9 harg9 arg10 harg10 arg11 harg11 hc0
      x0 x1 x2 x3 x4 x5 xs0 (ix3 h a d) : EReal)
    = ((Cert.Delta.cS (dirE (fwd i)) (hd K h) (hd V h) (betaR (fwd i) X h) (gateR (fwd i) X A D h) (S h) a d : ℝ)
        : EReal) := by
  unfold sout0_B_0
  rw [stPieces_B, allOf3_eq, allOf4_eq, allOf4_eq]
  refine (read_stPieces (F := Ideal) _ _ _ _ _ _ _ _ VS0_0 _ h a d).trans ?_
  exact stBlk_apply _ h3 h4 h5 (cols_real arg5 harg5 h1) (cols_real arg6 harg6 h2)
    (fun h a b => (stOf_apply arg11 harg11 xs0 h a b).trans (hs h a b)) h a d

include h0 h1 h2 h3 h4 h5 in
theorem out_A (hc0 : cond0_0 i) (h : Fin 16) (p : Fin 64) (d : Fin 128) :
    (out0_A_6 c i arg4 harg4 arg5 harg5 arg6 harg6 arg7 harg7 arg8 harg8 arg9 harg9 arg10 harg10 arg11 harg11 hc0
      x0 x1 x2 x3 x4 x5 (ix3 0 p ⟨128 * (h : ℕ) + d, by omega⟩) : EReal)
    = ((Cert.Delta.cOut (dirE (fwd i)) (hd K h) (hd Q h) (hd V h) (betaR (fwd i) X h) (gateR (fwd i) X A D h) (fun _ _ => 0) p d
        : ℝ) : EReal) := by
  unfold out0_A_6
  rw [outPieces_A, allOf3_eq, allOf4_eq, allOf4_eq]
  refine (read_outPieces (F := Ideal) _ _ _ _ _ _ _ _ VO0_6 _ h p d).trans ?_
  exact outBlk_apply (S := fun _ _ _ => 0) _ h3 h4 h5 (cols_real arg4 harg4 h0) (cols_real arg5 harg5 h1)
    (cols_real arg6 harg6 h2) (st0_real arg11) h p d

include h1 h2 h3 h4 h5 in
theorem st_A (hc0 : cond0_0 i) (h : Fin 16) (a d : Fin 128) :
    (sout0_A_0 c i arg4 harg4 arg5 harg5 arg6 harg6 arg7 harg7 arg8 harg8 arg9 harg9 arg10 harg10 arg11 harg11 hc0
      x0 x1 x2 x3 x4 x5 (ix3 h a d) : EReal)
    = ((Cert.Delta.cS (dirE (fwd i)) (hd K h) (hd V h) (betaR (fwd i) X h) (gateR (fwd i) X A D h) (fun _ _ => 0) a d : ℝ)
        : EReal) := by
  unfold sout0_A_0
  rw [stPieces_A, View.writes_append, allOf3_eq, allOf4_eq, allOf4_eq]
  refine (read_stPieces (F := Ideal) _ _ _ _ _ _ _ _ VS0_0 _ h a d).trans ?_
  exact stBlk_apply (S := fun _ _ _ => 0) _ h3 h4 h5 (cols_real arg5 harg5 h1) (cols_real arg6 harg6 h2) (st0_real arg11) h a d

end

end Cert.KernelIdeal.Head

end
-- ==== Proof.Sweep.lean ====
/- The kernel's sweeps: after each grid point the scratch holds the state of the recurrence at the end of the point's
   chunk, and the output block its outputs. -/
module

public import proofs.«01_k».proof.Proof.Blocks
public import proofs.«01_k».proof.Proof.Point

@[expose] public section

set_option maxRecDepth 65536

noncomputable section

namespace Cert.KernelIdeal.Sweep

open Idealize.ShloMosaic Idealize.ShloMosaic.TcCoe Idealize.ShloMosaic.Tactic
open Cert.KernelIdeal Cert.KernelIdeal.Gen Cert.KernelIdeal.Head Cert.KernelIdeal.Blocks Cert.Delta

/-- The direction and the batch of point `t`. -/
def dOf (t : ℕ) : Fin 2 := ⟨t / 68 % 2, Nat.mod_lt _ (by decide)⟩
def bOf (t : ℕ) : Fin 4 := ⟨t / 136 % 4, Nat.mod_lt _ (by decide)⟩

/-- The direction as the body's flag. -/
def wOf (t : ℕ) : BitVec 1 := if t / 68 % 2 = 0 then 1#1 else 0#1

theorem dirE_val (t : ℕ) (p : Fin 64) : ((dirE (wOf t) p : Fin 64) : ℕ) = if t / 68 % 2 = 0 then (p : ℕ) else 63 - p := by
  unfold dirE wOf
  by_cases h : t / 68 % 2 = 0
  · rw [if_pos h, if_pos h]; rfl
  · rw [if_neg h, if_neg h]
    show ((Fin.rev p : Fin 64) : ℕ) = _
    rw [Fin.val_rev]; omega

/-- Row `p` of the point's block is at position `64 c` plus its place in the pass's direction. -/
theorem row_pos {t : ℕ} (ht : t < 544) (p : Fin 64) :
    row (dOf t) (bOf t) (64 * (t % 68) + (dirE (wOf t) p : Fin 64))
      = ⟨64 * rb t + p, by have := rb_lt ht; omega⟩ := by
  apply Fin.ext
  rw [row_val _ _ (by omega), dirE_val]
  show rowN (t / 68 % 2) (t / 136 % 4) _ = 64 * rb t + (p : ℕ)
  unfold rowN rb
  split_ifs <;> omega

section
variable (X : Fin 17408 → Fin 6144 → ℝ) (Ba : Fin 17408 → Fin 128 → ℝ) (Al Dt : Fin 2 → Fin 16 → ℝ)

/-- The blocks of point `t`, as real matrices. -/
def bQ (t : ℕ) (ht : t < 544) (p : Fin 64) (a : Fin 2048) : ℝ := X ⟨64 * rb t + p, by have := rb_lt ht; omega⟩ ⟨a, by omega⟩
def bK (t : ℕ) (ht : t < 544) (p : Fin 64) (a : Fin 2048) : ℝ := X ⟨64 * rb t + p, by have := rb_lt ht; omega⟩ ⟨2048 + a, by omega⟩
def bV (t : ℕ) (ht : t < 544) (p : Fin 64) (a : Fin 2048) : ℝ := X ⟨64 * rb t + p, by have := rb_lt ht; omega⟩ ⟨4096 + a, by omega⟩
def bX (t : ℕ) (ht : t < 544) (p : Fin 64) (k : Fin 128) : ℝ :=
  if (k : ℕ) < 64 then Ba ⟨64 * rb t + p, by have := rb_lt ht; omega⟩ k else 0

/-- A per-direction parameter spread over the 128 columns. -/
def spread (A : Fin 2 → Fin 16 → ℝ) (k : Fin 128) : ℝ :=
  if h : 32 ≤ (k : ℕ) ∧ (k : ℕ) < 64 then A ⟨((k : ℕ) - 32) / 16, by omega⟩ ⟨((k : ℕ) - 32) % 16, by omega⟩ else 0

theorem spread_at (A : Fin 2 → Fin 16 → ℝ) (d : Fin 2) (h : Fin 16) :
    spread A ⟨32 + (16 * (d : ℕ) + h), by omega⟩ = A d h := by
  unfold spread
  rw [dif_pos (by constructor <;> (dsimp only; omega))]
  exact congrArg₂ A (Fin.ext (by dsimp only; omega)) (Fin.ext (by dsimp only; omega))

theorem colOf_lo (t : ℕ) (h : Fin 16) : colOf (wOf t) 0 1 h = ⟨16 * (dOf t : ℕ) + h, by omega⟩ := by
  apply Fin.ext
  unfold colOf wOf dOf
  by_cases e : t / 68 % 2 = 0
  · simp [e]
  · have e1 : t / 68 % 2 = 1 := by omega
    simp [e1]

theorem colOf_hi (t : ℕ) (h : Fin 16) : colOf (wOf t) 2 3 h = ⟨32 + (16 * (dOf t : ℕ) + h), by omega⟩ := by
  apply Fin.ext
  unfold colOf wOf dOf
  by_cases e : t / 68 % 2 = 0
  · simp [e]
  · have e1 : t / 68 % 2 = 1 := by omega
    simp [e1]; omega

variable {t : ℕ} (ht : t < 544) (h : Fin 16) (i : Fin 64)

theorem hK : hd (bK X t ht) h i = sK X (dOf t) (bOf t) h (64 * (t % 68) + (dirE (wOf t) i : Fin 64)) := by
  funext a
  show X _ _ = X _ _
  rw [row_pos ht i]

theorem hQ : hd (bQ X t ht) h i = sQ X (dOf t) (bOf t) h (64 * (t % 68) + (dirE (wOf t) i : Fin 64)) := by
  funext a
  show X _ _ = X _ _
  rw [row_pos ht i]

theorem hV : hd (bV X t ht) h i = sV X (dOf t) (bOf t) h (64 * (t % 68) + (dirE (wOf t) i : Fin 64)) := by
  funext a
  show X _ _ = X _ _
  rw [row_pos ht i]

theorem hB : betaR (wOf t) (bX Ba t ht) h i = sB Ba (dOf t) (bOf t) h (64 * (t % 68) + (dirE (wOf t) i : Fin 64)) := by
  unfold betaR sB bX
  rw [colOf_lo, row_pos ht i, if_pos (by dsimp only; omega)]

theorem hG : gateR (wOf t) (bX Ba t ht) (spread Al) (spread Dt) h i
    = sG Ba Al Dt (dOf t) (bOf t) h (64 * (t % 68) + (dirE (wOf t) i : Fin 64)) := by
  unfold gateR sG bX
  rw [colOf_hi, row_pos ht i, if_pos (by dsimp only; omega), spread_at, spread_at]

/-- One point's chunk is the recurrence over its 64 positions: the state … -/
theorem step_state (a d : Fin 128) :
    cS (dirE (wOf t)) (hd (bK X t ht) h) (hd (bV X t ht) h) (betaR (wOf t) (bX Ba t ht) h)
        (gateR (wOf t) (bX Ba t ht) (spread Al) (spread Dt) h)
        (sState X Ba Al Dt (dOf t) (bOf t) h (64 * (t % 68))) a d
      = sState X Ba Al Dt (dOf t) (bOf t) h (64 * (t % 68) + 64) a d :=
  cS_eq _ _ _ _ _ _ (hK X ht h) (hV X ht h) (hB Ba ht h) (hG Ba Al Dt ht h) a d

/-- … and the outputs. -/
theorem step_out (p : Fin 64) (d : Fin 128) :
    cOut (dirE (wOf t)) (hd (bK X t ht) h) (hd (bQ X t ht) h) (hd (bV X t ht) h) (betaR (wOf t) (bX Ba t ht) h)
        (gateR (wOf t) (bX Ba t ht) (spread Al) (spread Dt) h)
        (sState X Ba Al Dt (dOf t) (bOf t) h (64 * (t % 68))) p d
      = sOut X Ba Al Dt (dOf t) (bOf t) h (64 * (t % 68) + (dirE (wOf t) p : Fin 64)) d :=
  cOut_eq _ _ _ _ _ _ _ (hK X ht h) (hQ X ht h) (hV X ht h) (hB Ba ht h) (hG Ba Al Dt ht h) p d

end

section
variable (m : (ℓ : Loc nD τ sig) → Buf (Elt Ideal) ℓ) (c : Dev nD)
  {X : Fin 17408 → Fin 6144 → ℝ} {Ba : Fin 17408 → Fin 128 → ℝ} {Al Dt : Fin 2 → Fin 16 → ℝ}
  (mX : ∀ r k, (m ((c : Thread nD τ).loc main_arg0) (ix2 r k) : EReal) = ((X r k : ℝ) : EReal))
  (mBa : ∀ r k, (m ((c : Thread nD τ).loc main_arg1) (ix2 r k) : EReal) = ((Ba r k : ℝ) : EReal))
  (mAl : ∀ d h, (m ((c : Thread nD τ).loc main_arg2) (ix2 d h) : EReal) = ((Al d h : ℝ) : EReal))
  (mDt : ∀ d h, (m ((c : Thread nD τ).loc main_arg3) (ix2 d h) : EReal) = ((Dt d h : ℝ) : EReal))

include mX in
theorem real0 (t : Fin cfg0.N) (p : Fin 64) (a : Fin 2048) :
    ((iblk m c 0 t : Vec Ideal S64x2048 .bf16) (ix2 p a) : EReal) = ((bQ X t (tlt t) p a : ℝ) : EReal) := (blk0 m c t p a).trans (mX _ _)
include mX in
theorem real1 (t : Fin cfg0.N) (p : Fin 64) (a : Fin 2048) :
    ((iblk m c 1 t : Vec Ideal S64x2048 .bf16) (ix2 p a) : EReal) = ((bK X t (tlt t) p a : ℝ) : EReal) := (blk1 m c t p a).trans (mX _ _)
include mX in
theorem real2 (t : Fin cfg0.N) (p : Fin 64) (a : Fin 2048) :
    ((iblk m c 2 t : Vec Ideal S64x2048 .bf16) (ix2 p a) : EReal) = ((bV X t (tlt t) p a : ℝ) : EReal) := (blk2 m c t p a).trans (mX _ _)
include mBa in
theorem real3 (t : Fin cfg0.N) (p : Fin 64) (a : Fin 128) :
    ((iblk m c 3 t : Vec Ideal S1x64x128 .f32) (ix3 0 p a) : EReal) = ((bX Ba t (tlt t) p a : ℝ) : EReal) := by
  refine (blk3 m c t p a).trans ((Host.V_gates m c _ a).trans ?_)
  unfold bX
  split
  · exact mBa _ _
  · rfl

theorem real_spread {A : Fin 2 → Fin 16 → ℝ} (v : Fin 128 → EReal)
    (hin : ∀ (d : Fin 2) (h : Fin 16), v ⟨32 + (16 * (d : ℕ) + h), by omega⟩ = ((A d h : ℝ) : EReal))
    (hout : ∀ k : Fin 128, ¬ (32 ≤ (k : ℕ) ∧ (k : ℕ) < 64) → v k = ((0 : ℝ) : EReal)) (k : Fin 128) :
    v k = ((spread A k : ℝ) : EReal) := by
  by_cases hk : 32 ≤ (k : ℕ) ∧ (k : ℕ) < 64
  · unfold spread
    rw [dif_pos hk, ← hin]
    exact congrArg v (Fin.ext (by dsimp only; omega))
  · rw [hout k hk]
    unfold spread
    rw [dif_neg hk]

include mAl in
theorem real4 (t : Fin cfg0.N) (k : Fin 128) :
    ((iblk m c 4 t : Vec Ideal S1x1x128 .f32) (ix3 0 0 k) : EReal) = ((spread Al k : ℝ) : EReal) :=
  (blk4 m c t k).trans (real_spread (fun k => (V m c main_v11 (ix3 0 0 k) : EReal))
    (fun d h => (Host.V_rates m c d h).trans (mAl d h)) (fun k hk => Host.V_rates_zero m c k hk) k)
include mDt in
theorem real5 (t : Fin cfg0.N) (k : Fin 128) :
    ((iblk m c 5 t : Vec Ideal S1x1x128 .f32) (ix3 0 0 k) : EReal) = ((spread Dt k : ℝ) : EReal) :=
  (blk5 m c t k).trans (real_spread (fun k => (V m c main_v17 (ix3 0 0 k) : EReal))
    (fun d h => (Host.V_biases m c d h).trans (mDt d h)) (fun k hk => Host.V_biases_zero m c k hk) k)

attribute [local irreducible] out0_A_6 out0_B_6 sout0_A_0 sout0_B_0

section
variable (t : Fin cfg0.N) (h : Fin 16)

theorem flag (t : Fin cfg0.N) : fwd (grid0.coords t) = wOf t := fwd_point t

theorem zero_state (h0 : t.val % 68 = 0) :
    sState X Ba Al Dt (dOf t) (bOf t) h (64 * (t.val % 68)) = fun _ _ => 0 := by rw [h0]; rfl

include mX mBa mAl mDt in
theorem scratch_first (h0 : t.val % 68 = 0) (a e : Fin 128) :
    ((outsAt0 m c t.val t.isLt).2 (ix3 h a e) : EReal)
      = ((sState X Ba Al Dt (dOf t) (bOf t) h (64 * (t.val % 68) + 64) a e : ℝ) : EReal) := by
  have E := congrArg Prod.snd (outsAt0_A m c t h0)
  have S := st_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t)
    (real1 m c mX t) (real2 m c mX t) (real3 m c mBa t) (real4 m c mAl t) (real5 m c mDt t) ((hcond0_0 t).mpr h0) h a e
  rw [flag, ← zero_state (X := X) (Ba := Ba) (Al := Al) (Dt := Dt) t h h0, step_state X Ba Al Dt (tlt t) h a e] at S
  exact (congrFun E _).trans S

include mX mBa mAl mDt in
theorem block_first (h0 : t.val % 68 = 0) (p : Fin 64) (e : Fin 128) :
    ((outsAt0 m c t.val t.isLt).1 (ix3 0 p ⟨128 * (h : ℕ) + e, by omega⟩) : EReal)
      = ((sOut X Ba Al Dt (dOf t) (bOf t) h (64 * (t.val % 68) + (dirE (wOf t) p : Fin 64)) e : ℝ) : EReal) := by
  have E := congrArg Prod.fst (outsAt0_A m c t h0)
  have S := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t)
    (real0 m c mX t) (real1 m c mX t) (real2 m c mX t) (real3 m c mBa t) (real4 m c mAl t) (real5 m c mDt t)
    ((hcond0_0 t).mpr h0) h p e
  rw [flag, ← zero_state (X := X) (Ba := Ba) (Al := Al) (Dt := Dt) t h h0, step_out X Ba Al Dt (tlt t) h p e] at S
  exact (congrFun E _).trans S

variable (hs : ∀ (h : Fin 16) (a e : Fin 128),
    ((outsAt0 m c (t.val - 1) (Nat.lt_of_le_of_lt (Nat.sub_le _ _) t.isLt)).2 (ix3 h a e) : EReal)
      = ((sState X Ba Al Dt (dOf t) (bOf t) h (64 * (t.val % 68)) a e : ℝ) : EReal))

include mX mBa mAl mDt hs in
theorem scratch_next (h0 : ¬ t.val % 68 = 0) (a e : Fin 128) :
    ((outsAt0 m c t.val t.isLt).2 (ix3 h a e) : EReal)
      = ((sState X Ba Al Dt (dOf t) (bOf t) h (64 * (t.val % 68) + 64) a e : ℝ) : EReal) := by
  have E := congrArg Prod.snd (outsAt0_B m c t h0)
  have S := st_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2
    (real1 m c mX t) (real2 m c mX t) (real3 m c mBa t) (real4 m c mAl t) (real5 m c mDt t) hs
    (fun q => h0 ((hcond0_0 t).mp q)) h a e
  rw [flag, step_state X Ba Al Dt (tlt t) h a e] at S
  exact (congrFun E _).trans S

include mX mBa mAl mDt hs in
theorem block_next (h0 : ¬ t.val % 68 = 0) (p : Fin 64) (e : Fin 128) :
    ((outsAt0 m c t.val t.isLt).1 (ix3 0 p ⟨128 * (h : ℕ) + e, by omega⟩) : EReal)
      = ((sOut X Ba Al Dt (dOf t) (bOf t) h (64 * (t.val % 68) + (dirE (wOf t) p : Fin 64)) e : ℝ) : EReal) := by
  have E := congrArg Prod.fst (outsAt0_B m c t h0)
  have S := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2
    (real0 m c mX t) (real1 m c mX t) (real2 m c mX t) (real3 m c mBa t) (real4 m c mAl t) (real5 m c mDt t) hs
    (fun q => h0 ((hcond0_0 t).mp q)) h p e
  rw [flag, step_out X Ba Al Dt (tlt t) h p e] at S
  exact (congrFun E _).trans S

end

/-- Within a sweep the state at the start of a chunk is the one at the end of the chunk before. -/
theorem state_before {n : ℕ} (h0 : ¬ n % 68 = 0) (h : Fin 16) :
    sState X Ba Al Dt (dOf (n - 1)) (bOf (n - 1)) h (64 * ((n - 1) % 68) + 64)
      = sState X Ba Al Dt (dOf n) (bOf n) h (64 * (n % 68)) := by
  have e1 : dOf (n - 1) = dOf n := Fin.ext (by show (n - 1) / 68 % 2 = n / 68 % 2; omega)
  have e2 : bOf (n - 1) = bOf n := Fin.ext (by show (n - 1) / 136 % 4 = n / 136 % 4; omega)
  have e3 : 64 * ((n - 1) % 68) + 64 = 64 * (n % 68) := by omega
  rw [e1, e2, e3]

include mX mBa mAl mDt in
/-- After point `n` the scratch is the state at the end of the point's chunk. -/
theorem scratch (n : ℕ) : ∀ (hn : n < cfg0.N) (h : Fin 16) (a e : Fin 128),
    ((outsAt0 m c n hn).2 (ix3 h a e) : EReal)
      = ((sState X Ba Al Dt (dOf n) (bOf n) h (64 * (n % 68) + 64) a e : ℝ) : EReal) := by
  induction n using Nat.strong_induction_on with
  | _ n ih =>
    intro hn h a e
    by_cases h0 : n % 68 = 0
    · exact scratch_first m c mX mBa mAl mDt ⟨n, hn⟩ h h0 a e
    · refine scratch_next m c mX mBa mAl mDt ⟨n, hn⟩ h (fun h a e => ?_) h0 a e
      rw [← state_before h0]
      exact ih (n - 1) (by omega) _ h a e

include mX mBa mAl mDt in
/-- After point `n` the output block holds the outputs of the point's chunk. -/
theorem block (n : ℕ) (hn : n < cfg0.N) (h : Fin 16) (p : Fin 64) (e : Fin 128) :
    ((outsAt0 m c n hn).1 (ix3 0 p ⟨128 * (h : ℕ) + e, by omega⟩) : EReal)
      = ((sOut X Ba Al Dt (dOf n) (bOf n) h (64 * (n % 68) + (dirE (wOf n) p : Fin 64)) e : ℝ) : EReal) := by
  by_cases h0 : n % 68 = 0
  · exact block_first m c mX mBa mAl mDt ⟨n, hn⟩ h h0 p e
  · refine block_next m c mX mBa mAl mDt ⟨n, hn⟩ h (fun h a e => ?_) h0 p e
    rw [← state_before h0]
    exact scratch m c mX mBa mAl mDt (n - 1) _ h a e

end

end Cert.KernelIdeal.Sweep

end
-- ==== Proof.Final.lean ====
/- The array the kernel returns, element by element: the outputs of the recurrence. -/
module

public import proofs.«01_k».proof.Proof.Sweep

@[expose] public section

set_option maxRecDepth 65536

noncomputable section

namespace Cert.KernelIdeal.Final

open Idealize.ShloMosaic Idealize.ShloMosaic.TcCoe Idealize.ShloMosaic.Tactic
open Cert.KernelIdeal Cert.KernelIdeal.Gen Cert.KernelIdeal.Value Cert.KernelIdeal.Blocks Cert.KernelIdeal.Sweep Cert.Delta

section
variable (m : (ℓ : Loc nD τ sig) → Buf (Elt Ideal) ℓ) (c : Dev nD)
  (X : Fin 17408 → Fin 6144 → ℝ) (Ba : Fin 17408 → Fin 128 → ℝ) (Al Dt : Fin 2 → Fin 16 → ℝ)

/-- `v` is the right value of the returned array at `i`: the output of the position that `i` is the place of. -/
def Right (i : S2x17408x2048.Idx) (v : EReal) : Prop :=
  ∃ (d : Fin 2) (b : Fin 4) (n : ℕ) (h : Fin 16) (e : Fin 128), n < 4352
    ∧ i = ix3 d (row d b n) ⟨128 * (h : ℕ) + e, by omega⟩
    ∧ v = ((sOut X Ba Al Dt d b h n e : ℝ) : EReal)

/-- The place of an element of point `t`'s output block. -/
theorem out_place (t : Fin cfg0.N) (p : Fin 64) (k : Fin 2048) :
    (((cfg0.win 6).blk t).view.emb (ix3 0 p k) : S2x17408x2048.Idx)
      = ix3 (dOf t) ⟨64 * rb t + p, by have := rb_lt (tlt t); omega⟩ k := by
  refine Eq.trans (show _ = ((cfg0.win 6).rect t).emb (ix3 0 p k) from rfl) ?_
  funext x; apply Fin.ext
  refine ((cfg0.win 6).rect_emb_val t _ x).trans ?_
  match x with
  | ⟨0, _⟩ => exact (congrArg (· * 1 + 0) (map6 t).1).trans (by show (t : ℕ) / 68 % 2 * 1 + 0 = (t : ℕ) / 68 % 2; omega)
  | ⟨1, _⟩ => exact (congrArg (· * 64 + (p : ℕ)) (map6 t).2.1).trans (by show rb t * 64 + (p : ℕ) = 64 * rb t + p; omega)
  | ⟨2, _⟩ => exact (congrArg (· * 2048 + (k : ℕ)) (map6 t).2.2).trans (by show 0 * 2048 + (k : ℕ) = k; omega)

/-- Every element of the array lies in some point's block. -/
theorem covered (i : S2x17408x2048.Idx) :
    ∃ t : Fin cfg0.N, (cfg0.win 6).flush t = true ∧ i ∈ ((cfg0.win 6).blk t).view.set := by
  obtain ⟨d, r, k, rfl⟩ : ∃ (d : Fin 2) (r : Fin 17408) (k : Fin 2048), i = ix3 d r k :=
    ⟨i 0, i 1, i 2, by funext x; match x with | ⟨0, _⟩ => rfl | ⟨1, _⟩ => rfl | ⟨2, _⟩ => rfl⟩
  obtain ⟨b, n, hn, hr⟩ := exists_row d r
  have hb := b.isLt
  have hd := d.isLt
  have ht : 136 * (b : ℕ) + 68 * (d : ℕ) + n / 64 < cfg0.N := by
    refine Nat.lt_of_lt_of_eq ?_ N_0.symm; omega
  have hrow : rowN d b n = r := (row_val d b hn).symm.trans (congrArg Fin.val hr)
  have e3 : (136 * (b : ℕ) + 68 * (d : ℕ) + n / 64) % 68 = n / 64 := by omega
  have e1 : (136 * (b : ℕ) + 68 * (d : ℕ) + n / 64) / 68 % 2 = d := by omega
  have e2 : (136 * (b : ℕ) + 68 * (d : ℕ) + n / 64) / 136 = b := by omega
  have hlo : 64 * rb (136 * (b : ℕ) + 68 * (d : ℕ) + n / 64) ≤ r
      ∧ (r : ℕ) < 64 * rb (136 * (b : ℕ) + 68 * (d : ℕ) + n / 64) + 64 := by
    unfold rb
    rw [e1, e2, e3, ← hrow]
    unfold rowN
    split_ifs <;> omega
  refine ⟨⟨_, ht⟩, flush0_6 _, ?_⟩
  have e := out_place ⟨_, ht⟩ ⟨(r : ℕ) - 64 * rb (136 * (b : ℕ) + 68 * (d : ℕ) + n / 64), by omega⟩ k
  have e' : (ix3 d r k : S2x17408x2048.Idx) = ((cfg0.win 6).blk ⟨_, ht⟩).view.emb
      (ix3 0 ⟨(r : ℕ) - 64 * rb (136 * (b : ℕ) + 68 * (d : ℕ) + n / 64), by omega⟩ k) := by
    rw [e]
    funext x; apply Fin.ext
    match x with
    | ⟨0, _⟩ => exact e1.symm
    | ⟨1, _⟩ => exact (Nat.add_sub_cancel' hlo.1).symm
    | ⟨2, _⟩ => rfl
  rw [e']
  exact ((cfg0.win 6).blk ⟨_, ht⟩).view.emb_mem_set _

variable {X Ba Al Dt}
  (mX : ∀ r k, (m ((c : Thread nD τ).loc main_arg0) (ix2 r k) : EReal) = ((X r k : ℝ) : EReal))
  (mBa : ∀ r k, (m ((c : Thread nD τ).loc main_arg1) (ix2 r k) : EReal) = ((Ba r k : ℝ) : EReal))
  (mAl : ∀ d h, (m ((c : Thread nD τ).loc main_arg2) (ix2 d h) : EReal) = ((Al d h : ℝ) : EReal))
  (mDt : ∀ d h, (m ((c : Thread nD τ).loc main_arg3) (ix2 d h) : EReal) = ((Dt d h : ℝ) : EReal))

include mX mBa mAl mDt in
/-- What point `t` writes back is right. -/
theorem flushed_right (t : Fin cfg0.N) (p : Fin 64) (k : Fin 2048) :
    Right X Ba Al Dt (((cfg0.win 6).blk t).view.emb (ix3 0 p k)) ((dats m 0 c).flushed 6 t (ix3 0 p k)) := by
  rw [out_place, flushed6]
  have hp := (dirE_val t p)
  have hc : (t : ℕ) % 68 < 68 := Nat.mod_lt _ (by decide)
  refine ⟨dOf t, bOf t, 64 * ((t : ℕ) % 68) + (Head.dirE (wOf t) p : Fin 64), ⟨(k : ℕ) / 128, by omega⟩, ⟨(k : ℕ) % 128, by omega⟩,
    by omega, ?_, ?_⟩
  · rw [row_pos (tlt t) p]
    exact congrArg (ix3 _ _) (Fin.ext (by show (k : ℕ) = 128 * ((k : ℕ) / 128) + (k : ℕ) % 128; omega))
  · refine Eq.trans ?_ (block m c mX mBa mAl mDt t t.isLt ⟨(k : ℕ) / 128, by omega⟩ p ⟨(k : ℕ) % 128, by omega⟩)
    refine congrArg (outsAt0 m c t.val t.isLt).1 (congrArg (ix3 0 p) (Fin.ext ?_))
    show (k : ℕ) = 128 * ((k : ℕ) / 128) + (k : ℕ) % 128
    omega

include mX mBa mAl mDt in
/-- Every element of the returned array is right. -/
theorem returned (i : S2x17408x2048.Idx) : Right X Ba Al Dt i ((dats m 0 c).arrAt 6 cfg0.N i) := by
  refine (dats m 0 c).arrAt_forall_of_cover 6 (fun i v => Right X Ba Al Dt i v) (fun t _ y => ?_) covered i
  obtain ⟨p, k, rfl⟩ : ∃ (p : Fin 64) (k : Fin 2048), y = ix3 0 p k :=
    ⟨y 1, y 2, by funext x; match x with | ⟨0, _⟩ => exact Subsingleton.elim (α := Fin 1) _ _ | ⟨1, _⟩ => rfl | ⟨2, _⟩ => rfl⟩
  exact flushed_right m c mX mBa mAl mDt t p k

end

end Cert.KernelIdeal.Final

end
-- ==== Proof.RefStack.lean ====
/- How the reference lays the rows out for its loop: each direction and batch gets the batch's context rows and then its
   latent rows, both parts reversed for the second direction. Read element by element. -/
module

public import proofs.«01_k».proof.Proof.Seq
public import proofs.«01_k».proof.Proof.Gen.ReferenceIdeal.Run
public import Idealize.ShloMosaic.Lib.Pointwise

@[expose] public section

set_option maxRecDepth 65536

noncomputable section

namespace Cert.ReferenceIdeal.Stack

open Idealize.ShloMosaic Idealize.ShloMosaic.TcCoe Idealize.ShloMosaic.Tactic
open Cert.ReferenceIdeal Cert.ReferenceIdeal.Gen Cert.ReferenceIdeal.Value Cert.Delta

/-- The latent rows and the context rows of a 2048-column array, by batch and head. -/
def lat4 (x : S17408x2048.Idx → EReal) : S4x4096x16x128.Idx → EReal :=
  shapeCast S4x4096x16x128 (extractStridedSlice S16384x16x128 ![0, 0, 0]
    (shapeCast S17408x16x128 x shapeCasts_S17408x2048_S17408x16x128) slices_S17408x16x128_S16384x16x128_0_0_0)
    shapeCasts_S16384x16x128_S4x4096x16x128

def ctx4 (x : S17408x2048.Idx → EReal) : S4x256x16x128.Idx → EReal :=
  shapeCast S4x256x16x128 (extractStridedSlice S1024x16x128 ![16384, 0, 0]
    (shapeCast S17408x16x128 x shapeCasts_S17408x2048_S17408x16x128) slices_S17408x16x128_S1024x16x128_16384_0_0)
    shapeCasts_S1024x16x128_S4x256x16x128

/-- Context first, latent after it. -/
def join4 (a : S4x256x16x128.Idx → EReal) (b : S4x4096x16x128.Idx → EReal) : S4x4352x16x128.Idx → EReal :=
  concatenate S4x4352x16x128 1 [⟨S4x256x16x128, a⟩, ⟨S4x4096x16x128, b⟩]
    concatenates_S4x256x16x128_S4x4096x16x128_S4x4352x16x128_d1

/-- Both directions, positions first. -/
def both4 (a b : S4x4352x16x128.Idx → EReal) : S4352x8x16x128.Idx → EReal :=
  transpose S4352x8x16x128 [1, 0, 2, 3] (concatenate S8x4352x16x128 0 [⟨S4x4352x16x128, a⟩, ⟨S4x4352x16x128, b⟩]
    concatenates_S4x4352x16x128_S4x4352x16x128_S8x4352x16x128_d0) transposes_S8x4352x16x128_S4352x8x16x128_1_0_2_3

def stack4 (x : S17408x2048.Idx → EReal) : S4352x8x16x128.Idx → EReal :=
  both4 (join4 (ctx4 x) (lat4 x)) (join4 (Host.reverse [1] (ctx4 x)) (Host.reverse [1] (lat4 x)))

theorem lat4_at (x : S17408x2048.Idx → EReal) (b : Fin 4) (n : Fin 4096) (h : Fin 16) (a : Fin 128) :
    lat4 x (ix4 b n h a) = x (ix2 ⟨4096 * (b : ℕ) + n, by omega⟩ ⟨128 * (h : ℕ) + a, by omega⟩) := by
  pointwise [lat4]
  exact congrArg x (congrArg₂ ix2 (Fin.ext (by show (b : ℕ) * 4096 + n = 4096 * b + n; omega))
    (Fin.ext (by show (h : ℕ) * 128 + a = 128 * h + a; omega)))

theorem ctx4_at (x : S17408x2048.Idx → EReal) (b : Fin 4) (n : Fin 256) (h : Fin 16) (a : Fin 128) :
    ctx4 x (ix4 b n h a) = x (ix2 ⟨16384 + (256 * (b : ℕ) + n), by omega⟩ ⟨128 * (h : ℕ) + a, by omega⟩) := by
  pointwise [ctx4]
  exact congrArg x (congrArg₂ ix2 (Fin.ext (by show 16384 + ((b : ℕ) * 256 + n) = 16384 + (256 * b + n); omega))
    (Fin.ext (by show (h : ℕ) * 128 + a = 128 * h + a; omega)))

theorem join4_at (u : S4x256x16x128.Idx → EReal) (w : S4x4096x16x128.Idx → EReal) (b : Fin 4) (n : Fin 4352) (h : Fin 16)
    (a : Fin 128) :
    join4 u w (ix4 b n h a) = if hn : (n : ℕ) < 256 then u (ix4 b ⟨n, hn⟩ h a) else w (ix4 b ⟨n - 256, by omega⟩ h a) := by
  pointwise [join4]

theorem both4_at (u w : S4x4352x16x128.Idx → EReal) (p : Fin 8) (n : Fin 4352) (h : Fin 16) (a : Fin 128) :
    both4 u w (ix4 n p h a) = if hp : (p : ℕ) < 4 then u (ix4 ⟨p, hp⟩ n h a) else w (ix4 ⟨p - 4, by omega⟩ n h a) := by
  pointwise [both4]

theorem revc4_at (u : S4x256x16x128.Idx → EReal) (b : Fin 4) (n : Fin 256) (h : Fin 16) (a : Fin 128) :
    Host.reverse [1] u (ix4 b n h a) = u (ix4 b n.rev h a) := by
  pointwise
  simp

theorem revl4_at (u : S4x4096x16x128.Idx → EReal) (b : Fin 4) (n : Fin 4096) (h : Fin 16) (a : Fin 128) :
    Host.reverse [1] u (ix4 b n h a) = u (ix4 b n.rev h a) := by
  pointwise
  simp

/-- The place of direction `d` and batch `b` among the eight sequences. -/
def seat (d : Fin 2) (b : Fin 4) : Fin 8 := ⟨4 * (d : ℕ) + b, by omega⟩

theorem seat0 (b : Fin 4) : (seat 0 b : ℕ) = b := by show 4 * 0 + (b : ℕ) = b; omega
theorem seat1 (b : Fin 4) : (seat 1 b : ℕ) = 4 + b := by show 4 * 1 + (b : ℕ) = 4 + b; omega

theorem row_eq {d : Fin 2} {b : Fin 4} {n : ℕ} (hn : n < 4352) {r : ℕ} (hr : r < 17408) (e : r = rowN d b n) :
    (⟨r, hr⟩ : Fin 17408) = row d b n := Fin.ext (e.trans (row_val d b hn).symm)

theorem stack4_at (x : S17408x2048.Idx → EReal) (d : Fin 2) (b : Fin 4) (n : Fin 4352) (h : Fin 16) (a : Fin 128) :
    stack4 x (ix4 n (seat d b) h a) = x (ix2 (row d b n) ⟨128 * (h : ℕ) + a, by omega⟩) := by
  unfold stack4
  rw [both4_at]
  obtain rfl | rfl : d = 0 ∨ d = 1 := by omega
  · rw [dif_pos (show (seat 0 b : ℕ) < 4 by rw [seat0]; exact b.isLt), join4_at]
    have eb : (⟨(seat 0 b : ℕ), by rw [seat0]; exact b.isLt⟩ : Fin 4) = b := Fin.ext (seat0 b)
    by_cases hn : (n : ℕ) < 256
    · rw [dif_pos hn, eb, ctx4_at]
      exact congrArg x (congrArg₂ ix2 (row_eq n.isLt _ (by simp [rowN, hn]; omega)) rfl)
    · rw [dif_neg hn, eb, lat4_at]
      exact congrArg x (congrArg₂ ix2 (row_eq n.isLt _ (by simp [rowN, hn])) rfl)
  · rw [dif_neg (show ¬ (seat 1 b : ℕ) < 4 by rw [seat1]; omega), join4_at]
    have eb : (⟨(seat 1 b : ℕ) - 4, by rw [seat1]; omega⟩ : Fin 4) = b := Fin.ext (by show (seat 1 b : ℕ) - 4 = b; rw [seat1]; exact Nat.add_sub_cancel_left _ _)
    by_cases hn : (n : ℕ) < 256
    · rw [dif_pos hn, eb, revc4_at, ctx4_at]
      exact congrArg x (congrArg₂ ix2 (row_eq n.isLt _ (by simp [rowN, hn, Fin.val_rev]; omega)) rfl)
    · rw [dif_neg hn, eb, revl4_at, lat4_at]
      exact congrArg x (congrArg₂ ix2 (row_eq n.isLt _ (by simp [rowN, hn, Fin.val_rev]; omega)) rfl)

/-! ### The same for one number per direction and head -/

def lat3 (x : S17408x2x16.Idx → EReal) : S4x4096x2x16.Idx → EReal :=
  shapeCast S4x4096x2x16 (extractStridedSlice S16384x2x16 ![0, 0, 0] x slices_S17408x2x16_S16384x2x16_0_0_0)
    shapeCasts_S16384x2x16_S4x4096x2x16

def ctx3 (x : S17408x2x16.Idx → EReal) : S4x256x2x16.Idx → EReal :=
  shapeCast S4x256x2x16 (extractStridedSlice S1024x2x16 ![16384, 0, 0] x slices_S17408x2x16_S1024x2x16_16384_0_0)
    shapeCasts_S1024x2x16_S4x256x2x16

def lat3f (x : S17408x2x16.Idx → EReal) : S4x4096x16.Idx → EReal :=
  shapeCast S4x4096x16 (extractStridedSlice S4x4096x1x16 ![0, 0, 0, 0] (lat3 x) slices_S4x4096x2x16_S4x4096x1x16_0_0_0_0)
    shapeCasts_S4x4096x1x16_S4x4096x16

def lat3b (x : S17408x2x16.Idx → EReal) : S4x4096x16.Idx → EReal :=
  shapeCast S4x4096x16 (extractStridedSlice S4x4096x1x16 ![0, 0, 1, 0] (lat3 x) slices_S4x4096x2x16_S4x4096x1x16_0_0_1_0)
    shapeCasts_S4x4096x1x16_S4x4096x16

def ctx3f (x : S17408x2x16.Idx → EReal) : S4x256x16.Idx → EReal :=
  shapeCast S4x256x16 (extractStridedSlice S4x256x1x16 ![0, 0, 0, 0] (ctx3 x) slices_S4x256x2x16_S4x256x1x16_0_0_0_0)
    shapeCasts_S4x256x1x16_S4x256x16

def ctx3b (x : S17408x2x16.Idx → EReal) : S4x256x16.Idx → EReal :=
  shapeCast S4x256x16 (extractStridedSlice S4x256x1x16 ![0, 0, 1, 0] (ctx3 x) slices_S4x256x2x16_S4x256x1x16_0_0_1_0)
    shapeCasts_S4x256x1x16_S4x256x16

def join3 (a : S4x256x16.Idx → EReal) (b : S4x4096x16.Idx → EReal) : S4x4352x16.Idx → EReal :=
  concatenate S4x4352x16 1 [⟨S4x256x16, a⟩, ⟨S4x4096x16, b⟩] concatenates_S4x256x16_S4x4096x16_S4x4352x16_d1

def both3 (a b : S4x4352x16.Idx → EReal) : S4352x8x16.Idx → EReal :=
  transpose S4352x8x16 [1, 0, 2] (concatenate S8x4352x16 0 [⟨S4x4352x16, a⟩, ⟨S4x4352x16, b⟩]
    concatenates_S4x4352x16_S4x4352x16_S8x4352x16_d0) transposes_S8x4352x16_S4352x8x16_1_0_2

def stack3 (x : S17408x2x16.Idx → EReal) : S4352x8x16.Idx → EReal :=
  both3 (join3 (ctx3f x) (lat3f x)) (join3 (Host.reverse [1] (ctx3b x)) (Host.reverse [1] (lat3b x)))

theorem lat3f_at (x : S17408x2x16.Idx → EReal) (b : Fin 4) (n : Fin 4096) (h : Fin 16) :
    lat3f x (ix3 b n h) = x (ix3 ⟨4096 * (b : ℕ) + n, by omega⟩ 0 h) := by
  pointwise [lat3f, lat3]
  exact congrArg x (congrArg (fun z => ix3 z 0 h) (Fin.ext (by show (b : ℕ) * 4096 + n = 4096 * b + n; omega)))

theorem lat3b_at (x : S17408x2x16.Idx → EReal) (b : Fin 4) (n : Fin 4096) (h : Fin 16) :
    lat3b x (ix3 b n h) = x (ix3 ⟨4096 * (b : ℕ) + n, by omega⟩ 1 h) := by
  pointwise [lat3b, lat3]
  exact congrArg x (congrArg (fun z => ix3 z 1 h) (Fin.ext (by show (b : ℕ) * 4096 + n = 4096 * b + n; omega)))

theorem ctx3f_at (x : S17408x2x16.Idx → EReal) (b : Fin 4) (n : Fin 256) (h : Fin 16) :
    ctx3f x (ix3 b n h) = x (ix3 ⟨16384 + (256 * (b : ℕ) + n), by omega⟩ 0 h) := by
  pointwise [ctx3f, ctx3]
  exact congrArg x (congrArg (fun z => ix3 z 0 h) (Fin.ext (by show 16384 + ((b : ℕ) * 256 + n) = 16384 + (256 * b + n); omega)))

theorem ctx3b_at (x : S17408x2x16.Idx → EReal) (b : Fin 4) (n : Fin 256) (h : Fin 16) :
    ctx3b x (ix3 b n h) = x (ix3 ⟨16384 + (256 * (b : ℕ) + n), by omega⟩ 1 h) := by
  pointwise [ctx3b, ctx3]
  exact congrArg x (congrArg (fun z => ix3 z 1 h) (Fin.ext (by show 16384 + ((b : ℕ) * 256 + n) = 16384 + (256 * b + n); omega)))

theorem join3_at (u : S4x256x16.Idx → EReal) (w : S4x4096x16.Idx → EReal) (b : Fin 4) (n : Fin 4352) (h : Fin 16) :
    join3 u w (ix3 b n h) = if hn : (n : ℕ) < 256 then u (ix3 b ⟨n, hn⟩ h) else w (ix3 b ⟨n - 256, by omega⟩ h) := by
  pointwise [join3]

theorem both3_at (u w : S4x4352x16.Idx → EReal) (p : Fin 8) (n : Fin 4352) (h : Fin 16) :
    both3 u w (ix3 n p h) = if hp : (p : ℕ) < 4 then u (ix3 ⟨p, hp⟩ n h) else w (ix3 ⟨p - 4, by omega⟩ n h) := by
  pointwise [both3]

theorem revc3_at (u : S4x256x16.Idx → EReal) (b : Fin 4) (n : Fin 256) (h : Fin 16) :
    Host.reverse [1] u (ix3 b n h) = u (ix3 b n.rev h) := by
  pointwise
  simp

theorem revl3_at (u : S4x4096x16.Idx → EReal) (b : Fin 4) (n : Fin 4096) (h : Fin 16) :
    Host.reverse [1] u (ix3 b n h) = u (ix3 b n.rev h) := by
  pointwise
  simp

theorem stack3_at (x : S17408x2x16.Idx → EReal) (d : Fin 2) (b : Fin 4) (n : Fin 4352) (h : Fin 16) :
    stack3 x (ix3 n (seat d b) h) = x (ix3 (row d b n) d h) := by
  unfold stack3
  rw [both3_at]
  obtain rfl | rfl : d = 0 ∨ d = 1 := by omega
  · rw [dif_pos (show (seat 0 b : ℕ) < 4 by rw [seat0]; exact b.isLt), join3_at]
    have eb : (⟨(seat 0 b : ℕ), by rw [seat0]; exact b.isLt⟩ : Fin 4) = b := Fin.ext (seat0 b)
    by_cases hn : (n : ℕ) < 256
    · rw [dif_pos hn, eb, ctx3f_at]
      exact congrArg x (congrArg (fun z => ix3 z 0 h) (row_eq n.isLt _ (by simp [rowN, hn]; omega)))
    · rw [dif_neg hn, eb, lat3f_at]
      exact congrArg x (congrArg (fun z => ix3 z 0 h) (row_eq n.isLt _ (by simp [rowN, hn])))
  · rw [dif_neg (show ¬ (seat 1 b : ℕ) < 4 by rw [seat1]; omega), join3_at]
    have eb : (⟨(seat 1 b : ℕ) - 4, by rw [seat1]; omega⟩ : Fin 4) = b := Fin.ext (by show (seat 1 b : ℕ) - 4 = b; rw [seat1]; exact Nat.add_sub_cancel_left _ _)
    by_cases hn : (n : ℕ) < 256
    · rw [dif_pos hn, eb, revc3_at, ctx3b_at]
      exact congrArg x (congrArg (fun z => ix3 z 1 h) (row_eq n.isLt _ (by simp [rowN, hn, Fin.val_rev]; omega)))
    · rw [dif_neg hn, eb, revl3_at, lat3b_at]
      exact congrArg x (congrArg (fun z => ix3 z 1 h) (row_eq n.isLt _ (by simp [rowN, hn, Fin.val_rev]; omega)))

end Cert.ReferenceIdeal.Stack

end
-- ==== Proof.RefStep.lean ====
/- One step of the reference's loop at real data: what it reads at its position, the state it leaves, the row it writes. -/
module

public import proofs.«01_k».proof.Proof.Seq
public import proofs.«01_k».proof.Proof.HeadAt
public import proofs.«01_k».proof.Proof.Gen.ReferenceIdeal.Run
public import Idealize.ShloMosaic.Lib.Pointwise
public import Idealize.ShloMosaic.Lib.WordCmp
public import Idealize.ShloMosaic.Lib.DynamicIndex

@[expose] public section

set_option maxRecDepth 65536

noncomputable section

namespace Cert.ReferenceIdeal.Scan

open Idealize.ShloMosaic Idealize.ShloMosaic.TcCoe Idealize.ShloMosaic.Tactic
open Cert.ReferenceIdeal Cert.ReferenceIdeal.Gen Cert.ReferenceIdeal.Value Cert.Delta
open Cert.KernelIdeal.Head (coe_sum coe_dot)

/-- Starts of a block one position long at position `n`. -/
theorem starts4 (w z1 z2 z3 : (⟨S_, .i32⟩ : BufTy).Contents (Elt Ideal)) {n : ℕ} (hn : n < 4352)
    (hw : w (Shape.Idx.first h_S_) = BitVec.ofNat 32 n) (h1 : z1 = constantI S_ 32 0#32) (h2 : z2 = constantI S_ 32 0#32)
    (h3 : z3 = constantI S_ 32 0#32) (k : Fin 4) :
    ((![w, z1, z2, z3] : Fin 4 → (⟨S_, .i32⟩ : BufTy).Contents (Elt Ideal)) k (Shape.Idx.first h_S_)).toInt
      = ((![n, 0, 0, 0] : Fin 4 → ℕ) k : Int) := by
  subst h1 h2 h3
  match k with
  | ⟨0, _⟩ => exact (congrArg BitVec.toInt hw).trans (toInt_ofNat_of_lt (by omega))
  | ⟨1, _⟩ => rfl
  | ⟨2, _⟩ => rfl
  | ⟨3, _⟩ => rfl

theorem starts3 (w z1 z2 : (⟨S_, .i32⟩ : BufTy).Contents (Elt Ideal)) {n : ℕ} (hn : n < 4352)
    (hw : w (Shape.Idx.first h_S_) = BitVec.ofNat 32 n) (h1 : z1 = constantI S_ 32 0#32) (h2 : z2 = constantI S_ 32 0#32)
    (k : Fin 3) :
    ((![w, z1, z2] : Fin 3 → (⟨S_, .i32⟩ : BufTy).Contents (Elt Ideal)) k (Shape.Idx.first h_S_)).toInt
      = ((![n, 0, 0] : Fin 3 → ℕ) k : Int) := by
  subst h1 h2
  match k with
  | ⟨0, _⟩ => exact (congrArg BitVec.toInt hw).trans (toInt_ofNat_of_lt (by omega))
  | ⟨1, _⟩ => rfl
  | ⟨2, _⟩ => rfl

/-- The position's vectors, of a stack of vectors. -/
theorem take4 (x : S4352x8x16x128.Idx → EReal) (st : Fin 4 → Int) (n : Fin 4352)
    (hs : ∀ k, st k = ((![(n : ℕ), 0, 0, 0] : Fin 4 → ℕ) k : Int)) (p : Fin 8) (h : Fin 16) (a : Fin 128) :
    shapeCast S8x16x128 (Host.dynamicSlice S1x8x16x128 x st sliceFits_S4352x8x16x128_S1x8x16x128)
      shapeCasts_S1x8x16x128_S8x16x128 (ix3 p h a) = x (ix4 n p h a) := by
  rw [WordCmp.dynamicSlice_eq_extract S1x8x16x128 x st sliceFits_S4352x8x16x128_S1x8x16x128 ![(n : ℕ), 0, 0, 0]
    ⟨rfl, fun k => match k with
      | ⟨0, _⟩ => by show (n : ℕ) + 1 ≤ 4352; omega
      | ⟨1, _⟩ => le_refl _
      | ⟨2, _⟩ => le_refl _
      | ⟨3, _⟩ => le_refl _⟩ hs]
  pointwise

theorem take3 (x : S4352x8x16.Idx → EReal) (st : Fin 3 → Int) (n : Fin 4352)
    (hs : ∀ k, st k = ((![(n : ℕ), 0, 0] : Fin 3 → ℕ) k : Int)) (p : Fin 8) (h : Fin 16) :
    shapeCast S8x16 (Host.dynamicSlice S1x8x16 x st sliceFits_S4352x8x16_S1x8x16)
      shapeCasts_S1x8x16_S8x16 (ix2 p h) = x (ix3 n p h) := by
  rw [WordCmp.dynamicSlice_eq_extract S1x8x16 x st sliceFits_S4352x8x16_S1x8x16 ![(n : ℕ), 0, 0]
    ⟨rfl, fun k => match k with
      | ⟨0, _⟩ => by show (n : ℕ) + 1 ≤ 4352; omega
      | ⟨1, _⟩ => le_refl _
      | ⟨2, _⟩ => le_refl _⟩ hs]
  pointwise

/-- A row written at position `n`. -/
theorem put4 (x : S4352x8x16x128.Idx → EReal) (u : S1x8x16x128.Idx → EReal) (st : Fin 4 → Int) (n : Fin 4352)
    (hs : ∀ k, st k = ((![(n : ℕ), 0, 0, 0] : Fin 4 → ℕ) k : Int)) (i : Fin 4352) (p : Fin 8) (h : Fin 16) (a : Fin 128) :
    Host.dynamicUpdateSlice x u st updateFits_S4352x8x16x128_S1x8x16x128 (ix4 i p h a)
      = if i = n then u (ix4 0 p h a) else x (ix4 i p h a) := by
  rw [WordCmp.dynamicUpdateSlice_eq_update x u st updateFits_S4352x8x16x128_S1x8x16x128 ![(n : ℕ), 0, 0, 0]
    ⟨rfl, fun k => match k with
      | ⟨0, _⟩ => by show (n : ℕ) + 1 ≤ 4352; omega
      | ⟨1, _⟩ => le_refl _
      | ⟨2, _⟩ => le_refl _
      | ⟨3, _⟩ => le_refl _⟩ hs]
  pointwise
  by_cases e : i = n
  · subst e
    rw [dif_pos ⟨le_refl _, Nat.lt_succ_self _⟩, if_pos rfl]
    exact congrArg u (congrArg (fun z => ix4 z p h a) (Fin.ext (Nat.sub_self _)))
  · rw [dif_neg (fun hh => e (Fin.ext (by omega))), if_neg e]

/-! ### The step's arithmetic, on any blocks -/

theorem decay_at (s : FVec Ideal S8x16x128x128 .f32) (x : FVec Ideal S8x16 .f32) (p : Fin 8) (h : Fin 16) (a b : Fin 128) {t r : ℝ}
    (ht : s (ix4 p h a b) = ((t : ℝ) : EReal)) (hr : x (ix2 p h) = ((r : ℝ) : EReal)) :
    (mulf s (broadcastInDim S8x16x128x128 ![0, 1, 2, 3] bcast_S8x16x1x1_S8x16x128x128_0_1_2_3
      (broadcastInDim S8x16x1x1 ![0, 1] bcast_S8x16_S8x16x1x1_0_1 (Host.exp x))) (ix4 p h a b) : EReal)
      = ((t * Real.exp r : ℝ) : EReal) := by
  pointwise
  rw [ht, hr, Ideal.exp_coe, EReal.coe_mul]

theorem read_at (s : FVec Ideal S8x16x128x128 .f32) (x : FVec Ideal S8x16x128 .f32) (p : Fin 8) (h : Fin 16) (b : Fin 128) :
    ((Host.dotGeneral dot_S8x16x128x128_S8x16x128_S8x16x128_2_2_3_n_01_01 none s x : FVec Ideal S8x16x128 .f32) (ix3 p h b) : EReal)
      = ∑ c, s (ix4 p h c b) * x (ix3 p h c) := by
  pointwise

theorem write_at (s : FVec Ideal S8x16x128x128 .f32) (k v r : FVec Ideal S8x16x128 .f32) (β : FVec Ideal S8x16 .f32)
    (p : Fin 8) (h : Fin 16) (a b : Fin 128) {t κ w ν ρ : ℝ}
    (ht : s (ix4 p h a b) = ((t : ℝ) : EReal)) (hk : k (ix3 p h a) = ((κ : ℝ) : EReal)) (hβ : β (ix2 p h) = ((w : ℝ) : EReal))
    (hv : v (ix3 p h b) = ((ν : ℝ) : EReal)) (hr : r (ix3 p h b) = ((ρ : ℝ) : EReal)) :
    (addf s (mulf (broadcastInDim S8x16x128x128 ![0, 1, 2, 3] bcast_S8x16x128x1_S8x16x128x128_0_1_2_3
        (broadcastInDim S8x16x128x1 ![0, 1, 2] bcast_S8x16x128_S8x16x128x1_0_1_2 k))
      (broadcastInDim S8x16x128x128 ![0, 1, 2, 3] bcast_S8x16x1x128_S8x16x128x128_0_1_2_3
        (broadcastInDim S8x16x1x128 ![0, 1, 3] bcast_S8x16x128_S8x16x1x128_0_1_3
          (mulf (broadcastInDim S8x16x128 ![0, 1, 2] bcast_S8x16x1_S8x16x128_0_1_2
            (broadcastInDim S8x16x1 ![0, 1] bcast_S8x16_S8x16x1_0_1 β)) (subf v r))))) (ix4 p h a b) : EReal)
      = ((t + κ * (w * (ν - ρ)) : ℝ) : EReal) := by
  pointwise
  rw [ht, hk, hβ, hv, hr]
  simp only [← EReal.coe_sub, ← EReal.coe_mul, ← EReal.coe_add]

theorem row_at (x : FVec Ideal S8x16x128 .f32) (p : Fin 8) (h : Fin 16) (a : Fin 128) :
    broadcastInDim S1x8x16x128 ![1, 2, 3] bcast_S8x16x128_S1x8x16x128_1_2_3 x (ix4 0 p h a) = x (ix3 p h a) := by
  pointwise

/-! ### One step -/

section
variable (q k v : Fin 8 → Fin 16 → ℕ → Fin 128 → ℝ) (β g : Fin 8 → Fin 16 → ℕ → ℝ)

/-- The loop's fixed inputs hold the sequences `q`, `k`, `v`, `β`, `g`. -/
structure Fed (V : Valuation τ sig (Elt Ideal)) : Prop where
  q : ∀ (n : Fin 4352) p h a, (V (Proc.devRef .tc main_v94_0) (ix4 n p h a) : EReal) = ((q p h n a : ℝ) : EReal)
  k : ∀ (n : Fin 4352) p h a, (V (Proc.devRef .tc main_v94_1) (ix4 n p h a) : EReal) = ((k p h n a : ℝ) : EReal)
  v : ∀ (n : Fin 4352) p h a, (V (Proc.devRef .tc main_v94_2) (ix4 n p h a) : EReal) = ((v p h n a : ℝ) : EReal)
  β : ∀ (n : Fin 4352) p h, (V (Proc.devRef .tc main_v94_3) (ix3 n p h) : EReal) = ((β p h n : ℝ) : EReal)
  g : ∀ (n : Fin 4352) p h, (V (Proc.devRef .tc main_v94_4) (ix3 n p h) : EReal) = ((g p h n : ℝ) : EReal)

variable {q k v β g} {V : Valuation τ sig (Elt Ideal)} (F : Fed q k v β g V) (n : Fin 4352)
  (hc : (V (Proc.devRef .tc main_v94_5) : S_.Idx → BitVec 32) (Shape.Idx.first h_S_) = BitVec.ofNat 32 n)
  {s : Fin 8 → Fin 16 → Fin 128 → Fin 128 → ℝ}
  (hs : ∀ p h a b, (V (Proc.devRef .tc main_v94_6) (ix4 p h a b) : EReal) = ((s p h a b : ℝ) : EReal))

include F hc in
theorem key_at (p : Fin 8) (h : Fin 16) (a : Fin 128) :
    (res_main_while0b_v115 V (ix3 p h a) : EReal) = ((k p h n a : ℝ) : EReal) := by
  unfold res_main_while0b_v115
  exact (take4 _ _ n (starts4 _ _ _ _ n.isLt hc rfl rfl rfl) p h a).trans (F.k n p h a)

include F hc hs in
theorem decayed_at (p : Fin 8) (h : Fin 16) (a b : Fin 128) :
    (res_main_while0b_v122 V (ix4 p h a b) : EReal) = ((s p h a b * Real.exp (g p h n) : ℝ) : EReal) := by
  have e := (take3 _ _ n (starts3 _ _ _ n.isLt hc rfl rfl) p h).trans (F.g n p h)
  unfold res_main_while0b_v122
  exact decay_at _ _ p h a b (hs p h a b) e

include F hc hs in
theorem state_at (p : Fin 8) (h : Fin 16) (a b : Fin 128) :
    (STEP V (Proc.devRef .tc main_v94_6) (ix4 p h a b) : EReal)
      = ((s p h a b * Real.exp (g p h n) + k p h n a * upd (k p h) (v p h) (β p h) (g p h) n (s p h) b : ℝ) : EReal) := by
  have eβ := (take3 _ _ n (starts3 _ _ _ n.isLt hc rfl rfl) p h).trans (F.β n p h)
  have ev := (take4 _ _ n (starts4 _ _ _ _ n.isLt hc rfl rfl rfl) p h b).trans (F.v n p h b)
  have er := (read_at (res_main_while0b_v122 V) (res_main_while0b_v115 V) p h b).trans
    ((Finset.sum_congr rfl fun c _ => congrArg₂ (fun x y : EReal => x * y) (decayed_at F n hc hs p h c b) (key_at F n hc p h c)).trans
      (coe_dot _ _ _))
  rw [STEP_main_v94_6]
  unfold step_main_v94_6
  show (res_main_while0b_v133 V (ix4 p h a b) : EReal) = _
  unfold res_main_while0b_v133
  exact write_at _ _ _ _ _ p h a b (decayed_at F n hc hs p h a b) (key_at F n hc p h a) eβ ev er

include F hc in
/-- The row written is the new state read with the query; the other rows stay. -/
theorem outputs_at {t : Fin 8 → Fin 16 → Fin 128 → Fin 128 → ℝ}
    (ht : ∀ p h a b, (STEP V (Proc.devRef .tc main_v94_6) (ix4 p h a b) : EReal) = ((t p h a b : ℝ) : EReal))
    (i : Fin 4352) (p : Fin 8) (h : Fin 16) (b : Fin 128) :
    (STEP V (Proc.devRef .tc main_v94_7) (ix4 i p h b) : EReal)
      = if i = n then ((∑ a, t p h a b * q p h n a : ℝ) : EReal) else V (Proc.devRef .tc main_v94_7) (ix4 i p h b) := by
  have eq := fun a => (take4 _ _ n (starts4 _ _ _ _ n.isLt hc rfl rfl rfl) p h a).trans (F.q n p h a)
  have et : ∀ p h a b, (res_main_while0b_v133 V (ix4 p h a b) : EReal) = ((t p h a b : ℝ) : EReal) := fun p h a b => by
    rw [← ht p h a b, STEP_main_v94_6]; rfl
  rw [STEP_main_v94_7]
  unfold step_main_v94_7
  refine (put4 _ _ _ n (starts4 _ _ _ _ n.isLt hc rfl rfl rfl) i p h b).trans ?_
  by_cases e : i = n
  · rw [if_pos e, if_pos e]
    refine (row_at _ p h b).trans ((read_at _ _ p h b).trans
      ((Finset.sum_congr rfl fun c _ => congrArg₂ (fun x y : EReal => x * y) (et p h c b) (eq c)).trans (coe_dot _ _ _)))
  · rw [if_neg e, if_neg e]

end

end Cert.ReferenceIdeal.Scan

end
-- ==== Proof.RefScan.lean ====
/- The reference's loop: after `n` trips the state is the recurrence's state after `n` positions and the rows below `n`
   of the output hold the recurrence's outputs. -/
module

public import proofs.«01_k».proof.Proof.RefStep

@[expose] public section

set_option maxRecDepth 65536

noncomputable section

namespace Cert.ReferenceIdeal.Scan

open Idealize.ShloMosaic Idealize.ShloMosaic.TcCoe Idealize.ShloMosaic.Tactic
open Cert.ReferenceIdeal Cert.ReferenceIdeal.Gen Cert.ReferenceIdeal.Value Cert.Delta

section
variable {q k v : Fin 8 → Fin 16 → ℕ → Fin 128 → ℝ} {β g : Fin 8 → Fin 16 → ℕ → ℝ} {V : Valuation τ sig (Elt Ideal)}

/-- The loop's fixed inputs are never written. -/
theorem Fed.step (F : Fed q k v β g V) : Fed q k v β g (STEP V) where
  q := by rw [STEP_main_v94_0]; exact F.q
  k := by rw [STEP_main_v94_1]; exact F.k
  v := by rw [STEP_main_v94_2]; exact F.v
  β := by rw [STEP_main_v94_3]; exact F.β
  g := by rw [STEP_main_v94_4]; exact F.g

/-- What is known after `n` trips. -/
structure After (q k v : Fin 8 → Fin 16 → ℕ → Fin 128 → ℝ) (β g : Fin 8 → Fin 16 → ℕ → ℝ) (n : ℕ)
    (V : Valuation τ sig (Elt Ideal)) : Prop where
  fed : Fed q k v β g V
  counter : (V (Proc.devRef .tc main_v94_5) : S_.Idx → BitVec 32) (Shape.Idx.first h_S_) = BitVec.ofNat 32 n
  state : ∀ p h a b, (V (Proc.devRef .tc main_v94_6) (ix4 p h a b) : EReal)
    = ((state (k p h) (v p h) (β p h) (g p h) n a b : ℝ) : EReal)
  outputs : ∀ (i : Fin 4352) p h b, (i : ℕ) < n → (V (Proc.devRef .tc main_v94_7) (ix4 i p h b) : EReal)
    = ((out (q p h) (k p h) (v p h) (β p h) (g p h) i b : ℝ) : EReal)

theorem After.step {n : ℕ} (hn : n < 4352) (A : After q k v β g n V) : After q k v β g (n + 1) (STEP V) := by
  have hs := state_at A.fed ⟨n, hn⟩ A.counter A.state
  refine ⟨A.fed.step, ?_, hs, fun i p h b hi => ?_⟩
  · rw [STEP_main_v94_5]
    exact (congrArg (fun z : BitVec 32 => z + 1#32) A.counter).trans (BitVec.ofNat_add n 1).symm
  · refine (outputs_at A.fed ⟨n, hn⟩ A.counter hs i p h b).trans ?_
    by_cases e : i = ⟨n, hn⟩
    · subst e; rw [if_pos rfl]; rfl
    · rw [if_neg e]
      exact A.outputs i p h b (Nat.lt_of_le_of_ne (Nat.le_of_lt_succ hi) fun e' => e (Fin.ext e'))

theorem After.run (A : After q k v β g 0 V) : ∀ n, n ≤ 4352 → After q k v β g n (STEP^[n] V)
  | 0, _ => A
  | n + 1, h => by
    rw [Function.iterate_succ_apply']
    exact (After.run A n (Nat.le_of_succ_le h)).step h

end

end Cert.ReferenceIdeal.Scan

end
-- ==== Proof.RefEntry.lean ====
/- What the reference's loop starts from: the queries, keys, values, writing strengths and log decays of every position,
   computed from the call's arguments, and a zero state. -/
module

public import proofs.«01_k».proof.Proof.RefStack
public import proofs.«01_k».proof.Proof.RefScan

@[expose] public section

set_option maxRecDepth 65536

noncomputable section

namespace Cert.ReferenceIdeal.Entry

open Idealize.ShloMosaic Idealize.ShloMosaic.TcCoe Idealize.ShloMosaic.Tactic Idealize.ShloMosaic.StableHlo
open Cert.ReferenceIdeal Cert.ReferenceIdeal.Gen Cert.ReferenceIdeal.Value Cert.ReferenceIdeal.Stack Cert.Delta
open Cert.KernelIdeal.Head (sigm spl gate div_coe log_coe abs_coe max_coe one_add_exp_pos)

/-- The three column blocks of the first argument. -/
def cols0 (x : FVec Ideal S17408x6144 .bf16) : FVec Ideal S17408x2048 .f32 :=
  extractStridedSlice S17408x2048 ![0, 0] (extf .f32 x bitsLt_bf16_f32) slices_S17408x6144_S17408x2048_0_0
def cols1 (x : FVec Ideal S17408x6144 .bf16) : FVec Ideal S17408x2048 .f32 :=
  extractStridedSlice S17408x2048 ![0, 2048] (extf .f32 x bitsLt_bf16_f32) slices_S17408x6144_S17408x2048_0_2048
def cols2 (x : FVec Ideal S17408x6144 .bf16) : FVec Ideal S17408x2048 .f32 :=
  extractStridedSlice S17408x2048 ![0, 4096] (extf .f32 x bitsLt_bf16_f32) slices_S17408x6144_S17408x2048_0_4096

/-- The gate logits, split into strengths and decays by direction and head. -/
def logits (x : FVec Ideal S17408x128 .f32) : FVec Ideal S17408x4x16 .f32 :=
  shapeCast S17408x4x16 (extractStridedSlice S17408x64 ![0, 0] x slices_S17408x128_S17408x64_0_0) shapeCasts_S17408x64_S17408x4x16

def ones : FVec Ideal S17408x2x16 .f32 := broadcastInDim S17408x2x16 ![] bcast_S_S17408x2x16 (constant S_ .f32 0x3F800000#32)
def zeros : FVec Ideal S17408x2x16 .f32 := broadcastInDim S17408x2x16 ![] bcast_S_S17408x2x16 (constant S_ .f32 0x00000000#32)

def strengths (x : FVec Ideal S17408x128 .f32) : FVec Ideal S17408x2x16 .f32 :=
  Host.divf ones (addf ones (Host.exp (Host.negf
    (extractStridedSlice S17408x2x16 ![0, 0, 0] (logits x) slices_S17408x4x16_S17408x2x16_0_0_0))))

def soft (z : FVec Ideal S17408x2x16 .f32) : FVec Ideal S17408x2x16 .f32 :=
  select (cmpf .une (subf z zeros) (subf z zeros)) (addf z zeros)
    (addf (maximumf z zeros) (Host.log1p (Host.exp (Host.negf (Host.absf (subf z zeros))))))

def spread (a : FVec Ideal S2x16 .f32) : FVec Ideal S17408x2x16 .f32 :=
  broadcastInDim S17408x2x16 ![0, 1, 2] bcast_S1x2x16_S17408x2x16_0_1_2 (broadcastInDim S1x2x16 ![1, 2] bcast_S2x16_S1x2x16_1_2 a)

def decays (x : FVec Ideal S17408x128 .f32) (a d : FVec Ideal S2x16 .f32) : FVec Ideal S17408x2x16 .f32 :=
  mulf (spread (Host.negf (Host.exp a)))
    (soft (addf (extractStridedSlice S17408x2x16 ![0, 2, 0] (logits x) slices_S17408x4x16_S17408x2x16_0_2_0) (spread d)))

section
variable (m : (ℓ : Loc nD τ sig) → Buf (Elt Ideal) ℓ) (c : Dev nD)

set_option maxHeartbeats 4000000 in
theorem entry0 : (entryContents preI m c (Proc.devRef .tc main_v94_0) : S4352x8x16x128.Idx → EReal)
    = stack4 (cols0 (m ((c : Thread nD τ).loc main_arg0))) := by
  simp only [entryContents, afterL_cons, afterL_nil]
  after_reads_simp
  change both4 _ _ = _
  after_reads_simp
  change both4 (join4 _ _) (join4 _ _) = _
  after_reads_simp
  rfl

set_option maxHeartbeats 4000000 in
theorem entry1 : (entryContents preI m c (Proc.devRef .tc main_v94_1) : S4352x8x16x128.Idx → EReal)
    = stack4 (cols1 (m ((c : Thread nD τ).loc main_arg0))) := by
  simp only [entryContents, afterL_cons, afterL_nil]
  after_reads_simp
  change both4 _ _ = _
  after_reads_simp
  change both4 (join4 _ _) (join4 _ _) = _
  after_reads_simp
  rfl

set_option maxHeartbeats 4000000 in
theorem entry2 : (entryContents preI m c (Proc.devRef .tc main_v94_2) : S4352x8x16x128.Idx → EReal)
    = stack4 (cols2 (m ((c : Thread nD τ).loc main_arg0))) := by
  simp only [entryContents, afterL_cons, afterL_nil]
  after_reads_simp
  change both4 _ _ = _
  after_reads_simp
  change both4 (join4 _ _) (join4 _ _) = _
  after_reads_simp
  rfl

set_option maxHeartbeats 4000000 in
theorem entry3 : (entryContents preI m c (Proc.devRef .tc main_v94_3) : S4352x8x16.Idx → EReal)
    = stack3 (strengths (m ((c : Thread nD τ).loc main_arg1))) := by
  simp only [entryContents, afterL_cons, afterL_nil]
  after_reads_simp
  change both3 _ _ = _
  after_reads_simp
  change both3 (join3 _ _) (join3 _ _) = _
  after_reads_simp
  rfl

set_option maxHeartbeats 4000000 in
theorem entry4 : (entryContents preI m c (Proc.devRef .tc main_v94_4) : S4352x8x16.Idx → EReal)
    = stack3 (decays (m ((c : Thread nD τ).loc main_arg1)) (m ((c : Thread nD τ).loc main_arg2))
      (m ((c : Thread nD τ).loc main_arg3))) := by
  simp only [entryContents, afterL_cons, afterL_nil]
  after_reads_simp
  change both3 _ _ = _
  after_reads_simp
  change both3 (join3 _ _) (join3 _ _) = _
  after_reads_simp
  rfl

set_option maxHeartbeats 4000000 in
theorem entry6 : (entryContents preI m c (Proc.devRef .tc main_v94_6) : S8x16x128x128.Idx → EReal)
    = broadcastInDim S8x16x128x128 ![] bcast_S_S8x16x128x128 (constant (F := Ideal) S_ .f32 0x00000000#32) := by
  simp only [entryContents, afterL_cons, afterL_nil]
  after_reads_simp
  rfl

end

end Cert.ReferenceIdeal.Entry

end
-- ==== Proof.RefOut.lean ====
/- How the reference lays the loop's outputs out again as rows, read element by element: the row of a position holds that
   position's outputs. -/
module

public import proofs.«01_k».proof.Proof.RefStack

@[expose] public section

set_option maxRecDepth 65536

noncomputable section

namespace Cert.ReferenceIdeal.Stack

open Idealize.ShloMosaic Idealize.ShloMosaic.TcCoe Idealize.ShloMosaic.Tactic
open Cert.ReferenceIdeal Cert.ReferenceIdeal.Gen Cert.ReferenceIdeal.Value Cert.Delta

/-- Latent rows, then context rows. -/
def glue (L : S4x4096x16x128.Idx → EReal) (C : S4x256x16x128.Idx → EReal) : S17408x2048.Idx → EReal :=
  concatenate S17408x2048 0 [⟨S16384x2048, shapeCast S16384x2048 L shapeCasts_S4x4096x16x128_S16384x2048⟩,
    ⟨S1024x2048, shapeCast S1024x2048 C shapeCasts_S4x256x16x128_S1024x2048⟩] concatenates_S16384x2048_S1024x2048_S17408x2048_d0

def dirF (y : S4352x8x16x128.Idx → EReal) : S4x4352x16x128.Idx → EReal :=
  extractStridedSlice S4x4352x16x128 ![0, 0, 0, 0]
    (transpose S8x4352x16x128 [1, 0, 2, 3] y transposes_S4352x8x16x128_S8x4352x16x128_1_0_2_3)
    slices_S8x4352x16x128_S4x4352x16x128_0_0_0_0

def dirB (y : S4352x8x16x128.Idx → EReal) : S4x4352x16x128.Idx → EReal :=
  extractStridedSlice S4x4352x16x128 ![4, 0, 0, 0]
    (transpose S8x4352x16x128 [1, 0, 2, 3] y transposes_S4352x8x16x128_S8x4352x16x128_1_0_2_3)
    slices_S8x4352x16x128_S4x4352x16x128_4_0_0_0

def cutL (y : S4x4352x16x128.Idx → EReal) : S4x4096x16x128.Idx → EReal :=
  extractStridedSlice S4x4096x16x128 ![0, 256, 0, 0] y slices_S4x4352x16x128_S4x4096x16x128_0_256_0_0

def cutC (y : S4x4352x16x128.Idx → EReal) : S4x256x16x128.Idx → EReal :=
  extractStridedSlice S4x256x16x128 ![0, 0, 0, 0] y slices_S4x4352x16x128_S4x256x16x128_0_0_0_0

def pair (a b : S17408x2048.Idx → EReal) : S2x17408x2048.Idx → EReal :=
  concatenate S2x17408x2048 0 [⟨S1x17408x2048, broadcastInDim S1x17408x2048 ![1, 2] bcast_S17408x2048_S1x17408x2048_1_2 a⟩,
    ⟨S1x17408x2048, broadcastInDim S1x17408x2048 ![1, 2] bcast_S17408x2048_S1x17408x2048_1_2 b⟩]
    concatenates_S1x17408x2048_S1x17408x2048_S2x17408x2048_d0

def unstack (y : S4352x8x16x128.Idx → EReal) : S2x17408x2048.Idx → EReal :=
  pair (glue (cutL (dirF y)) (cutC (dirF y))) (glue (Host.reverse [1] (cutL (dirB y))) (Host.reverse [1] (cutC (dirB y))))

theorem out_eq (V : Valuation τ sig (Elt Ideal)) :
    (out_main_v113 V : S2x17408x2048.Idx → EReal) = unstack (V (Proc.devRef .tc main_v94_7)) := rfl

theorem pair0 (a b : S17408x2048.Idx → EReal) (r : Fin 17408) (k : Fin 2048) : pair a b (ix3 0 r k) = a (ix2 r k) := by
  pointwise [pair]

theorem pair1 (a b : S17408x2048.Idx → EReal) (r : Fin 17408) (k : Fin 2048) : pair a b (ix3 1 r k) = b (ix2 r k) := by
  pointwise [pair]

theorem glueL (L : S4x4096x16x128.Idx → EReal) (C : S4x256x16x128.Idx → EReal) (b : Fin 4) (j : Fin 4096) (h : Fin 16)
    (e : Fin 128) {r : Fin 17408} (hr : (r : ℕ) = 4096 * b + j) :
    glue L C (ix2 r ⟨128 * (h : ℕ) + e, by omega⟩) = L (ix4 b j h e) := by
  pointwise [glue]
  rw [dif_pos (by omega)]
  exact congrArg L (congrArg₂ (fun u w => ix4 u w h e) (Fin.ext (by show (r : ℕ) / 4096 = b; omega))
    (Fin.ext (by show (r : ℕ) % 4096 = j; omega)))

theorem glueC (L : S4x4096x16x128.Idx → EReal) (C : S4x256x16x128.Idx → EReal) (b : Fin 4) (j : Fin 256) (h : Fin 16)
    (e : Fin 128) {r : Fin 17408} (hr : (r : ℕ) = 16384 + (256 * b + j)) :
    glue L C (ix2 r ⟨128 * (h : ℕ) + e, by omega⟩) = C (ix4 b j h e) := by
  pointwise [glue]
  rw [dif_neg (by omega)]
  exact congrArg C (congrArg₂ (fun u w => ix4 u w h e) (Fin.ext (by show ((r : ℕ) - 16384) / 256 = b; omega))
    (Fin.ext (by show ((r : ℕ) - 16384) % 256 = j; omega)))

theorem cutL_F (y : S4352x8x16x128.Idx → EReal) (b : Fin 4) (j : Fin 4096) (h : Fin 16) (e : Fin 128) :
    cutL (dirF y) (ix4 b j h e) = y (ix4 ⟨256 + j, by omega⟩ (seat 0 b) h e) := by
  pointwise [cutL, dirF]
  exact congrArg y (congrArg (fun z => ix4 _ z h e) (Fin.ext (seat0 b).symm))

theorem cutC_F (y : S4352x8x16x128.Idx → EReal) (b : Fin 4) (j : Fin 256) (h : Fin 16) (e : Fin 128) :
    cutC (dirF y) (ix4 b j h e) = y (ix4 ⟨j, by omega⟩ (seat 0 b) h e) := by
  pointwise [cutC, dirF]
  exact congrArg y (congrArg (fun z => ix4 _ z h e) (Fin.ext (seat0 b).symm))

theorem cutL_B (y : S4352x8x16x128.Idx → EReal) (b : Fin 4) (j : Fin 4096) (h : Fin 16) (e : Fin 128) :
    cutL (dirB y) (ix4 b j h e) = y (ix4 ⟨256 + j, by omega⟩ (seat 1 b) h e) := by
  pointwise [cutL, dirB]
  exact congrArg y (congrArg (fun z => ix4 _ z h e) (Fin.ext (seat1 b).symm))

theorem cutC_B (y : S4352x8x16x128.Idx → EReal) (b : Fin 4) (j : Fin 256) (h : Fin 16) (e : Fin 128) :
    cutC (dirB y) (ix4 b j h e) = y (ix4 ⟨j, by omega⟩ (seat 1 b) h e) := by
  pointwise [cutC, dirB]
  exact congrArg y (congrArg (fun z => ix4 _ z h e) (Fin.ext (seat1 b).symm))

theorem unstack_at (y : S4352x8x16x128.Idx → EReal) (d : Fin 2) (b : Fin 4) (n : Fin 4352) (h : Fin 16) (e : Fin 128) :
    unstack y (ix3 d (row d b n) ⟨128 * (h : ℕ) + e, by omega⟩) = y (ix4 n (seat d b) h e) := by
  unfold unstack
  have hv := row_val d b n.isLt
  have le : ∀ (hn : ¬ (n : ℕ) < 256) (h' : 256 + ((n : ℕ) - 256) < 4352), (⟨256 + ((n : ℕ) - 256), h'⟩ : Fin 4352) = n :=
    fun hn _ => Fin.ext (by show 256 + ((n : ℕ) - 256) = n; omega)
  obtain rfl | rfl : d = 0 ∨ d = 1 := by omega
  · rw [pair0]
    by_cases hn : (n : ℕ) < 256
    · rw [glueC _ _ b ⟨n, hn⟩ h e (by rw [hv]; simp [rowN, hn]; omega), cutC_F]
    · rw [glueL _ _ b ⟨n - 256, by omega⟩ h e (by rw [hv]; simp [rowN, hn]), cutL_F]
      exact congrArg y (congrArg (fun z => ix4 z _ h e) (le hn _))
  · rw [pair1]
    by_cases hn : (n : ℕ) < 256
    · rw [glueC _ _ b (⟨n, hn⟩ : Fin 256).rev h e (by rw [hv]; simp [rowN, hn, Fin.val_rev]; omega), revc4_at, Fin.rev_rev, cutC_B]
    · rw [glueL _ _ b (⟨n - 256, by omega⟩ : Fin 4096).rev h e (by rw [hv]; simp [rowN, hn, Fin.val_rev]; omega), revl4_at,
        Fin.rev_rev, cutL_B]
      exact congrArg y (congrArg (fun z => ix4 z _ h e) (le hn _))

end Cert.ReferenceIdeal.Stack

end
-- ==== Proof.RefData.lean ====
/- What the reference's loop starts from, as real numbers, and the array the reference returns: the outputs of the
   recurrence, each in its position's row. -/
module

public import proofs.«01_k».proof.Proof.RefEntry
public import proofs.«01_k».proof.Proof.RefOut

@[expose] public section

set_option maxRecDepth 65536

noncomputable section

namespace Cert.ReferenceIdeal.Entry

open Idealize.ShloMosaic Idealize.ShloMosaic.TcCoe Idealize.ShloMosaic.Tactic Idealize.ShloMosaic.StableHlo
open Cert.ReferenceIdeal Cert.ReferenceIdeal.Gen Cert.ReferenceIdeal.Value Cert.ReferenceIdeal.Stack Cert.ReferenceIdeal.Scan
open Cert.Delta
open Cert.KernelIdeal.Head (sigm spl gate div_coe log_coe abs_coe max_coe one_add_exp_pos)

theorem cols0_at (x : FVec Ideal S17408x6144 .bf16) (r : Fin 17408) (k : Fin 2048) :
    (cols0 x (ix2 r k) : EReal) = x (ix2 r ⟨k, by omega⟩) := by
  pointwise [cols0]

theorem cols1_at (x : FVec Ideal S17408x6144 .bf16) (r : Fin 17408) (k : Fin 2048) :
    (cols1 x (ix2 r k) : EReal) = x (ix2 r ⟨2048 + k, by omega⟩) := by
  pointwise [cols1]

theorem cols2_at (x : FVec Ideal S17408x6144 .bf16) (r : Fin 17408) (k : Fin 2048) :
    (cols2 x (ix2 r k) : EReal) = x (ix2 r ⟨4096 + k, by omega⟩) := by
  pointwise [cols2]

theorem ones_at (r : Fin 17408) (d : Fin 2) (h : Fin 16) : (ones (ix3 r d h) : EReal) = ((1 : ℝ) : EReal) := by
  pointwise [ones]
  exact EReal.coe_one.symm

theorem zeros_at (r : Fin 17408) (d : Fin 2) (h : Fin 16) : (zeros (ix3 r d h) : EReal) = ((0 : ℝ) : EReal) := by
  pointwise [zeros]
  exact EReal.coe_zero.symm

theorem spread_at (a : FVec Ideal S2x16 .f32) (r : Fin 17408) (d : Fin 2) (h : Fin 16) :
    (spread a (ix3 r d h) : EReal) = a (ix2 d h) := by
  pointwise [spread]

theorem logit0_at (x : FVec Ideal S17408x128 .f32) (r : Fin 17408) (d : Fin 2) (h : Fin 16) :
    (extractStridedSlice S17408x2x16 ![0, 0, 0] (logits x) slices_S17408x4x16_S17408x2x16_0_0_0 (ix3 r d h) : EReal)
      = x (ix2 r ⟨16 * (d : ℕ) + h, by omega⟩) := by
  pointwise [logits]
  exact congrArg x (congrArg (ix2 r) (Fin.ext (by show (d : ℕ) * 16 + h = 16 * d + h; omega)))

theorem logit2_at (x : FVec Ideal S17408x128 .f32) (r : Fin 17408) (d : Fin 2) (h : Fin 16) :
    (extractStridedSlice S17408x2x16 ![0, 2, 0] (logits x) slices_S17408x4x16_S17408x2x16_0_2_0 (ix3 r d h) : EReal)
      = x (ix2 r ⟨32 + (16 * (d : ℕ) + h), by omega⟩) := by
  pointwise [logits]
  exact congrArg x (congrArg (ix2 r) (Fin.ext (by show (2 + (d : ℕ)) * 16 + h = 32 + (16 * d + h); omega)))

theorem strengths_at (x : FVec Ideal S17408x128 .f32) (r : Fin 17408) (d : Fin 2) (h : Fin 16) {z : ℝ}
    (hz : (x (ix2 r ⟨16 * (d : ℕ) + h, by omega⟩) : EReal) = ((z : ℝ) : EReal)) :
    (strengths x (ix3 r d h) : EReal) = ((sigm z : ℝ) : EReal) := by
  have hl := (logit0_at x r d h).trans hz
  show Ideal.div (ones (ix3 r d h)) (ones (ix3 r d h) + Ideal.exp (-(extractStridedSlice S17408x2x16 ![0, 0, 0] (logits x)
    slices_S17408x4x16_S17408x2x16_0_0_0 (ix3 r d h) : EReal))) = _
  rw [hl, ones_at, ← EReal.coe_neg, Ideal.exp_coe, ← EReal.coe_add, div_coe _ _ (one_add_exp_pos _).ne']
  rfl

theorem soft_at (x : FVec Ideal S17408x2x16 .f32) (r : Fin 17408) (d : Fin 2) (h : Fin 16) {z : ℝ}
    (hz : (x (ix3 r d h) : EReal) = ((z : ℝ) : EReal)) :
    (soft x (ix3 r d h) : EReal) = ((spl z : ℝ) : EReal) := by
  pointwise [soft]
  rw [hz, zeros_at, if_neg (not_not.mpr rfl), ← EReal.coe_sub, abs_coe, ← EReal.coe_neg, Ideal.exp_coe, Ideal.log1p, ← EReal.coe_one,
    ← EReal.coe_add, log_coe _ (one_add_exp_pos _), max_coe, ← EReal.coe_add, sub_zero]
  rfl

theorem decays_at (x : FVec Ideal S17408x128 .f32) (a t : FVec Ideal S2x16 .f32) (r : Fin 17408) (d : Fin 2) (h : Fin 16)
    {z α δ : ℝ} (hz : (x (ix2 r ⟨32 + (16 * (d : ℕ) + h), by omega⟩) : EReal) = ((z : ℝ) : EReal))
    (ha : (a (ix2 d h) : EReal) = ((α : ℝ) : EReal)) (ht : (t (ix2 d h) : EReal) = ((δ : ℝ) : EReal)) :
    (decays x a t (ix3 r d h) : EReal) = ((gate α z δ : ℝ) : EReal) := by
  have hl := (logit2_at x r d h).trans hz
  have hs := (spread_at t r d h).trans ht
  have hr : (spread (Host.negf (Host.exp a)) (ix3 r d h) : EReal) = ((-Real.exp α : ℝ) : EReal) := by
    refine (spread_at _ r d h).trans ?_
    show -Ideal.exp (a (ix2 d h)) = _
    rw [ha, Ideal.exp_coe, ← EReal.coe_neg]
  refine (congrArg₂ (fun x y : EReal => x * y) hr (soft_at _ r d h (z := z + δ) ?_)).trans (EReal.coe_mul _ _).symm
  exact (congrArg₂ (fun x y : EReal => x + y) hl hs).trans (EReal.coe_add _ _).symm

section
variable (m : (ℓ : Loc nD τ sig) → Buf (Elt Ideal) ℓ) (c : Dev nD)
  (X : Fin 17408 → Fin 6144 → ℝ) (Ba : Fin 17408 → Fin 128 → ℝ) (Al Dt : Fin 2 → Fin 16 → ℝ)
  (mX : ∀ r k, (m ((c : Thread nD τ).loc main_arg0) (ix2 r k) : EReal) = ((X r k : ℝ) : EReal))
  (mBa : ∀ r k, (m ((c : Thread nD τ).loc main_arg1) (ix2 r k) : EReal) = ((Ba r k : ℝ) : EReal))
  (mAl : ∀ d h, (m ((c : Thread nD τ).loc main_arg2) (ix2 d h) : EReal) = ((Al d h : ℝ) : EReal))
  (mDt : ∀ d h, (m ((c : Thread nD τ).loc main_arg3) (ix2 d h) : EReal) = ((Dt d h : ℝ) : EReal))

/-- The direction and the batch of one of the eight sequences. -/
def dOf (p : Fin 8) : Fin 2 := ⟨(p : ℕ) / 4, by omega⟩
def bOf (p : Fin 8) : Fin 4 := ⟨(p : ℕ) % 4, by omega⟩

theorem seat_of (p : Fin 8) : seat (dOf p) (bOf p) = p := Fin.ext (Nat.div_add_mod _ _)
theorem dOf_seat (d : Fin 2) (b : Fin 4) : dOf (seat d b) = d := Fin.ext (by show (4 * (d : ℕ) + b) / 4 = d; omega)
theorem bOf_seat (d : Fin 2) (b : Fin 4) : bOf (seat d b) = b := Fin.ext (by show (4 * (d : ℕ) + b) % 4 = b; omega)

include mX mBa mAl mDt in
/-- Before the first trip. -/
theorem start : After (fun p h => sQ X (dOf p) (bOf p) h) (fun p h => sK X (dOf p) (bOf p) h)
    (fun p h => sV X (dOf p) (bOf p) h) (fun p h => sB Ba (dOf p) (bOf p) h) (fun p h => sG Ba Al Dt (dOf p) (bOf p) h) 0
    (entryContents preI m c) where
  fed := {
    q := fun n p h a => by
      rw [entry0]
      conv_lhs => rw [← seat_of p]
      exact (stack4_at _ _ _ n h a).trans ((cols0_at _ _ _).trans (mX _ _))
    k := fun n p h a => by
      rw [entry1]
      conv_lhs => rw [← seat_of p]
      exact (stack4_at _ _ _ n h a).trans ((cols1_at _ _ _).trans (mX _ _))
    v := fun n p h a => by
      rw [entry2]
      conv_lhs => rw [← seat_of p]
      exact (stack4_at _ _ _ n h a).trans ((cols2_at _ _ _).trans (mX _ _))
    β := fun n p h => by
      rw [entry3]
      conv_lhs => rw [← seat_of p]
      exact (stack3_at _ _ _ n h).trans (strengths_at _ _ _ _ (mBa _ _))
    g := fun n p h => by
      rw [entry4]
      conv_lhs => rw [← seat_of p]
      exact (stack3_at _ _ _ n h).trans (decays_at _ _ _ _ _ _ (mBa _ _) (mAl _ _) (mDt _ _)) }
  counter := congrFun (ctr_entry m c) _
  state := fun p h a b => by
    rw [entry6]
    pointwise
    exact EReal.coe_zero.symm
  outputs := fun i p h b hi => absurd hi (Nat.not_lt_zero _)

include mX mBa mAl mDt in
/-- The array the reference returns: the row of position `n` holds the outputs of position `n`. -/
theorem returned (d : Fin 2) (b : Fin 4) (n : ℕ) (hn : n < 4352) (h : Fin 16) (e : Fin 128) :
    (out_main_v113 (STEP^[4352] (entryContents preI m c)) (ix3 d (row d b n) ⟨128 * (h : ℕ) + e, by omega⟩) : EReal)
      = ((sOut X Ba Al Dt d b h n e : ℝ) : EReal) := by
  have A := (start m c X Ba Al Dt mX mBa mAl mDt).run 4352 (le_refl _)
  rw [out_eq]
  refine (unstack_at _ d b ⟨n, hn⟩ h e).trans ((A.outputs ⟨n, hn⟩ (seat d b) h e hn).trans ?_)
  simp only [dOf_seat, bOf_seat]
  rfl

end

end Cert.ReferenceIdeal.Entry

end
-- ==== Proof.InSetup.lean ====
/- The input projection's launch: the arrays when its region is entered, the blocks of its windows, the staging buffers at a
   grid point and the scratch. -/
module

public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Run

open Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that leaves the arrays as the proof data say leaves the arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The body's condition. -/
abbrev cond0_0 (i : grid0.Coords) : Prop := k0_cond1 i = 1#1
/-- It holds at the first point of each row. -/
theorem hcond0_0 : ∀ t : Fin cfg0.N, cond0_0 (grid0.coords t) ↔ t.val % 13 = 0 :=
  (fun t => by
    have ht : t.val < 221 := Nat.lt_of_lt_of_eq t.isLt N_0
    have e0 : (grid0.coords t 0).val = t.val / 13 % 17 := Pipeline.Grid.coords_val t 0 (by decide) rfl
    have e1 : (grid0.coords t 1).val = t.val / 1 % 13 := Pipeline.Grid.coords_val t 1 (by decide) rfl
    simp only [cond0_0, k0_cond1, e0, e1]
    word_cmp
   : ∀ t : Fin grid0.N, cond0_0 (grid0.coords t) ↔ t.val % 13 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Whether output 7's buffer holds nothing stored yet, at each point: at the first point of a row. -/
def freshTab0_7 : ℕ → Bool
  | 0 => true
  | n + 1 => (0x10008004002001000800400200100080040020010008004002001000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- The first column's points store into output 7. -/
theorem live7 : ∀ t : Fin cfg0.N, cond0_0 (grid0.coords t) → cfg0.idle 7 (grid0.coords t) = false := by decide +kernel
/-- The other points store nothing into output 7. -/
theorem idle7 : ∀ t : Fin cfg0.N, ¬cond0_0 (grid0.coords t) → cfg0.idle 7 (grid0.coords t) = true := by decide +kernel
/-- At these its buffer holds what the first column's point stored. -/
theorem stored7 : ∀ t : Fin cfg0.N, ¬cond0_0 (grid0.coords t) → cfg0.fresh 7 t.val = false := by
  intro t; rw [fresh0_7_eq t]; revert t; decide +kernel

/-! ## The kernel body on any staging memrefs: a subtype the run finds -/

/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x2048 .bf16 := Memref.whole cc0_scratch0

/-- The scratch at anything and the generator at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Run

end
-- ==== Proof.InBody.lean ====
/- The body of the input projection at one grid point, on any whole buffers: in the first column it normalises and modulates its
   rows into the scratch and multiplies them by the two gates' weights; in every column it multiplies the scratch by its
   block of the weights. -/
module

public import proofs.«01_k».proof.Proof.InSetup
public import Idealize.ShloMosaic.Lib.Pipeline.Value

@[expose] public section

set_option maxRecDepth 16384

noncomputable section

namespace Cert.Kernel2Ideal.Run

open Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store of a whole buffer leaves what was stored. -/
theorem read_store {sp : Space} {s : Shape} {e : EltTy} (V : View sig .tc sp s e) (f) {start : Fin s.rank → ℕ} (h0 : start = fun _ => 0)
    (inb : ∀ i, start i + s.size i ≤ s.size i) (x : s.Idx → Elt F e) :
    V.read (Elt F) (V.writes (Elt F) f [⟨Rect.unit (s := s) start s.size inb, x⟩]) = x := by
  subst h0; exact View.read_writes_whole V f x

/-- A load of a whole buffer holding `x` gives `x`. -/
theorem load_whole {sp : Space} {s : Shape} {e : EltTy} (m : Memref sig .tc sp s e) (hm : m.IsWhole) {start : Fin s.rank → ℕ}
    (h0 : start = fun _ => 0) (inb : ∀ i, start i + s.size i ≤ s.size i) (x : s.Idx → Elt F e) :
    m.view.readAt (Elt F) (Rect.unit (s := s) start s.size inb).toLoadRect (hm.unread x) = x := by
  rw [View.readAt_eq_ld, hm.read_unread]
  exact View.ld_unit_zero h0 _ _

/-- A load of what one store of the whole buffer left gives what was stored. -/
theorem load_stored {sp : Space} {s : Shape} {e : EltTy} (V : View sig .tc sp s e) {start : Fin s.rank → ℕ} (h0 : start = fun _ => 0)
    (inb inb' : ∀ i, start i + s.size i ≤ s.size i) (x : s.Idx → Elt F e) :
    V.readCov [⟨Rect.unit (s := s) start s.size inb', x⟩] (Rect.unit (s := s) start s.size inb).toLoadRect = x := by
  unfold View.readCov
  rw [View.readAt_eq_ld, read_store V _ h0]
  exact View.ld_unit_zero h0 _ _

theorem zero2 : (![0, 0] : Fin 2 → ℕ) = fun _ => 0 := by decide
theorem zero3 : (![0, 0, 0] : Fin 3 → ℕ) = fun _ => 0 := by decide

section
variable (c : Dev nD) (i : grid0.Coords)
  (arg2 : Memref sig .tc .vmem S1024x2048 .f32) (harg2 : arg2.IsWhole)
  (arg3 : Memref sig .tc .vmem S1x1x2048 .f32) (harg3 : arg3.IsWhole)
  (arg4 : Memref sig .tc .vmem S1x1x2048 .f32) (harg4 : arg4.IsWhole)
  (arg5 : Memref sig .tc .vmem S1x2048 .f32) (harg5 : arg5.IsWhole)
  (arg6 : Memref sig .tc .vmem S2048x1024 .bf16) (harg6 : arg6.IsWhole)
  (arg7 : Memref sig .tc .vmem S2048x128 .bf16) (harg7 : arg7.IsWhole)
  (arg8 : Memref sig .tc .vmem S1024x1024 .bf16) (harg8 : arg8.IsWhole)
  (arg9 : Memref sig .tc .vmem S1024x128 .f32) (harg9 : arg9.IsWhole)
  (arg10 : Memref sig .tc .vmem S1024x2048 .bf16) (harg10 : arg10.IsWhole)
  (x0 : Vec F S1024x2048 .f32)
  (x1 : Vec F S1x1x2048 .f32)
  (x2 : Vec F S1x1x2048 .f32)
  (x3 : Vec F S1x2048 .f32)
  (x4 : Vec F S2048x1024 .bf16)
  (x5 : Vec F S2048x128 .bf16)

set_option maxHeartbeats 1000000 in
/-- In the first column: the scratch and both outputs are stored. -/
theorem body_first (hc0 : cond0_0 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (k0_pay2 x0 x3 x1 x2) x4) ∗ owns (c : Thread nD τ) arg9 fullShare (k0_pay3 x0 x3 x1 x2 x5) ∗ owns (c : Thread nD τ) arg10 fullShare (k0_pay2 x0 x3 x1 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; refine (read_store _ _ zero2 _ _).trans ?_
    unfold body_first.sl.v3 body_first.sl.HS0_1
    simp only [load_whole arg2 harg2 zero2, load_whole arg3 harg3 zero3, load_whole arg4 harg4 zero3, load_whole arg5 harg5 zero2, load_whole arg6 harg6 zero2, load_stored arg10.view zero2]
  isplitl [H7]
  · iexists _; isplitr
    swap; · iexact H7
    ipureintro; refine (read_store _ _ zero2 _ _).trans ?_
    simp only [load_whole arg2 harg2 zero2, load_whole arg3 harg3 zero3, load_whole arg4 harg4 zero3, load_whole arg5 harg5 zero2, load_whole arg7 harg7 zero2]
  iexists _; isplitr
  swap; · iexact HS0
  ipureintro; unfold body_first.sl.HS0_1; refine (read_store _ _ zero2 _ _).trans ?_
  simp only [load_whole arg2 harg2 zero2, load_whole arg3 harg3 zero3, load_whole arg4 harg4 zero3, load_whole arg5 harg5 zero2]

set_option maxHeartbeats 1000000 in
/-- In another column: the scratch is read, the first output stored, the second kept. -/
theorem body_next (hc0 : ¬cond0_0 i) (y : Vec F S1024x128 .f32) (u : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y ∗ owns (c : Thread nD τ) arg10 fullShare u
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 u x4) ∗ owns (c : Thread nD τ) arg9 fullShare y ∗ owns (c : Thread nD τ) arg10 fullShare u) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hf7; obtain rfl := harg10.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; refine (read_store _ _ zero2 _ _).trans ?_
    simp only [load_whole arg10 harg10 zero2, load_whole arg6 harg6 zero2]
  isplitl [H7]
  · iexists _; isplitr; · ipureintro; exact harg9.read_unread _
    iexact H7
  iexists _; isplitr; · ipureintro; exact harg10.read_unread _
  iexact HS0
end

end Cert.Kernel2Ideal.Run

end
-- ==== Proof.InFrame.lean ====
/- The run of the input projection: what every buffer holds after each grid point, the body's triple at every point, and the whole
   launch. -/
module

public import proofs.«01_k».proof.Proof.InBody

@[expose] public section

set_option maxRecDepth 16384

noncomputable section

namespace Cert.Kernel2Ideal.Run

open Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of point `n`'s row. -/
def rowStart (n : ℕ) (hn : n < cfg0.N) : Fin cfg0.N := ⟨13 * (n / 13), lt_of_le_of_lt (Nat.mul_div_le n 13) hn⟩

theorem rowStart_of_first (t : Fin cfg0.N) (h : t.val % 13 = 0) : rowStart t.val t.isLt = t :=
  Fin.ext (by show 13 * (t.val / 13) = t.val; omega)

theorem rowStart_pred (n : ℕ) (hn : n < cfg0.N) (h : ¬n % 13 = 0) :
    rowStart (n - 1) (lt_of_le_of_lt (Nat.sub_le _ _) hn) = rowStart n hn :=
  Fin.ext (by show 13 * ((n - 1) / 13) = 13 * (n / 13); omega)

/-- The normalised and modulated rows of the row that starts at `t`. -/
def rows (c : Dev nD) (t : Fin cfg0.N) : Vec F S1024x2048 .bf16 :=
  k0_pay2 (iblk m c 0 t) (iblk m c 3 t) (iblk m c 1 t) (iblk m c 2 t)

/-- The gates' block of the row that starts at `t`. -/
def gates (c : Dev nD) (t : Fin cfg0.N) : Vec F S1024x128 .f32 :=
  k0_pay3 (iblk m c 0 t) (iblk m c 3 t) (iblk m c 1 t) (iblk m c 2 t) (iblk m c 5 t)

/-- The invariant before point `n`: the scratch holds the rows of the point before's row. -/
def inv (c : Dev nD) : (n : ℕ) → n ≤ cfg0.N → sProp 𝕄
  | 0, _ => Pipeline.ΦA spec0 c
  | n + 1, hn => iprop(owns (c : Thread nD τ) scM0_0 fullShare (rows m c (rowStart n hn)) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(owns (c : Thread nD τ) scM0_0 fullShare (rows m c (rowStart (n - 1) (by omega))) ∗ (∃ r, prngReg c r)) := by
  cases n with
  | zero => exact absurd rfl hz
  | succ n => rfl

/-- Whatever the invariant says, the scratch holds something. -/
theorem inv_any (c : Dev nD) (n : ℕ) (h : n ≤ cfg0.N) :
    inv m c n h ⊢ iprop((∃ d, owns (c : Thread nD τ) scM0_0 fullShare d) ∗ (∃ r, prngReg c r)) := by
  by_cases hz : n = 0
  · rw [inv_zero m c n h hz, PhiA0_eq]
    try exact Idealize.SL.BI.Entails.refl _
  · rw [inv_pos m c n h hz]
    iintro ⟨HS, Hg⟩
    isplitl [HS]
    · iexists _; iexact HS
    iexact Hg

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (rows m c (rowStart t.val t.isLt)) (iblk m c 4 t)
    | ⟨7, _⟩ => gates m c (rowStart t.val t.isLt)
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = k0_pay4 (rows m c (rowStart t.val t.isLt)) (iblk m c 4 t) := by dsimp only [dats]
theorem after0_7 (c : Dev nD) (t : Fin cfg0.N) : (dats m 0 c).after 7 t = gates m c (rowStart t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past a row's first point the second output's buffer holds the row's gates. -/
theorem before0_7 (c : Dev nD) (t : Fin cfg0.N) (h0 : ¬t.val % 13 = 0) (d) :
    (dats m 0 c).before 7 t d = gates m c (rowStart t.val t.isLt) := by
  have hcarry : ∀ (t : Fin cfg0.N) (_ : t.val ≠ 0), cfg0.idle 7 (grid0.coords t) = true → cfg0.fresh 7 t.val = false →
      (dats m 0 c).after 7 t = (dats m 0 c).after 7 ⟨t.val - 1, by omega⟩ := by
    intro t _ hi _
    rw [after0_7, after0_7]
    by_cases h0 : t.val % 13 = 0
    · rw [live7 t ((hcond0_0 t).mpr h0)] at hi
      exact absurd hi Bool.false_ne_true
    · exact congrArg (gates m c) (rowStart_pred t.val t.isLt h0).symm
  rw [Dat.before_out_traj _ 7 rfl (fun _ _ => rfl) hcarry t.val t rfl d,
    if_neg (by rw [stored7 t (fun h => h0 ((hcond0_0 t).mp h))]; exact Bool.false_ne_true)]
  rw [after0_7]
  exact congrArg (gates m c) (rowStart_pred t.val t.isLt h0)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body's triple at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = iprop(owns (c : Thread nD τ) scM0_0 fullShare (rows m c (rowStart t.val t.isLt)) ∗ (∃ r, prngReg c r)) from rfl]
  rw [inv_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 13 = 0
  · rw [show (dats m 0 c).leavesExact 7 t = owns (c : Thread nD τ) (ms0_7 t) fullShare ((dats m 0 c).after 7 t) from by
      unfold Dat.leavesExact; rw [live7 t ((hcond0_0 t).mpr h0)], after0_7]
    rw [rowStart_of_first t h0]
    iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HI := (inv_any m c t.val (Nat.le_of_lt t.isLt)) $$ HI
    icases HI with ⟨HS0, Hg⟩
    iapply (body_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hi := idle7 t (fun h => h0 ((hcond0_0 t).mp h))
    have hz : t.val ≠ 0 := fun h => h0 (by rw [h])
    have hl : owns (c : Thread nD τ) (ms0_7 t) fullShare (gates m c (rowStart t.val t.isLt)) ⊢ (dats m 0 c).leavesExact 7 t := by
      by_cases hf : (cfg0.win 7).flush t = true
      · unfold Dat.leavesExact; rw [hi, hf]
        first | (rw [after0_7]; try exact Idealize.SL.BI.Entails.refl _) | (simp only [after0_7]; exact Idealize.SL.BI.Entails.refl _)
      · rw [Dat.leavesExact_idle _ 7 t hi (by simpa using hf)]
        simp only [before0_7 m c t h0]
        iintro H
        iexists (gates m c (rowStart t.val t.isLt)); iexact H
    simp only [before0_7 m c t h0]
    rw [inv_pos m c t.val _ hz, rowStart_pred t.val t.isLt h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (fun h => h0 ((hcond0_0 t).mp h)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply hl; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, PhiA0_eq]
  exact inv_any m c _ _

set_option backward.isDefEq.respectTransparency.types false in
/-- The launch: every array ends at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The two results after the run, the arguments as they were. -/
theorem run_blocks : θ_run defs (onTc (τ := τ) (main (F := F))) ⟨m, fun _ => 0, ρ⟩ fun r => ∀ c : Dev nD,
      r.2.mem ((c.tc : Thread nD τ).loc main_v11_0) = (dats m 0 c).arrAt 6 cfg0.N
      ∧ r.2.mem ((c.tc : Thread nD τ).loc main_v11_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 6, (h.1 c).1 7, h.2.1 c⟩) (θ_run_and (run_main m ρ) (frame m ρ))

end Cert.Kernel2Ideal.Run

end
-- ==== Proof.InBits.lean ====
/- The input projection as printed and as read over exact numbers is one program: the run of the one is that of the other. -/
module

public import proofs.«01_k».proof.Defs
public import proofs.«01_k».proof.Proof.Gen.Kernel2
public import proofs.«01_k».proof.Proof.InFrame

@[expose] public section

set_option maxRecDepth 65536

noncomputable section

namespace Cert.Kernel2Ideal.Run

open Idealize.ShloMosaic Idealize.ShloMosaic.TcCoe Idealize.SL.Sem

theorem bodies_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l with
  | ⟨0, _⟩ => rfl
  | ⟨_ + 1, h⟩ => exact absurd h (Nat.not_lt.2 (Nat.le_add_left _ _))

theorem defs_eq : Cert.Kernel2.defs (F := Bits) = Cert.Kernel2Ideal.defs (F := Bits) := by
  unfold Cert.Kernel2.defs Cert.Kernel2Ideal.defs
  rw [bodies_eq]
  rfl

/-- The printed program runs, keeps its arguments and leaves every counter at zero. -/
theorem frame_bits : Cert.quiescent_Kernel2 (hKernel2 := Cert.Kernel2.Gen.facts) := by
  intro m ρ _
  rw [defs_eq]
  exact frame (F := Bits) m ρ

end Cert.Kernel2Ideal.Run

end
-- ==== Proof.InMath.lean ====
/- The input projection as a function of its arguments: rows brought to unit mean square, scaled by the gain, modulated by their
   batch's scale and shift, times the weights. -/
module

public import Idealize.ShloMosaic.Lib.Pointwise

@[expose] public section

noncomputable section

namespace Cert.InProj

open Idealize.ShloMosaic

/-- One over the root of a row's mean square, the mean's small addend included. -/
def scaleOf (x : Fin 2048 → EReal) : EReal :=
  Ideal.rsqrt (Ideal.div (∑ k, x k * x k) (Ideal.ofBits .f32 0x45000000#32) + Ideal.ofBits .f32 0x358637BD#32)

/-- A normalised and modulated row. -/
def rowOf (x g sc sh : Fin 2048 → EReal) (k : Fin 2048) : EReal :=
  x k * scaleOf x * g k * (1 + sc k) + sh k

section
variable (H : (⟨2, ![17408, 2048]⟩ : Shape).Idx → EReal) (M : (⟨2, ![8, 12288]⟩ : Shape).Idx → EReal)
  (G : (⟨1, ![2048]⟩ : Shape).Idx → EReal) (W : (⟨2, ![2048, 13376]⟩ : Shape).Idx → EReal)

/-- Row `r` after normalisation and modulation: rows 4096 b to 4096 b + 4095 belong to batch `b`, those from 16384 on to the context,
    whose modulation is row 4. -/
def U (r : Fin 17408) (k : Fin 2048) : EReal :=
  rowOf (fun j => H (ix2 r j)) (fun j => G (ix1 j)) (fun j => M (ix2 ⟨(r : ℕ) / 4096, by omega⟩ ⟨2048 + j, by omega⟩))
    (fun j => M (ix2 ⟨(r : ℕ) / 4096, by omega⟩ ⟨j, by omega⟩)) k

/-- The projection. -/
def Z (r : Fin 17408) (n : Fin 13376) : EReal := ∑ k, U H M G r k * W (ix2 k n)
end

/-- Which column of the weights column `n` of the first result comes from: queries, keys and values, then the output gate, the
    merge gate and the pool. -/
def colOf (n : Fin 13312) : Fin 13376 :=
  if h : (n : ℕ) < 6144 then ⟨n, by omega⟩ else if h' : (n : ℕ) < 8192 then ⟨n + 64, by omega⟩
    else if h'' : (n : ℕ) < 12288 then ⟨n + 1088, by omega⟩ else ⟨n - 4032, by omega⟩

theorem colOf_val (n : Fin 13312) : (colOf n : ℕ) = if (n : ℕ) < 6144 then (n : ℕ) else if (n : ℕ) < 8192 then n + 64
    else if (n : ℕ) < 12288 then n + 1088 else n - 4032 := by
  unfold colOf
  split_ifs <;> rfl

end Cert.InProj

end
-- ==== Proof.InHost.lean ====
/- What the host hands the input projection: the modulation with a unit axis, the weights' columns in the results' order, the gate
   columns padded with zeros, and the gain as a row. -/
module

public import proofs.«01_k».proof.Proof.InFrame
public import proofs.«01_k».proof.Proof.InMath
public import Idealize.ShloMosaic.Lib.KernelVsHost

@[expose] public section

set_option maxRecDepth 65536

noncomputable section

namespace Cert.Kernel2Ideal.Host

open Idealize.ShloMosaic Idealize.ShloMosaic.TcCoe Idealize.ShloMosaic.Tactic
open Cert.Kernel2Ideal Cert.Kernel2Ideal.Gen Cert.Kernel2Ideal.Run Cert.InProj

variable (m : (ℓ : Loc nD τ sig) → Buf (Elt Ideal) ℓ) (c : Dev nD)

theorem V_mod (a : Fin 8) (j : Fin 12288) :
    (V m c main_v0 (ix3 a 0 j) : EReal) = (m ((c : Thread nD τ).loc main_arg1) (ix2 a j) : EReal) := by
  show StableHlo.after _ _ (Proc.devRef .tc _) _ = _
  simp only [hostOps0, hostOps0_1, hostOps0_2, List.flatten_cons, List.flatten_nil, List.append_nil, List.cons_append, List.nil_append]
  after_results
  pointwise

theorem V_gain (k : Fin 2048) :
    (V m c main_v10 (ix2 0 k) : EReal) = (m ((c : Thread nD τ).loc main_arg2) (ix1 k) : EReal) := by
  show StableHlo.after _ _ (Proc.devRef .tc _) _ = _
  simp only [hostOps0, hostOps0_1, hostOps0_2, List.flatten_cons, List.flatten_nil, List.append_nil, List.cons_append, List.nil_append]
  after_results
  pointwise

/-- The weights' columns in the first result's order. -/
def mainCols (w : FVec Ideal S2048x13376 .f32) : FVec Ideal S2048x13312 .bf16 :=
  truncf .bf16 (concatenate S2048x13312 1
    [⟨S2048x6144, extractStridedSlice S2048x6144 ![0, 0] w slices_S2048x13376_S2048x6144_0_0⟩,
     ⟨S2048x2048, extractStridedSlice S2048x2048 ![0, 6208] w slices_S2048x13376_S2048x2048_0_6208⟩,
     ⟨S2048x4096, extractStridedSlice S2048x4096 ![0, 9280] w slices_S2048x13376_S2048x4096_0_9280⟩,
     ⟨S2048x1024, extractStridedSlice S2048x1024 ![0, 8256] w slices_S2048x13376_S2048x1024_0_8256⟩]
    concatenates_S2048x6144_S2048x2048_S2048x4096_S2048x1024_S2048x13312_d1) bitsLt_bf16_f32

theorem mainCols_at (w : FVec Ideal S2048x13376 .f32) (k : Fin 2048) (n : Fin 13312) :
    (mainCols w (ix2 k n) : EReal) = w (ix2 k (colOf n)) := by
  pointwise [mainCols]
  split_ifs <;> refine congrArg w (congrArg (ix2 k) (Fin.ext ?_)) <;> rw [colOf_val] <;> dsimp only <;> split_ifs <;> omega

theorem V_weights (k : Fin 2048) (n : Fin 13312) :
    (V m c main_v6 (ix2 k n) : EReal) = (m ((c : Thread nD τ).loc main_arg3) (ix2 k (colOf n)) : EReal) := by
  refine Eq.trans (congrFun (?_ : V m c main_v6 = mainCols (m ((c : Thread nD τ).loc main_arg3))) _) (mainCols_at _ k n)
  show StableHlo.after _ _ (Proc.devRef .tc _) = _
  simp only [hostOps0, hostOps0_1, hostOps0_2, List.flatten_cons, List.flatten_nil, List.append_nil, List.cons_append, List.nil_append]
  after_results
  rfl

theorem V_gates (k : Fin 2048) (n : Fin 128) :
    (V m c main_v9 (ix2 k n) : EReal)
      = if h : (n : ℕ) < 64 then (m ((c : Thread nD τ).loc main_arg3) (ix2 k ⟨6144 + n, by omega⟩) : EReal) else (0 : EReal) := by
  show StableHlo.after _ _ (Proc.devRef .tc _) _ = _
  simp only [hostOps0, hostOps0_1, hostOps0_2, List.flatten_cons, List.flatten_nil, List.append_nil, List.cons_append, List.nil_append]
  after_results
  by_cases hn : (n : ℕ) < 64
  · rw [dif_pos hn]
    refine (pad_apply_of_inside _ _ _ _ _ pads_S2048x64_S2048x128_000_0640 h_S_ _ (ix2 k ⟨n, hn⟩) ?_).trans ?_
    · intro t
      match t with
      | ⟨0, _⟩ => simp
      | ⟨1, _⟩ => simp
    · show (extractStridedSlice S2048x64 ![0, 6144] (m ((c : Thread nD τ).loc main_arg3) : FVec Ideal S2048x13376 .f32)
        slices_S2048x13376_S2048x64_0_6144 (ix2 k ⟨n, hn⟩) : EReal) = _
      pointwise
  · rw [dif_neg hn]
    refine (pad_apply_of_not_inside _ _ _ _ _ pads_S2048x64_S2048x128_000_0640 h_S_ _ (1 : Fin 2) ?_).trans ?_
    · rintro ⟨-, -, h⟩
      exact hn (by simpa using h)
    · show (((((0#32 : BitVec 32).toInt : ℤ) : ℝ)) : EReal) = _
      simp

end Cert.Kernel2Ideal.Host

end
-- ==== Proof.InBlocks.lean ====
/- The blocks a grid point of the input projection works on, element by element of the arrays they are cut from, and the values it
   stores. Point `t` works on rows 1024 (t / 13) to 1024 (t / 13) + 1023 and columns 1024 (t % 13) to 1024 (t % 13) + 1023. -/
module

public import proofs.«01_k».proof.Proof.InHost

@[expose] public section

set_option maxRecDepth 65536

noncomputable section

namespace Cert.Kernel2Ideal.Blocks

open Idealize.ShloMosaic Idealize.ShloMosaic.TcCoe Idealize.ShloMosaic.Tactic
open Cert.Kernel2Ideal Cert.Kernel2Ideal.Gen Cert.Kernel2Ideal.Run Cert.InProj

theorem map0 : ∀ t : Fin grid0.N, cc0_transform_0 (grid0.coords t) 0 = (t : ℕ) / 13 ∧ cc0_transform_0 (grid0.coords t) 1 = 0 := by
  decide +kernel
/-- The modulation row of a block of 1024 rows: four blocks to a batch, and the context is the last block. -/
theorem map1 : ∀ t : Fin grid0.N, cc0_transform_1 (grid0.coords t) 0 = (t : ℕ) / 13 / 4 ∧ cc0_transform_1 (grid0.coords t) 1 = 0
    ∧ cc0_transform_1 (grid0.coords t) 2 = 1 := by
  decide +kernel
theorem map2 : ∀ t : Fin grid0.N, cc0_transform_2 (grid0.coords t) 0 = (t : ℕ) / 13 / 4 ∧ cc0_transform_2 (grid0.coords t) 1 = 0
    ∧ cc0_transform_2 (grid0.coords t) 2 = 0 := by
  decide +kernel
theorem map3 : ∀ t : Fin grid0.N, cc0_transform_3 (grid0.coords t) 0 = 0 ∧ cc0_transform_3 (grid0.coords t) 1 = 0 := by
  decide +kernel
theorem map4 : ∀ t : Fin grid0.N, cc0_transform_4 (grid0.coords t) 0 = 0 ∧ cc0_transform_4 (grid0.coords t) 1 = (t : ℕ) % 13 := by
  decide +kernel
theorem map5 : ∀ t : Fin grid0.N, cc0_transform_5 (grid0.coords t) 0 = 0 ∧ cc0_transform_5 (grid0.coords t) 1 = 0 := by
  decide +kernel
theorem map6 : ∀ t : Fin grid0.N, cc0_transform_6 (grid0.coords t) 0 = (t : ℕ) / 13
    ∧ cc0_transform_6 (grid0.coords t) 1 = (t : ℕ) % 13 := by
  decide +kernel
theorem map7 : ∀ t : Fin grid0.N, cc0_transform_7 (grid0.coords t) 0 = (t : ℕ) / 13 ∧ cc0_transform_7 (grid0.coords t) 1 = 0 := by
  decide +kernel

theorem tlt (t : Fin cfg0.N) : (t : ℕ) < 221 := Nat.lt_of_lt_of_eq t.isLt N_0

/-- Row `p` of point `t`'s block of rows. -/
def rowAt (t : Fin cfg0.N) (p : Fin 1024) : Fin 17408 := ⟨1024 * ((t : ℕ) / 13) + p, by have := tlt t; omega⟩
/-- Column `q` of point `t`'s block of columns. -/
def colAt (t : Fin cfg0.N) (q : Fin 1024) : Fin 13312 := ⟨1024 * ((t : ℕ) % 13) + q, by omega⟩
/-- The modulation row of point `t`. -/
def modAt (t : Fin cfg0.N) : Fin 8 := ⟨(t : ℕ) / 13 / 4, by have := tlt t; omega⟩

theorem modAt_row (t : Fin cfg0.N) (p : Fin 1024) : (rowAt t p : ℕ) / 4096 = modAt t := by
  show (1024 * ((t : ℕ) / 13) + (p : ℕ)) / 4096 = (t : ℕ) / 13 / 4
  omega

section
variable {F : FTy → Type} [FloatOps F] (m : (ℓ : Loc nD τ sig) → Buf (Elt F) ℓ) (c : Dev nD) (t : Fin cfg0.N)

theorem blk0 (p : Fin 1024) (k : Fin 2048) :
    (iblk m c 0 t : Vec F S1024x2048 .f32) (ix2 p k) = m ((c : Thread nD τ).loc main_arg0) (ix2 (rowAt t p) k) := by
  refine Eq.trans (show _ = V m c main_arg0 (((cfg0.win 0).rect t).emb (ix2 p k)) from rfl) ?_
  rw [V_main_arg0]
  refine congrArg _ ?_
  funext x; apply Fin.ext
  refine ((cfg0.win 0).rect_emb_val t _ x).trans ?_
  match x with
  | ⟨0, _⟩ => exact (congrArg (· * 1024 + (p : ℕ)) (map0 t).1).trans (by show (t : ℕ) / 13 * 1024 + (p : ℕ) = 1024 * (t / 13) + p; omega)
  | ⟨1, _⟩ => exact (congrArg (· * 2048 + (k : ℕ)) (map0 t).2).trans (by show 0 * 2048 + (k : ℕ) = k; omega)

theorem blk1 (k : Fin 2048) :
    (iblk m c 1 t : Vec F S1x1x2048 .f32) (ix3 0 0 k) = V m c main_v0 (ix3 (modAt t) 0 ⟨2048 + k, by omega⟩) := by
  refine Eq.trans (show _ = V m c main_v0 (((cfg0.win 1).rect t).emb (ix3 0 0 k)) from rfl) ?_
  refine congrArg _ ?_
  funext x; apply Fin.ext
  refine ((cfg0.win 1).rect_emb_val t _ x).trans ?_
  match x with
  | ⟨0, _⟩ => exact (congrArg (· * 1 + 0) (map1 t).1).trans (by show (t : ℕ) / 13 / 4 * 1 + 0 = t / 13 / 4; omega)
  | ⟨1, _⟩ => exact (congrArg (· * 1 + 0) (map1 t).2.1)
  | ⟨2, _⟩ => exact (congrArg (· * 2048 + (k : ℕ)) (map1 t).2.2).trans (by show 1 * 2048 + (k : ℕ) = 2048 + k; omega)

theorem blk2 (k : Fin 2048) :
    (iblk m c 2 t : Vec F S1x1x2048 .f32) (ix3 0 0 k) = V m c main_v0 (ix3 (modAt t) 0 ⟨k, by omega⟩) := by
  refine Eq.trans (show _ = V m c main_v0 (((cfg0.win 2).rect t).emb (ix3 0 0 k)) from rfl) ?_
  refine congrArg _ ?_
  funext x; apply Fin.ext
  refine ((cfg0.win 2).rect_emb_val t _ x).trans ?_
  match x with
  | ⟨0, _⟩ => exact (congrArg (· * 1 + 0) (map2 t).1).trans (by show (t : ℕ) / 13 / 4 * 1 + 0 = t / 13 / 4; omega)
  | ⟨1, _⟩ => exact (congrArg (· * 1 + 0) (map2 t).2.1)
  | ⟨2, _⟩ => exact (congrArg (· * 2048 + (k : ℕ)) (map2 t).2.2).trans (by show 0 * 2048 + (k : ℕ) = k; omega)

theorem blk3 (k : Fin 2048) : (iblk m c 3 t : Vec F S1x2048 .f32) (ix2 0 k) = V m c main_v10 (ix2 0 k) := by
  refine Eq.trans (show _ = V m c main_v10 (((cfg0.win 3).rect t).emb (ix2 0 k)) from rfl) ?_
  refine congrArg _ ?_
  funext x; apply Fin.ext
  refine ((cfg0.win 3).rect_emb_val t _ x).trans ?_
  match x with
  | ⟨0, _⟩ => exact (congrArg (· * 1 + 0) (map3 t).1)
  | ⟨1, _⟩ => exact (congrArg (· * 2048 + (k : ℕ)) (map3 t).2).trans (by show 0 * 2048 + (k : ℕ) = k; omega)

theorem blk4 (k : Fin 2048) (q : Fin 1024) :
    (iblk m c 4 t : Vec F S2048x1024 .bf16) (ix2 k q) = V m c main_v6 (ix2 k (colAt t q)) := by
  refine Eq.trans (show _ = V m c main_v6 (((cfg0.win 4).rect t).emb (ix2 k q)) from rfl) ?_
  refine congrArg _ ?_
  funext x; apply Fin.ext
  refine ((cfg0.win 4).rect_emb_val t _ x).trans ?_
  match x with
  | ⟨0, _⟩ => exact (congrArg (· * 2048 + (k : ℕ)) (map4 t).1).trans (by show 0 * 2048 + (k : ℕ) = k; omega)
  | ⟨1, _⟩ => exact (congrArg (· * 1024 + (q : ℕ)) (map4 t).2).trans (by show (t : ℕ) % 13 * 1024 + (q : ℕ) = 1024 * (t % 13) + q; omega)

theorem blk5 (k : Fin 2048) (q : Fin 128) : (iblk m c 5 t : Vec F S2048x128 .bf16) (ix2 k q) = V m c main_v9 (ix2 k q) := by
  refine Eq.trans (show _ = V m c main_v9 (((cfg0.win 5).rect t).emb (ix2 k q)) from rfl) ?_
  refine congrArg _ ?_
  funext x; apply Fin.ext
  refine ((cfg0.win 5).rect_emb_val t _ x).trans ?_
  match x with
  | ⟨0, _⟩ => exact (congrArg (· * 2048 + (k : ℕ)) (map5 t).1).trans (by show 0 * 2048 + (k : ℕ) = k; omega)
  | ⟨1, _⟩ => exact (congrArg (· * 128 + (q : ℕ)) (map5 t).2).trans (by show 0 * 128 + (q : ℕ) = q; omega)

end

/-! ## What a point computes -/

theorem norm_at (h : Vec Ideal S1024x2048 .f32) (g : Vec Ideal S1x2048 .f32) (sc sh : Vec Ideal S1x1x2048 .f32)
    (p : Fin 1024) (k : Fin 2048) :
    (k0_pay1 h g sc sh (ix2 p k) : EReal)
      = rowOf (fun j => h (ix2 p j)) (fun j => g (ix2 0 j)) (fun j => sc (ix3 0 0 j)) (fun j => sh (ix3 0 0 j)) k := by
  pointwise [k0_pay1]
  rfl

theorem norm2_at (h : Vec Ideal S1024x2048 .f32) (g : Vec Ideal S1x2048 .f32) (sc sh : Vec Ideal S1x1x2048 .f32)
    (p : Fin 1024) (k : Fin 2048) : (k0_pay2 h g sc sh (ix2 p k) : EReal) = k0_pay1 h g sc sh (ix2 p k) := by
  pointwise [k0_pay2]

theorem main_at (u : FVec Ideal S1024x2048 .bf16) (w : FVec Ideal S2048x1024 .bf16) (p : Fin 1024) (q : Fin 1024) :
    (k0_pay4 (F := Ideal) u w (ix2 p q) : EReal) = ∑ k, (u (ix2 p k) : EReal) * w (ix2 k q) := by
  pointwise [k0_pay4]

/-- The gates' product from the normalised rows. -/
def gateDot (u : FVec Ideal S1024x2048 .bf16) (w : FVec Ideal S2048x128 .bf16) : FVec Ideal S1024x128 .f32 :=
  matmul dot_S1024x2048_S2048x128_S1024x128_1_0_0_1_n_n none u (shapeCast S2048x128 w shapeCasts_S2048x128_S2048x128)
    (constant S1024x128 .f32 0x00000000#32)

theorem gateDot_at (u : FVec Ideal S1024x2048 .bf16) (w : FVec Ideal S2048x128 .bf16) (p : Fin 1024) (q : Fin 128) :
    (gateDot u w (ix2 p q) : EReal) = ∑ k, (u (ix2 p k) : EReal) * w (ix2 k q) := by
  pointwise [gateDot]

section
variable (m : (ℓ : Loc nD τ sig) → Buf (Elt Ideal) ℓ) (c : Dev nD)

/-- The normalised row `p` of point `t`'s block. -/
theorem u_at (t : Fin cfg0.N) (p : Fin 1024) (k : Fin 2048) :
    (k0_pay1 (F := Ideal) (iblk m c 0 t) (iblk m c 3 t) (iblk m c 1 t) (iblk m c 2 t) (ix2 p k) : EReal)
      = U (m ((c : Thread nD τ).loc main_arg0)) (m ((c : Thread nD τ).loc main_arg1)) (m ((c : Thread nD τ).loc main_arg2)) (rowAt t p) k := by
  refine (norm_at _ _ _ _ p k).trans ?_
  have hm : (⟨(rowAt t p : ℕ) / 4096, by omega⟩ : Fin 8) = modAt t := Fin.ext (modAt_row t p)
  unfold U
  rw [hm]
  congr 1
  · funext j; exact blk0 m c t p j
  · funext j; exact (blk3 m c t j).trans (Host.V_gain m c j)
  · funext j; exact (blk1 m c t j).trans (Host.V_mod m c _ _)
  · funext j; exact (blk2 m c t j).trans (Host.V_mod m c _ _)

theorem rowStart_row (t : Fin cfg0.N) (p : Fin 1024) : rowAt (rowStart t.val t.isLt) p = rowAt t p :=
  Fin.ext (by show 1024 * (13 * ((t : ℕ) / 13) / 13) + (p : ℕ) = 1024 * ((t : ℕ) / 13) + p; omega)

theorem rows_at (t : Fin cfg0.N) (p : Fin 1024) (k : Fin 2048) :
    (rows m c (rowStart t.val t.isLt) (ix2 p k) : EReal)
      = U (m ((c : Thread nD τ).loc main_arg0)) (m ((c : Thread nD τ).loc main_arg1)) (m ((c : Thread nD τ).loc main_arg2)) (rowAt t p) k :=
  (norm2_at _ _ _ _ p k).trans ((u_at m c _ p k).trans
    (congrArg (fun r => U (m ((c : Thread nD τ).loc main_arg0)) (m ((c : Thread nD τ).loc main_arg1)) (m ((c : Thread nD τ).loc main_arg2)) r k)
      (rowStart_row t p)))

/-- Point `t`'s block of the first result. -/
theorem block6 (t : Fin cfg0.N) (p q : Fin 1024) :
    (k0_pay4 (F := Ideal) (rows m c (rowStart t.val t.isLt)) (iblk m c 4 t) (ix2 p q) : EReal)
      = Z (m ((c : Thread nD τ).loc main_arg0)) (m ((c : Thread nD τ).loc main_arg1)) (m ((c : Thread nD τ).loc main_arg2))
          (m ((c : Thread nD τ).loc main_arg3)) (rowAt t p) (colOf (colAt t q)) :=
  (main_at _ _ p q).trans (Finset.sum_congr rfl fun k _ =>
    congrArg₂ (· * ·) (rows_at m c t p k) ((blk4 m c t k q).trans (Host.V_weights m c k _)))

/-- Point `t`'s block of the second result. -/
theorem block7 (t : Fin cfg0.N) (p : Fin 1024) (q : Fin 128) :
    (gates m c (rowStart t.val t.isLt) (ix2 p q) : EReal)
      = if h : (q : ℕ) < 64 then Z (m ((c : Thread nD τ).loc main_arg0)) (m ((c : Thread nD τ).loc main_arg1))
          (m ((c : Thread nD τ).loc main_arg2)) (m ((c : Thread nD τ).loc main_arg3)) (rowAt t p) ⟨6144 + q, by omega⟩ else 0 := by
  refine Eq.trans (show _ = gateDot (k0_pay1 (F := Ideal) _ _ _ _) _ (ix2 p q) from rfl) ((gateDot_at _ _ p q).trans ?_)
  have e : ∀ k : Fin 2048, ((iblk m c 5 (rowStart t.val t.isLt) : Vec Ideal S2048x128 .bf16) (ix2 k q) : EReal)
      = if h : (q : ℕ) < 64 then (m ((c : Thread nD τ).loc main_arg3) (ix2 k ⟨6144 + q, by omega⟩) : EReal) else (0 : EReal) := fun k =>
    (blk5 m c _ k q).trans (Host.V_gates m c k q)
  refine (Finset.sum_congr rfl fun k _ => congrArg₂ (· * ·) (u_at m c _ p k) (e k)).trans ?_
  rw [rowStart_row]
  by_cases hq : (q : ℕ) < 64
  · simp only [dif_pos hq]
    rfl
  · simp only [dif_neg hq, mul_zero, Finset.sum_const_zero]

end

end Cert.Kernel2Ideal.Blocks

end
-- ==== Proof.InFinal.lean ====
/- The arrays the input projection returns, element by element: the projection's columns, and the gate logits padded with zeros. -/
module

public import proofs.«01_k».proof.Proof.InBlocks

@[expose] public section

set_option maxRecDepth 65536

noncomputable section

namespace Cert.Kernel2Ideal.Final

open Idealize.ShloMosaic Idealize.ShloMosaic.TcCoe Idealize.ShloMosaic.Tactic
open Cert.Kernel2Ideal Cert.Kernel2Ideal.Gen Cert.Kernel2Ideal.Run Cert.Kernel2Ideal.Blocks Cert.InProj

section
variable (m : (ℓ : Loc nD τ sig) → Buf (Elt Ideal) ℓ) (c : Dev nD)

/-- The projection of core `c`'s arguments. -/
def proj (r : Fin 17408) (n : Fin 13376) : EReal :=
  Z (m ((c : Thread nD τ).loc main_arg0)) (m ((c : Thread nD τ).loc main_arg1)) (m ((c : Thread nD τ).loc main_arg2))
    (m ((c : Thread nD τ).loc main_arg3)) r n

/-- The gate logits of row `r`, padded with zeros. -/
def gateOf (r : Fin 17408) (n : Fin 128) : EReal := if h : (n : ℕ) < 64 then proj m c r ⟨6144 + n, by omega⟩ else 0

/-! ## The first result -/

/-- The place of an element of point `t`'s block of the first result. -/
theorem place6 (t : Fin cfg0.N) (p q : Fin 1024) :
    (((cfg0.win 6).blk t).view.emb (ix2 p q) : S17408x13312.Idx) = ix2 (rowAt t p) (colAt t q) := by
  refine Eq.trans (show _ = ((cfg0.win 6).rect t).emb (ix2 p q) from rfl) ?_
  funext x; apply Fin.ext
  refine ((cfg0.win 6).rect_emb_val t _ x).trans ?_
  match x with
  | ⟨0, _⟩ => exact (congrArg (· * 1024 + (p : ℕ)) (map6 t).1).trans (by show (t : ℕ) / 13 * 1024 + (p : ℕ) = 1024 * (t / 13) + p; omega)
  | ⟨1, _⟩ => exact (congrArg (· * 1024 + (q : ℕ)) (map6 t).2).trans (by show (t : ℕ) % 13 * 1024 + (q : ℕ) = 1024 * (t % 13) + q; omega)

theorem covered6 (i : S17408x13312.Idx) :
    ∃ t : Fin cfg0.N, (cfg0.win 6).flush t = true ∧ i ∈ ((cfg0.win 6).blk t).view.set := by
  obtain ⟨r, n, rfl⟩ : ∃ (r : Fin 17408) (n : Fin 13312), i = ix2 r n :=
    ⟨i 0, i 1, by funext x; match x with | ⟨0, _⟩ => rfl | ⟨1, _⟩ => rfl⟩
  have ht : 13 * ((r : ℕ) / 1024) + (n : ℕ) / 1024 < cfg0.N := by
    refine Nat.lt_of_lt_of_eq ?_ N_0.symm; omega
  refine ⟨⟨_, ht⟩, flush0_6 _, ?_⟩
  have e : (ix2 r n : S17408x13312.Idx)
      = ((cfg0.win 6).blk ⟨_, ht⟩).view.emb (ix2 (⟨(r : ℕ) % 1024, by omega⟩ : Fin 1024) (⟨(n : ℕ) % 1024, by omega⟩ : Fin 1024)) := by
    rw [place6]
    refine congrArg₂ ix2 (Fin.ext ?_) (Fin.ext ?_)
    · show (r : ℕ) = 1024 * ((13 * ((r : ℕ) / 1024) + (n : ℕ) / 1024) / 13) + (r : ℕ) % 1024
      omega
    · show (n : ℕ) = 1024 * ((13 * ((r : ℕ) / 1024) + (n : ℕ) / 1024) % 13) + (n : ℕ) % 1024
      omega
  rw [e]
  exact ((cfg0.win 6).blk ⟨_, ht⟩).view.emb_mem_set _

theorem flushed6 (t : Fin cfg0.N) (p q : Fin 1024) :
    ((dats m 0 c).flushed 6 t (ix2 p q) : EReal) = proj m c (rowAt t p) (colOf (colAt t q)) := by
  refine Eq.trans (congrFun (?_ : (dats m 0 c).flushed 6 t
    = k0_pay4 (F := Ideal) (rows m c (rowStart t.val t.isLt)) (iblk m c 4 t)) _) (block6 m c t p q)
  show (cfg0.win 6).cut (grid0.coords t) ((dats m 0 c).after 6 t) = _
  rw [after0_6]
  rfl

/-- Every element of the first result is the projection's. -/
theorem returned6 (r : Fin 17408) (n : Fin 13312) :
    ((dats m 0 c).arrAt 6 cfg0.N (ix2 r n) : EReal) = proj m c r (colOf n) := by
  refine (dats m 0 c).arrAt_forall_of_cover 6
    (fun (i : S17408x13312.Idx) (v : EReal) => v = proj m c (i 0) (colOf (i 1))) (fun t _ y => ?_) covered6 (ix2 r n)
  obtain ⟨p, q, rfl⟩ : ∃ p q : Fin 1024, y = ix2 p q :=
    ⟨y 0, y 1, by funext x; match x with | ⟨0, _⟩ => rfl | ⟨1, _⟩ => rfl⟩
  show ((dats m 0 c).flushed 6 t (ix2 p q) : EReal) = proj m c ((((cfg0.win 6).blk t).view.emb (ix2 p q) : S17408x13312.Idx) 0)
    (colOf ((((cfg0.win 6).blk t).view.emb (ix2 p q) : S17408x13312.Idx) 1))
  rw [place6]
  exact flushed6 m c t p q

/-! ## The second result -/

/-- The place of an element of point `t`'s block of the second result. -/
theorem place7 (t : Fin cfg0.N) (p : Fin 1024) (q : Fin 128) :
    (((cfg0.win 7).blk t).view.emb (ix2 p q) : S17408x128.Idx) = ix2 (rowAt t p) q := by
  refine Eq.trans (show _ = ((cfg0.win 7).rect t).emb (ix2 p q) from rfl) ?_
  funext x; apply Fin.ext
  refine ((cfg0.win 7).rect_emb_val t _ x).trans ?_
  match x with
  | ⟨0, _⟩ => exact (congrArg (· * 1024 + (p : ℕ)) (map7 t).1).trans (by show (t : ℕ) / 13 * 1024 + (p : ℕ) = 1024 * (t / 13) + p; omega)
  | ⟨1, _⟩ => exact (congrArg (· * 128 + (q : ℕ)) (map7 t).2).trans (by show 0 * 128 + (q : ℕ) = q; omega)

theorem covered7 (i : S17408x128.Idx) :
    ∃ t : Fin cfg0.N, (cfg0.win 7).flush t = true ∧ i ∈ ((cfg0.win 7).blk t).view.set := by
  obtain ⟨r, n, rfl⟩ : ∃ (r : Fin 17408) (n : Fin 128), i = ix2 r n :=
    ⟨i 0, i 1, by funext x; match x with | ⟨0, _⟩ => rfl | ⟨1, _⟩ => rfl⟩
  have ht : 13 * ((r : ℕ) / 1024) + 12 < cfg0.N := by
    refine Nat.lt_of_lt_of_eq ?_ N_0.symm; omega
  refine ⟨⟨_, ht⟩, (flush0_7 _).2 (by show (13 * ((r : ℕ) / 1024) + 12) % 13 = 12; omega), ?_⟩
  have e : (ix2 r n : S17408x128.Idx)
      = ((cfg0.win 7).blk ⟨_, ht⟩).view.emb (ix2 (⟨(r : ℕ) % 1024, by omega⟩ : Fin 1024) n) := by
    rw [place7]
    refine congrArg₂ ix2 (Fin.ext ?_) rfl
    show (r : ℕ) = 1024 * ((13 * ((r : ℕ) / 1024) + 12) / 13) + (r : ℕ) % 1024
    omega
  rw [e]
  exact ((cfg0.win 7).blk ⟨_, ht⟩).view.emb_mem_set _

theorem flushed7 (t : Fin cfg0.N) (p : Fin 1024) (q : Fin 128) :
    ((dats m 0 c).flushed 7 t (ix2 p q) : EReal) = gateOf m c (rowAt t p) q := by
  refine Eq.trans (congrFun (?_ : (dats m 0 c).flushed 7 t = gates m c (rowStart t.val t.isLt)) _) (block7 m c t p q)
  show (cfg0.win 7).cut (grid0.coords t) ((dats m 0 c).after 7 t) = _
  rw [after0_7]
  rfl

/-- Every element of the second result is a gate logit or a zero of the padding. -/
theorem returned7 (r : Fin 17408) (n : Fin 128) :
    ((dats m 0 c).arrAt 7 cfg0.N (ix2 r n) : EReal) = gateOf m c r n := by
  refine (dats m 0 c).arrAt_forall_of_cover 7
    (fun (i : S17408x128.Idx) (v : EReal) => v = gateOf m c (i 0) (i 1)) (fun t _ y => ?_) covered7 (ix2 r n)
  obtain ⟨p, q, rfl⟩ : ∃ (p : Fin 1024) (q : Fin 128), y = ix2 p q :=
    ⟨y 0, y 1, by funext x; match x with | ⟨0, _⟩ => rfl | ⟨1, _⟩ => rfl⟩
  show ((dats m 0 c).flushed 7 t (ix2 p q) : EReal) = gateOf m c ((((cfg0.win 7).blk t).view.emb (ix2 p q) : S17408x128.Idx) 0)
    ((((cfg0.win 7).blk t).view.emb (ix2 p q) : S17408x128.Idx) 1)
  rw [place7]
  exact flushed7 m c t p q

end

end Cert.Kernel2Ideal.Final

end
-- ==== Proof.InRef.lean ====
/- The arrays the reference of the input projection returns, element by element. -/
module

public import proofs.«01_k».proof.Proof.InMath
public import proofs.«01_k».proof.Proof.Gen.Reference2Ideal.Run
public import Idealize.ShloMosaic.Lib.KernelVsHost

@[expose] public section

set_option maxRecDepth 65536

noncomputable section

namespace Cert.Reference2Ideal.Run

open Idealize.ShloMosaic Idealize.ShloMosaic.TcCoe Idealize.ShloMosaic.Tactic Idealize.ShloMosaic.StableHlo
open Cert.Reference2Ideal Cert.Reference2Ideal.Gen Cert.Reference2Ideal.Value Cert.InProj

/-! ## Latent rows -/

/-- The latent rows, batch by batch. -/
def latX (H : FVec Ideal S17408x2048 .f32) : FVec Ideal S4x4096x2048 .f32 :=
  shapeCast S4x4096x2048 (extractStridedSlice S16384x2048 ![0, 0] H slices_S17408x2048_S16384x2048_0_0)
    shapeCasts_S16384x2048_S4x4096x2048

/-- Every latent row's scale. -/
def latS (X : FVec Ideal S4x4096x2048 .f32) : FVec Ideal S4x4096x1 .f32 :=
  Host.rsqrt (addf (Host.divf
      (broadcastInDim S4x4096x1 ![0, 1] bcast_S4x4096_S4x4096x1_0_1
        (Host.reduceAdd (mulf X X) (constant S_ .f32 0x00000000#32) reducesTo_S4x4096x2048_S4x4096_d2 h_S_))
      (broadcastInDim S4x4096x1 ![] bcast_S_S4x4096x1 (constant S_ .f32 0x45000000#32)))
    (broadcastInDim S4x4096x1 ![] bcast_S_S4x4096x1 (constant S_ .f32 0x358637BD#32)))

/-- The batches' modulation from one block of columns. -/
def latM (N : FVec Ideal S8x2048 .f32) : FVec Ideal S4x1x2048 .f32 :=
  broadcastInDim S4x1x2048 ![0, 2] bcast_S4x2048_S4x1x2048_0_2
    (extractStridedSlice S4x2048 ![0, 0] N slices_S8x2048_S4x2048_0_0)

def shiftM (M : FVec Ideal S8x12288 .f32) : FVec Ideal S8x2048 .f32 :=
  extractStridedSlice S8x2048 ![0, 0] M slices_S8x12288_S8x2048_0_0
def scaleM (M : FVec Ideal S8x12288 .f32) : FVec Ideal S8x2048 .f32 :=
  extractStridedSlice S8x2048 ![0, 2048] M slices_S8x12288_S8x2048_0_2048

/-- The latent rows after normalisation and modulation. -/
def latU (X : FVec Ideal S4x4096x2048 .f32) (G : FVec Ideal S2048 .f32) (M : FVec Ideal S8x12288 .f32) : FVec Ideal S4x4096x2048 .f32 :=
  addf (mulf (mulf (mulf X (broadcastInDim S4x4096x2048 ![0, 1, 2] bcast_S4x4096x1_S4x4096x2048_0_1_2 (latS X)))
      (broadcastInDim S4x4096x2048 ![0, 1, 2] bcast_S1x1x2048_S4x4096x2048_0_1_2 (broadcastInDim S1x1x2048 ![2] bcast_S2048_S1x1x2048_2 G)))
      (broadcastInDim S4x4096x2048 ![0, 1, 2] bcast_S4x1x2048_S4x4096x2048_0_1_2
        (addf (broadcastInDim S4x1x2048 ![] bcast_S_S4x1x2048 (constant S_ .f32 0x3F800000#32)) (latM (scaleM M)))))
    (broadcastInDim S4x4096x2048 ![0, 1, 2] bcast_S4x1x2048_S4x4096x2048_0_1_2 (latM (shiftM M)))

theorem latX_at (H : FVec Ideal S17408x2048 .f32) (b : Fin 4) (p : Fin 4096) (k : Fin 2048) :
    (latX H (ix3 b p k) : EReal) = H (ix2 ⟨4096 * (b : ℕ) + p, by omega⟩ k) := by
  pointwise [latX]
  exact congrArg H (congrArg₂ ix2 (Fin.ext (by show (b : ℕ) * 4096 + p = 4096 * b + p; omega)) rfl)

theorem latS_at (X : FVec Ideal S4x4096x2048 .f32) (b : Fin 4) (p : Fin 4096) :
    (latS X (ix3 b p 0) : EReal) = scaleOf (fun k => X (ix3 b p k)) := by
  pointwise [latS]
  rfl

theorem latM_at (N : FVec Ideal S8x2048 .f32) (b : Fin 4) (k : Fin 2048) :
    (latM N (ix3 b 0 k) : EReal) = N (ix2 ⟨b, by omega⟩ k) := by
  pointwise [latM]

theorem scaleM_at (M : FVec Ideal S8x12288 .f32) (b : Fin 8) (k : Fin 2048) :
    (scaleM M (ix2 b k) : EReal) = M (ix2 b ⟨2048 + k, by omega⟩) := by
  pointwise [scaleM]

theorem shiftM_at (M : FVec Ideal S8x12288 .f32) (b : Fin 8) (k : Fin 2048) :
    (shiftM M (ix2 b k) : EReal) = M (ix2 b ⟨k, by omega⟩) := by
  pointwise [shiftM]

theorem latU_at (X : FVec Ideal S4x4096x2048 .f32) (G : FVec Ideal S2048 .f32) (M : FVec Ideal S8x12288 .f32)
    (b : Fin 4) (p : Fin 4096) (k : Fin 2048) :
    (latU X G M (ix3 b p k) : EReal)
      = rowOf (fun j => X (ix3 b p j)) (fun j => G (ix1 j)) (fun j => M (ix2 ⟨b, by omega⟩ ⟨2048 + j, by omega⟩))
          (fun j => M (ix2 ⟨b, by omega⟩ ⟨j, by omega⟩)) k := by
  have h1 := latS_at X b p
  have h2 := (latM_at (scaleM M) b k).trans (scaleM_at M _ k)
  have h3 := (latM_at (shiftM M) b k).trans (shiftM_at M _ k)
  unfold rowOf
  beta_reduce
  rw [← h1, ← h2, ← h3]
  pointwise [latU]

/-! ## Context rows -/

def ctxX (H : FVec Ideal S17408x2048 .f32) : FVec Ideal S1024x2048 .f32 :=
  extractStridedSlice S1024x2048 ![16384, 0] H slices_S17408x2048_S1024x2048_16384_0

/-- Every context row's scale. -/
def ctxS (X : FVec Ideal S1024x2048 .f32) : FVec Ideal S1024x1 .f32 :=
  Host.rsqrt (addf (Host.divf
      (broadcastInDim S1024x1 ![0] bcast_S1024_S1024x1_0
        (Host.reduceAdd (mulf X X) (constant S_ .f32 0x00000000#32) reducesTo_S1024x2048_S1024_d1 h_S_))
      (broadcastInDim S1024x1 ![] bcast_S_S1024x1 (constant S_ .f32 0x45000000#32)))
    (broadcastInDim S1024x1 ![] bcast_S_S1024x1 (constant S_ .f32 0x358637BD#32)))

/-- The context's modulation from one block of columns. -/
def ctxM (N : FVec Ideal S8x2048 .f32) : FVec Ideal S2048 .f32 :=
  shapeCast S2048 (extractStridedSlice S1x2048 ![4, 0] N slices_S8x2048_S1x2048_4_0) shapeCasts_S1x2048_S2048

def alongRows (a : FVec Ideal S2048 .f32) : FVec Ideal S1024x2048 .f32 :=
  broadcastInDim S1024x2048 ![0, 1] bcast_S1x2048_S1024x2048_0_1 (broadcastInDim S1x2048 ![1] bcast_S2048_S1x2048_1 a)

/-- The context rows after normalisation and modulation. -/
def ctxU (X : FVec Ideal S1024x2048 .f32) (G : FVec Ideal S2048 .f32) (M : FVec Ideal S8x12288 .f32) : FVec Ideal S1024x2048 .f32 :=
  addf (mulf (mulf (mulf X (broadcastInDim S1024x2048 ![0, 1] bcast_S1024x1_S1024x2048_0_1 (ctxS X))) (alongRows G))
      (alongRows (addf (broadcastInDim S2048 ![] bcast_S_S2048 (constant S_ .f32 0x3F800000#32)) (ctxM (scaleM M)))))
    (alongRows (ctxM (shiftM M)))

theorem ctxX_at (H : FVec Ideal S17408x2048 .f32) (p : Fin 1024) (k : Fin 2048) :
    (ctxX H (ix2 p k) : EReal) = H (ix2 ⟨16384 + (p : ℕ), by omega⟩ k) := by
  pointwise [ctxX]

theorem ctxS_at (X : FVec Ideal S1024x2048 .f32) (p : Fin 1024) :
    (ctxS X (ix2 p 0) : EReal) = scaleOf (fun k => X (ix2 p k)) := by
  pointwise [ctxS]
  rfl

theorem ctxM_at (N : FVec Ideal S8x2048 .f32) (k : Fin 2048) :
    (ctxM N (ix1 k) : EReal) = N (ix2 4 k) := by
  pointwise [ctxM]

theorem ctxU_at (X : FVec Ideal S1024x2048 .f32) (G : FVec Ideal S2048 .f32) (M : FVec Ideal S8x12288 .f32)
    (p : Fin 1024) (k : Fin 2048) :
    (ctxU X G M (ix2 p k) : EReal)
      = rowOf (fun j => X (ix2 p j)) (fun j => G (ix1 j)) (fun j => M (ix2 4 ⟨2048 + j, by omega⟩))
          (fun j => M (ix2 4 ⟨j, by omega⟩)) k := by
  have h1 := ctxS_at X p
  have h2 := (ctxM_at (scaleM M) k).trans (scaleM_at M _ k)
  have h3 := (ctxM_at (shiftM M) k).trans (shiftM_at M _ k)
  unfold rowOf
  beta_reduce
  rw [← h1, ← h2, ← h3]
  pointwise [ctxU, alongRows]

/-! ## The results -/

/-- All rows after normalisation and modulation. -/
def allU (H : FVec Ideal S17408x2048 .f32) (M : FVec Ideal S8x12288 .f32) (G : FVec Ideal S2048 .f32) : FVec Ideal S17408x2048 .f32 :=
  concatenate S17408x2048 0 [⟨S16384x2048, shapeCast S16384x2048 (latU (latX H) G M) shapeCasts_S4x4096x2048_S16384x2048⟩,
    ⟨S1024x2048, ctxU (ctxX H) G M⟩] concatenates_S16384x2048_S1024x2048_S17408x2048_d0

/-- The projection. -/
def allZ (u : FVec Ideal S17408x2048 .f32) (W : FVec Ideal S2048x13376 .f32) : FVec Ideal S17408x13376 .f32 :=
  Host.dotGeneral dot_S17408x2048_S2048x13376_S17408x13376_1_0_0_1_n_n none u W

/-- The projection's columns in the first result's order. -/
def mainCols (z : FVec Ideal S17408x13376 .f32) : FVec Ideal S17408x13312 .bf16 :=
  truncf .bf16 (concatenate S17408x13312 1
    [⟨S17408x6144, extractStridedSlice S17408x6144 ![0, 0] z slices_S17408x13376_S17408x6144_0_0⟩,
     ⟨S17408x2048, extractStridedSlice S17408x2048 ![0, 6208] z slices_S17408x13376_S17408x2048_0_6208⟩,
     ⟨S17408x4096, extractStridedSlice S17408x4096 ![0, 9280] z slices_S17408x13376_S17408x4096_0_9280⟩,
     ⟨S17408x1024, extractStridedSlice S17408x1024 ![0, 8256] z slices_S17408x13376_S17408x1024_0_8256⟩]
    concatenates_S17408x6144_S17408x2048_S17408x4096_S17408x1024_S17408x13312_d1) bitsLt_bf16_f32

/-- The gate logits' columns, padded with zeros. -/
def gateCols (z : FVec Ideal S17408x13376 .f32) : FVec Ideal S17408x128 .f32 :=
  pad S17408x128 ![0, 0] ![0, 64] ![0, 0] (extractStridedSlice S17408x64 ![0, 6144] z slices_S17408x13376_S17408x64_0_6144)
    (sitofp .f32 (constantI S_ 32 0#32)) pads_S17408x64_S17408x128_000_0640 h_S_

theorem flat_at (u : FVec Ideal S4x4096x2048 .f32) (r : Fin 16384) (k : Fin 2048) :
    (shapeCast S16384x2048 u shapeCasts_S4x4096x2048_S16384x2048 (ix2 r k) : EReal)
      = u (ix3 ⟨(r : ℕ) / 4096, by omega⟩ ⟨(r : ℕ) % 4096, by omega⟩ k) := by
  pointwise

theorem joined_at (a : FVec Ideal S16384x2048 .f32) (b : FVec Ideal S1024x2048 .f32) (r : Fin 17408) (k : Fin 2048) :
    (concatenate S17408x2048 0 [⟨S16384x2048, a⟩, ⟨S1024x2048, b⟩] concatenates_S16384x2048_S1024x2048_S17408x2048_d0 (ix2 r k) : EReal)
      = if h : (r : ℕ) < 16384 then a (ix2 ⟨r, h⟩ k) else b (ix2 ⟨r - 16384, by omega⟩ k) := by
  pointwise

theorem allU_at (H : FVec Ideal S17408x2048 .f32) (M : FVec Ideal S8x12288 .f32) (G : FVec Ideal S2048 .f32)
    (r : Fin 17408) (k : Fin 2048) : (allU H M G (ix2 r k) : EReal) = U H M G r k := by
  refine (joined_at _ _ r k).trans ?_
  unfold U
  by_cases h : (r : ℕ) < 16384
  · rw [dif_pos h]
    refine ((flat_at _ _ k).trans (latU_at _ G M _ _ k)).trans ?_
    congr 1
    funext j
    refine (latX_at H _ _ j).trans (congrArg H (congrArg₂ ix2 (Fin.ext ?_) rfl))
    show 4096 * ((r : ℕ) / 4096) + (r : ℕ) % 4096 = r
    omega
  · rw [dif_neg h]
    have e : (⟨(r : ℕ) / 4096, by omega⟩ : Fin 8) = 4 := Fin.ext (by show (r : ℕ) / 4096 = 4; omega)
    rw [e]
    refine (ctxU_at _ G M _ k).trans ?_
    congr 1
    funext j
    refine (ctxX_at H _ j).trans (congrArg H (congrArg₂ ix2 (Fin.ext ?_) rfl))
    show 16384 + ((r : ℕ) - 16384) = r
    omega

theorem allZ_at (H : FVec Ideal S17408x2048 .f32) (M : FVec Ideal S8x12288 .f32) (G : FVec Ideal S2048 .f32)
    (W : FVec Ideal S2048x13376 .f32) (r : Fin 17408) (n : Fin 13376) : (allZ (allU H M G) W (ix2 r n) : EReal) = Z H M G W r n := by
  have h : ∀ u : FVec Ideal S17408x2048 .f32, (allZ u W (ix2 r n) : EReal) = ∑ k, (u (ix2 r k) : EReal) * W (ix2 k n) := by
    intro u
    pointwise [allZ]
  exact (h _).trans (Finset.sum_congr rfl fun k _ => congrArg (· * (W (ix2 k n) : EReal)) (allU_at H M G r k))

theorem mainCols_at (z : FVec Ideal S17408x13376 .f32) (r : Fin 17408) (n : Fin 13312) :
    (mainCols z (ix2 r n) : EReal) = z (ix2 r (colOf n)) := by
  pointwise [mainCols]
  split_ifs <;> refine congrArg z (congrArg (ix2 r) (Fin.ext ?_)) <;> rw [colOf_val] <;> dsimp only <;> split_ifs <;> omega

theorem gateCols_at (z : FVec Ideal S17408x13376 .f32) (r : Fin 17408) (n : Fin 128) :
    (gateCols z (ix2 r n) : EReal) = if h : (n : ℕ) < 64 then (z (ix2 r ⟨6144 + n, by omega⟩) : EReal) else 0 := by
  by_cases hn : (n : ℕ) < 64
  · rw [dif_pos hn]
    refine (pad_apply_of_inside _ _ _ _ _ pads_S17408x64_S17408x128_000_0640 h_S_ _ (ix2 r ⟨n, hn⟩) ?_).trans ?_
    · intro t
      match t with
      | ⟨0, _⟩ => simp
      | ⟨1, _⟩ => simp
    · pointwise
  · rw [dif_neg hn]
    refine (pad_apply_of_not_inside _ _ _ _ _ pads_S17408x64_S17408x128_000_0640 h_S_ _ (1 : Fin 2) ?_).trans ?_
    · rintro ⟨-, -, h⟩
      exact hn (by simpa using h)
    · show (((((0#32 : BitVec 32).toInt : ℤ) : ℝ)) : EReal) = _
      simp

section
variable (m : (ℓ : Loc nD τ sig) → Buf (Elt Ideal) ℓ) (c : Dev nD)

theorem result0 : res_main_v62 m c
    = mainCols (allZ (allU (m ((c.tc : Thread nD τ).loc main_arg0)) (m ((c.tc : Thread nD τ).loc main_arg1))
        (m ((c.tc : Thread nD τ).loc main_arg2))) (m ((c.tc : Thread nD τ).loc main_arg3))) := rfl

theorem result1 : res_main_v63 m c
    = gateCols (allZ (allU (m ((c.tc : Thread nD τ).loc main_arg0)) (m ((c.tc : Thread nD τ).loc main_arg1))
        (m ((c.tc : Thread nD τ).loc main_arg2))) (m ((c.tc : Thread nD τ).loc main_arg3))) := rfl

theorem result0_at (r : Fin 17408) (n : Fin 13312) : (res_main_v62 m c (ix2 r n) : EReal)
    = Z (m ((c.tc : Thread nD τ).loc main_arg0)) (m ((c.tc : Thread nD τ).loc main_arg1))
        (m ((c.tc : Thread nD τ).loc main_arg2)) (m ((c.tc : Thread nD τ).loc main_arg3)) r (colOf n) :=
  (congrFun (result0 m c) _).trans ((mainCols_at _ r n).trans (allZ_at _ _ _ _ r _))

theorem result1_at (r : Fin 17408) (n : Fin 128) : (res_main_v63 m c (ix2 r n) : EReal)
    = if h : (n : ℕ) < 64 then Z (m ((c.tc : Thread nD τ).loc main_arg0)) (m ((c.tc : Thread nD τ).loc main_arg1))
        (m ((c.tc : Thread nD τ).loc main_arg2)) (m ((c.tc : Thread nD τ).loc main_arg3)) r ⟨6144 + n, by omega⟩ else 0 := by
  refine (congrFun (result1 m c) _).trans ((gateCols_at _ r n).trans ?_)
  split
  · exact allZ_at _ _ _ _ r _
  · rfl

end

end Cert.Reference2Ideal.Run

end
-- ==== Proof.MgBody.lean ====
/- The body of the merge kernel, its repeated parts stated once: what it stores for one of the sixteen heads and for one of the four
   groups, and the block it returns from the two scratch buffers. -/
module

public import proofs.«01_k».proof.Proof.Gen.Kernel3Ideal.Frame

@[expose] public section

set_option maxRecDepth 65536

noncomputable section

namespace Cert.Kernel3Ideal.Body

open Idealize.ShloMosaic Idealize.ShloMosaic.TcCoe Idealize.ShloMosaic.Tactic
open Cert.Kernel3Ideal Cert.Kernel3Ideal.Gen

variable {F : FTy → Type} [FloatOps F]

/-! ### One head -/

/-- The constant of a block. -/
def const128 (b : BitVec 32) : FVec F S256x128 .f32 := broadcast S256x128 (Scalar.ofBits .f32 b)
def constCol (b : BitVec 32) : FVec F S256x1 .f32 := broadcast S256x1 (Scalar.ofBits .f32 b)
def constWide (b : BitVec 32) : FVec F S256x2048 .f32 := broadcast S256x2048 (Scalar.ofBits .f32 b)

/-- One direction's outputs of a head. -/
def dirOf (a : Vec F S1x256x128 .bf16) : FVec F S256x128 .f32 :=
  extf .f32 (shapeCast S256x128 a shapeCasts_S1x256x128_S256x128) bitsLt_bf16_f32

/-- Every row's scale. -/
def scaleCol (o : FVec F S256x128 .f32) : FVec F S256x1 .f32 :=
  rsqrt (addf (divf (shapeCast S256x1 (multiReduction .add [1] S256 (mulf o o) 0x00000000#32 reduces_S256x128_S256 (.inl rfl) rfl)
    shapeCasts_S256_S256x1) (constCol 0x43000000#32)) (constCol 0x358637BD#32))

/-- The logistic function of a head's gate. -/
def sig128 (z : FVec F S256x128 .f32) : FVec F S256x128 .f32 :=
  divf (const128 0x3F800000#32) (addf (const128 0x3F800000#32) (exp (subf (const128 0x00000000#32) z)))

/-- A head after norm, gain and gate. -/
def normed (o z : FVec F S256x128 .f32) (g : Vec F S1x128 .f32) : FVec F S256x128 .f32 :=
  mulf (mulf (mulf o (broadcastTo S256x128 (scaleCol o) broadcasts_S256x1_S256x128))
    (broadcastTo S256x128 (shapeCast S1x128 g shapeCasts_S1x128_S1x128) broadcasts_S1x128_S256x128)) (mulf z (sig128 z))

/-- What is stored for a head. -/
def headBlk (a b : Vec F S1x256x128 .bf16) (og : Vec F S256x128 .bf16) (g : Vec F S1x128 .f32) : FVec F S256x128 .bf16 :=
  shapeCast S256x128 (truncf .bf16 (normed (addf (dirOf a) (dirOf b)) (extf .f32 og bitsLt_bf16_f32) g) bitsLt_bf16_f32)
    shapeCasts_S256x128_S256x128

/-! ### One group -/

/-- What is stored for a group: the latent rows' tokens or the context's, mixed and scaled. -/
def groupBlk (w : BitVec 1) (a b : Vec F S256x256 .bf16) (m : Vec F S1x1x256x256 .f32) (s : Vec F S1x256 .f32) : FVec F S256x256 .bf16 :=
  shapeCast S256x256 (truncf .bf16 (mulf
    (matmul dot_S256x256_S256x256_S256x256_1_0_0_1_n_n none (Scalar.select w a b)
      (truncf .bf16 (shapeCast S256x256 m shapeCasts_S1x1x256x256_S256x256) bitsLt_bf16_f32) (constant S256x256 .f32 0x00000000#32))
    (broadcastTo S256x256 (shapeCast S1x256 s shapeCasts_S1x256_S1x256) broadcasts_S1x256_S256x256)) bitsLt_bf16_f32)
    shapeCasts_S256x256_S256x256

/-! ### The block returned -/

/-- The logistic function of a merge gate. -/
def sigWide (z : FVec F S256x2048 .f32) : FVec F S256x2048 .f32 :=
  divf (constWide 0x3F800000#32) (addf (constWide 0x3F800000#32) (exp (subf (constWide 0x00000000#32) z)))

/-- The scan's branch projected up. -/
def scanUp (a : Vec F S256x2048 .bf16) (w : Vec F S1x2048x2048 .f32) : FVec F S256x2048 .f32 :=
  matmul dot_S256x2048_S2048x2048_S256x2048_1_0_0_1_n_n none a
    (truncf .bf16 (shapeCast S2048x2048 w shapeCasts_S1x2048x2048_S2048x2048) bitsLt_bf16_f32) (constant S256x2048 .f32 0x00000000#32)

/-- The pooled branch projected up. -/
def poolUp (a : Vec F S256x1024 .bf16) (w : Vec F S1x1024x2048 .f32) : FVec F S256x2048 .f32 :=
  matmul dot_S256x1024_S1024x2048_S256x2048_1_0_0_1_n_n none a
    (truncf .bf16 (shapeCast S1024x2048 w shapeCasts_S1x1024x2048_S1024x2048) bitsLt_bf16_f32) (constant S256x2048 .f32 0x00000000#32)

/-- The two branches added with their gates. -/
def outBlk (y p : FVec F S256x2048 .f32) (g1 g2 : Vec F S256x2048 .bf16) : FVec F S256x2048 .bf16 :=
  truncf .bf16 (addf (mulf (sigWide (extf .f32 g1 bitsLt_bf16_f32)) y) (mulf (sigWide (extf .f32 g2 bitsLt_bf16_f32)) p)) bitsLt_bf16_f32

/-! ### What the body loads -/

theorem inbO (j : Fin 2) (h : Fin 16) : ∀ a, (![(j : ℕ), 0, 128 * (h : ℕ)] : Fin 3 → Nat) a + S1x256x128.size a ≤ S2x256x2048.size a := by
  revert h j; decide

theorem inbX (h : Fin 16) : ∀ a, (![0, 128 * (h : ℕ)] : Fin 2 → Nat) a + S256x128.size a ≤ S256x2048.size a := by
  revert h; decide

theorem inbP (g : Fin 4) : ∀ a, (![0, 256 * (g : ℕ)] : Fin 2 → Nat) a + S256x256.size a ≤ S256x1024.size a := by
  revert g; decide

theorem inbW (g : Fin 4) : ∀ a, (![0, (g : ℕ), 0, 0] : Fin 4 → Nat) a + S1x1x256x256.size a ≤ S1x4x256x256.size a := by
  revert g; decide

theorem inbS (g : Fin 4) : ∀ a, (![0, 256 * (g : ℕ)] : Fin 2 → Nat) a + S1x256.size a ≤ S1x1024.size a := by
  revert g; decide

/-- Head `h` of direction `j` in the staged outputs. -/
def oOf (m : Memref sig .tc .vmem S2x256x2048 .bf16) (hm : m.IsWhole) (x : Vec F S2x256x2048 .bf16) (j : Fin 2) (h : Fin 16) :
    Vec F S1x256x128 .bf16 :=
  View.readAt (Elt F) m.view (Rect.unit (s := S2x256x2048) ![(j : ℕ), 0, 128 * (h : ℕ)] S1x256x128.size (inbO j h)).toLoadRect (hm.unread x)

/-- The columns of head `h` in the staged output gate. -/
def ogOf (m : Memref sig .tc .vmem S256x2048 .bf16) (hm : m.IsWhole) (x : Vec F S256x2048 .bf16) (h : Fin 16) : Vec F S256x128 .bf16 :=
  View.readAt (Elt F) m.view (Rect.unit (s := S256x2048) ![0, 128 * (h : ℕ)] S256x128.size (inbX h)).toLoadRect (hm.unread x)

/-- The columns of group `g` in the staged tokens. -/
def tokOf (m : Memref sig .tc .vmem S256x1024 .bf16) (hm : m.IsWhole) (x : Vec F S256x1024 .bf16) (g : Fin 4) : Vec F S256x256 .bf16 :=
  View.readAt (Elt F) m.view (Rect.unit (s := S256x1024) ![0, 256 * (g : ℕ)] S256x256.size (inbP g)).toLoadRect (hm.unread x)

/-- Group `g`'s mixing weights. -/
def mixOf (m : Memref sig .tc .vmem S1x4x256x256 .f32) (hm : m.IsWhole) (x : Vec F S1x4x256x256 .f32) (g : Fin 4) :
    Vec F S1x1x256x256 .f32 :=
  View.readAt (Elt F) m.view (Rect.unit (s := S1x4x256x256) ![0, (g : ℕ), 0, 0] S1x1x256x256.size (inbW g)).toLoadRect (hm.unread x)

/-- Group `g`'s scales. -/
def psOf (m : Memref sig .tc .vmem S1x1024 .f32) (hm : m.IsWhole) (x : Vec F S1x1024 .f32) (g : Fin 4) : Vec F S1x256 .f32 :=
  View.readAt (Elt F) m.view (Rect.unit (s := S1x1024) ![0, 256 * (g : ℕ)] S1x256.size (inbS g)).toLoadRect (hm.unread x)

/-- Whole staged blocks. -/
def gainOf (m : Memref sig .tc .vmem S1x128 .f32) (hm : m.IsWhole) (x : Vec F S1x128 .f32) : Vec F S1x128 .f32 :=
  View.readAt (Elt F) m.view (Rect.unit (s := S1x128) ![0, 0] S1x128.size inb_S1x128_S1x128_0_0).toLoadRect (hm.unread x)
def wdOf (m : Memref sig .tc .vmem S1x2048x2048 .f32) (hm : m.IsWhole) (x : Vec F S1x2048x2048 .f32) : Vec F S1x2048x2048 .f32 :=
  View.readAt (Elt F) m.view (Rect.unit (s := S1x2048x2048) ![0, 0, 0] S1x2048x2048.size inb_S1x2048x2048_S1x2048x2048_0_0_0).toLoadRect (hm.unread x)
def wuOf (m : Memref sig .tc .vmem S1x1024x2048 .f32) (hm : m.IsWhole) (x : Vec F S1x1024x2048 .f32) : Vec F S1x1024x2048 .f32 :=
  View.readAt (Elt F) m.view (Rect.unit (s := S1x1024x2048) ![0, 0, 0] S1x1024x2048.size inb_S1x1024x2048_S1x1024x2048_0_0_0).toLoadRect (hm.unread x)
def gateOf (m : Memref sig .tc .vmem S256x2048 .bf16) (hm : m.IsWhole) (x : Vec F S256x2048 .bf16) : Vec F S256x2048 .bf16 :=
  View.readAt (Elt F) m.view (Rect.unit (s := S256x2048) ![0, 0] S256x2048.size inb_S256x2048_S256x2048_0_0).toLoadRect (hm.unread x)

/-! ### What the body stores -/

/-- The sixteen heads' blocks, last head first. -/
def headPieces (o : Fin 2 → Fin 16 → Vec F S1x256x128 .bf16) (og : Fin 16 → Vec F S256x128 .bf16) (g : Vec F S1x128 .f32) :
    List (View.Piece (Elt F) S256x2048 .bf16) :=
  (List.finRange 16).reverse.map fun h : Fin 16 =>
    ⟨Rect.unit ![0, 128 * (h : ℕ)] S256x128.size (inbX h), headBlk (o 0 h) (o 1 h) (og h) g⟩

/-- The four groups' blocks, last group first. -/
def groupPieces (w : BitVec 1) (a b : Fin 4 → Vec F S256x256 .bf16) (m : Fin 4 → Vec F S1x1x256x256 .f32) (s : Fin 4 → Vec F S1x256 .f32) :
    List (View.Piece (Elt F) S256x1024 .bf16) :=
  (List.finRange 4).reverse.map fun g : Fin 4 =>
    ⟨Rect.unit ![0, 256 * (g : ℕ)] S256x256.size (inbP g), groupBlk w (a g) (b g) (m g) (s g)⟩

/-- The scratch of the heads as the body loads it back. -/
def headsBack (m : Memref sig .tc .vmem S256x2048 .bf16) (L : List (View.Piece (Elt F) S256x2048 .bf16)) : Vec F S256x2048 .bf16 :=
  m.view.readCov L (Rect.unit (s := S256x2048) ![0, 0] S256x2048.size inb_S256x2048_S256x2048_0_0).toLoadRect

/-- The scratch of the groups as the body loads it back. -/
def groupsBack (m : Memref sig .tc .vmem S256x1024 .bf16) (L : List (View.Piece (Elt F) S256x1024 .bf16)) : Vec F S256x1024 .bf16 :=
  m.view.readCov L (Rect.unit (s := S256x1024) ![0, 0] S256x1024.size inb_S256x1024_S256x1024_0_0).toLoadRect

/-- Whether a point works on latent rows. -/
def isLat (i : grid0.Coords) : BitVec 1 := Scalar.cmpi .slt (BitVec.ofNat 32 (i 0)) 64#32

section
variable (c : Dev nD) (i : grid0.Coords) (arg1 : Memref sig .tc .vmem S2x256x2048 .bf16) (harg1 : arg1.IsWhole)
  (arg2 : Memref sig .tc .vmem S256x2048 .bf16) (harg2 : arg2.IsWhole) (arg3 : Memref sig .tc .vmem S256x2048 .bf16) (harg3 : arg3.IsWhole)
  (arg4 : Memref sig .tc .vmem S256x2048 .bf16) (harg4 : arg4.IsWhole) (arg5 : Memref sig .tc .vmem S256x1024 .bf16) (harg5 : arg5.IsWhole)
  (arg6 : Memref sig .tc .vmem S256x1024 .bf16) (harg6 : arg6.IsWhole) (arg7 : Memref sig .tc .vmem S1x128 .f32) (harg7 : arg7.IsWhole)
  (arg8 : Memref sig .tc .vmem S1x4x256x256 .f32) (harg8 : arg8.IsWhole) (arg9 : Memref sig .tc .vmem S1x1024 .f32) (harg9 : arg9.IsWhole)
  (arg10 : Memref sig .tc .vmem S1x2048x2048 .f32) (harg10 : arg10.IsWhole) (arg11 : Memref sig .tc .vmem S1x1024x2048 .f32)
  (harg11 : arg11.IsWhole) (arg12 : Memref sig .tc .vmem S256x2048 .bf16) (harg12 : arg12.IsWhole)
  (arg13 : Memref sig .tc .vmem S256x2048 .bf16) (harg13 : arg13.IsWhole) (arg14 : Memref sig .tc .vmem S256x1024 .bf16) (harg14 : arg14.IsWhole)
  (x0 : Vec F S2x256x2048 .bf16) (x1 x2 x3 : Vec F S256x2048 .bf16) (x4 x5 : Vec F S256x1024 .bf16) (x6 : Vec F S1x128 .f32)
  (x7 : Vec F S1x4x256x256 .f32) (x8 : Vec F S1x1024 .f32) (x9 : Vec F S1x2048x2048 .f32) (x10 : Vec F S1x1024x2048 .f32)

/-- The block returned, from what is loaded. -/
def retBlk : FVec F S256x2048 .bf16 :=
  outBlk
    (scanUp (headsBack arg13 (headPieces (oOf arg1 harg1 x0) (ogOf arg2 harg2 x1) (gainOf arg7 harg7 x6))) (wdOf arg10 harg10 x9))
    (poolUp (groupsBack arg14 (groupPieces (isLat i) (tokOf arg5 harg5 x4) (tokOf arg6 harg6 x5) (mixOf arg8 harg8 x7) (psOf arg9 harg9 x8)))
      (wuOf arg11 harg11 x10))
    (gateOf arg3 harg3 x2) (gateOf arg4 harg4 x3)

/-- The body's one store to its output. -/
theorem stored :
    (kernelRun0_A c i arg1 harg1 arg2 harg2 arg3 harg3 arg4 harg4 arg5 harg5 arg6 harg6 arg7 harg7 arg8 harg8 arg9 harg9 arg10 harg10
      arg11 harg11 arg12 harg12 arg13 harg13 arg14 harg14 x0 x1 x2 x3 x4 x5 x6 x7 x8 x9 x10).1
    = [⟨Rect.unit (s := S256x2048) ![0, 0] S256x2048.size inb_S256x2048_S256x2048_0_0,
        retBlk i arg1 harg1 arg2 harg2 arg3 harg3 arg4 harg4 arg5 harg5 arg6 harg6 arg7 harg7 arg8 harg8 arg9 harg9 arg10 harg10
          arg11 harg11 arg13 arg14 x0 x1 x2 x3 x4 x5 x6 x7 x8 x9 x10⟩] := by
  rfl

end

end Cert.Kernel3Ideal.Body

end
-- ==== Proof.MgMath.lean ====
/- The merge of the two branches as a function of its arguments: the scan's outputs, brought to unit mean square head by head and gated,
   and the pooled tokens, mixed group by group and scaled; each projected up, and the two added with their gates. -/
module

public import Idealize.ShloMosaic.Lib.Pointwise

@[expose] public section

noncomputable section

namespace Cert.Merge

open Idealize.ShloMosaic

/-- One over the root of a head's mean square, the mean's small addend included. -/
def headScale (x : Fin 128 → EReal) : EReal :=
  Ideal.rsqrt (Ideal.div (∑ k, x k * x k) (Ideal.ofBits .f32 0x43000000#32) + Ideal.ofBits .f32 0x358637BD#32)

/-- The logistic function. -/
def sig (x : EReal) : EReal := Ideal.div 1 (1 + Ideal.exp (-x))

/-- An element of a head after norm, gain and gate. -/
def gatedOf (x : Fin 128 → EReal) (g z : EReal) (d : Fin 128) : EReal := x d * headScale x * g * (z * sig z)

section
variable (O : (⟨3, ![2, 17408, 2048]⟩ : Shape).Idx → EReal) (Z : (⟨2, ![17408, 13312]⟩ : Shape).Idx → EReal)
  (PL : (⟨2, ![16384, 1024]⟩ : Shape).Idx → EReal) (PC : (⟨2, ![1024, 1024]⟩ : Shape).Idx → EReal)
  (G : (⟨1, ![128]⟩ : Shape).Idx → EReal) (WP : (⟨4, ![2, 4, 256, 256]⟩ : Shape).Idx → EReal)
  (PS : (⟨1, ![1024]⟩ : Shape).Idx → EReal) (WD : (⟨3, ![2, 2048, 2048]⟩ : Shape).Idx → EReal)
  (WU : (⟨3, ![2, 1024, 2048]⟩ : Shape).Idx → EReal)

/-- Element `d` of head `h` in row `r`: both directions' outputs added. -/
def both (r : Fin 17408) (h : Fin 16) (d : Fin 128) : EReal :=
  O (ix3 0 r ⟨(h : ℕ) * 128 + d, by omega⟩) + O (ix3 1 r ⟨(h : ℕ) * 128 + d, by omega⟩)

/-- The same after norm, gain and gate. -/
def gated (r : Fin 17408) (h : Fin 16) (d : Fin 128) : EReal :=
  gatedOf (both O r h) (G (ix1 d)) (Z (ix2 r ⟨6144 + ((h : ℕ) * 128 + d), by omega⟩)) d

/-- The scan's branch projected up. -/
def upScan (r : Fin 17408) (n : Fin 2048) : EReal :=
  ∑ k : Fin 2048, gated O Z G r ⟨(k : ℕ) / 128, by omega⟩ ⟨(k : ℕ) % 128, by omega⟩ * WD (ix3 0 k n)

/-- The pooled token of a row: the latent rows first, then the context's. -/
def pooled (r : Fin 17408) (k : Fin 1024) : EReal :=
  if h : (r : ℕ) < 16384 then PL (ix2 ⟨r, h⟩ k) else PC (ix2 ⟨(r : ℕ) - 16384, by omega⟩ k)

/-- Element `d` of group `g` after mixing within the group and scaling. -/
def mixed (r : Fin 17408) (g : Fin 4) (d : Fin 256) : EReal :=
  (∑ k : Fin 256, pooled PL PC r ⟨(g : ℕ) * 256 + k, by omega⟩ * WP (ix4 0 g k d)) * PS (ix1 ⟨(g : ℕ) * 256 + d, by omega⟩)

/-- The pooled branch projected up. -/
def upPool (r : Fin 17408) (n : Fin 2048) : EReal :=
  ∑ k : Fin 1024, mixed PL PC WP PS r ⟨(k : ℕ) / 256, by omega⟩ ⟨(k : ℕ) % 256, by omega⟩ * WU (ix3 0 k n)

/-- The merged branches. -/
def merged (r : Fin 17408) (n : Fin 2048) : EReal :=
  sig (Z (ix2 r ⟨8192 + n, by omega⟩)) * upScan O Z G WD r n
    + sig (Z (ix2 r ⟨10240 + n, by omega⟩)) * upPool PL PC WP PS WU r n

end

end Cert.Merge

end
-- ==== Proof.MgLoads.lean ====
/- What the body of the merge kernel loads, stores and returns, element by element. -/
module

public import proofs.«01_k».proof.Proof.MgBody
public import proofs.«01_k».proof.Proof.MgMath
public import Idealize.ShloMosaic.Lib.WholeRead
public import Idealize.ShloMosaic.Lib.Writes

@[expose] public section

set_option maxRecDepth 65536

noncomputable section

namespace Cert.Kernel3Ideal.Body

open Idealize.ShloMosaic Idealize.ShloMosaic.TcCoe Idealize.ShloMosaic.Tactic
open Cert.Kernel3Ideal Cert.Kernel3Ideal.Gen Cert.Merge

/-! ### Loads -/

section
variable {F : FTy → Type} [FloatOps F]

theorem oOf_at (m : Memref sig .tc .vmem S2x256x2048 .bf16) (hm : m.IsWhole) (x : Vec F S2x256x2048 .bf16) (j : Fin 2) (h : Fin 16)
    (p : Fin 256) (d : Fin 128) : oOf m hm x j h (ix3 0 p d) = x (ix3 j p ⟨(h : ℕ) * 128 + d, by omega⟩) := by
  refine (hm.readAt_unread x _ _).trans (congrArg x ?_)
  funext t; apply Fin.ext
  match t with
  | ⟨0, _⟩ => rfl
  | ⟨1, _⟩ => exact (Nat.zero_add _).trans (Nat.one_mul _)
  | ⟨2, _⟩ => show 128 * (h : ℕ) + 1 * (d : ℕ) = (h : ℕ) * 128 + d; omega

theorem ogOf_at (m : Memref sig .tc .vmem S256x2048 .bf16) (hm : m.IsWhole) (x : Vec F S256x2048 .bf16) (h : Fin 16)
    (p : Fin 256) (d : Fin 128) : ogOf m hm x h (ix2 p d) = x (ix2 p ⟨(h : ℕ) * 128 + d, by omega⟩) := by
  refine (hm.readAt_unread x _ _).trans (congrArg x ?_)
  funext t; apply Fin.ext
  match t with
  | ⟨0, _⟩ => exact (Nat.zero_add _).trans (Nat.one_mul _)
  | ⟨1, _⟩ => show 128 * (h : ℕ) + 1 * (d : ℕ) = (h : ℕ) * 128 + d; omega

theorem tokOf_at (m : Memref sig .tc .vmem S256x1024 .bf16) (hm : m.IsWhole) (x : Vec F S256x1024 .bf16) (g : Fin 4)
    (p k : Fin 256) : tokOf m hm x g (ix2 p k) = x (ix2 p ⟨(g : ℕ) * 256 + k, by omega⟩) := by
  refine (hm.readAt_unread x _ _).trans (congrArg x ?_)
  funext t; apply Fin.ext
  match t with
  | ⟨0, _⟩ => exact (Nat.zero_add _).trans (Nat.one_mul _)
  | ⟨1, _⟩ => show 256 * (g : ℕ) + 1 * (k : ℕ) = (g : ℕ) * 256 + k; omega

theorem mixOf_at (m : Memref sig .tc .vmem S1x4x256x256 .f32) (hm : m.IsWhole) (x : Vec F S1x4x256x256 .f32) (g : Fin 4)
    (k d : Fin 256) : mixOf m hm x g (ix4 0 0 k d) = x (ix4 0 g k d) := by
  refine (hm.readAt_unread x _ _).trans (congrArg x ?_)
  funext t; apply Fin.ext
  match t with
  | ⟨0, _⟩ => rfl
  | ⟨1, _⟩ => rfl
  | ⟨2, _⟩ => exact (Nat.zero_add _).trans (Nat.one_mul _)
  | ⟨3, _⟩ => exact (Nat.zero_add _).trans (Nat.one_mul _)

theorem psOf_at (m : Memref sig .tc .vmem S1x1024 .f32) (hm : m.IsWhole) (x : Vec F S1x1024 .f32) (g : Fin 4)
    (d : Fin 256) : psOf m hm x g (ix2 0 d) = x (ix2 0 ⟨(g : ℕ) * 256 + d, by omega⟩) := by
  refine (hm.readAt_unread x _ _).trans (congrArg x ?_)
  funext t; apply Fin.ext
  match t with
  | ⟨0, _⟩ => rfl
  | ⟨1, _⟩ => show 256 * (g : ℕ) + 1 * (d : ℕ) = (g : ℕ) * 256 + d; omega

theorem gainOf_eq (m : Memref sig .tc .vmem S1x128 .f32) (hm : m.IsWhole) (x : Vec F S1x128 .f32) : gainOf m hm x = x := by
  unfold gainOf
  rw [View.readAt_eq_ld, hm.read_unread]
  exact View.ld_unit_zero (by decide) _ _

theorem wdOf_eq (m : Memref sig .tc .vmem S1x2048x2048 .f32) (hm : m.IsWhole) (x : Vec F S1x2048x2048 .f32) : wdOf m hm x = x := by
  unfold wdOf
  rw [View.readAt_eq_ld, hm.read_unread]
  exact View.ld_unit_zero (by decide) _ _

theorem wuOf_eq (m : Memref sig .tc .vmem S1x1024x2048 .f32) (hm : m.IsWhole) (x : Vec F S1x1024x2048 .f32) : wuOf m hm x = x := by
  unfold wuOf
  rw [View.readAt_eq_ld, hm.read_unread]
  exact View.ld_unit_zero (by decide) _ _

theorem gateOf_eq (m : Memref sig .tc .vmem S256x2048 .bf16) (hm : m.IsWhole) (x : Vec F S256x2048 .bf16) : gateOf m hm x = x := by
  unfold gateOf
  rw [View.readAt_eq_ld, hm.read_unread]
  exact View.ld_unit_zero (by decide) _ _

/-! ### The scratch buffers loaded back -/

/-- Column `128 h + d` of the heads' scratch is column `d` of head `h`'s block. -/
theorem headsBack_at (m : Memref sig .tc .vmem S256x2048 .bf16) (o : Fin 2 → Fin 16 → Vec F S1x256x128 .bf16)
    (og : Fin 16 → Vec F S256x128 .bf16) (g : Vec F S1x128 .f32) (p : Fin 256) (k : Fin 2048) :
    headsBack m (headPieces o og g) (ix2 p k)
      = headBlk (o 0 ⟨(k : ℕ) / 128, by omega⟩) (o 1 ⟨(k : ℕ) / 128, by omega⟩) (og ⟨(k : ℕ) / 128, by omega⟩) g
          (ix2 p ⟨(k : ℕ) % 128, by omega⟩) := by
  let B : Fin 16 → FVec F S256x128 .bf16 := fun h => headBlk (o 0 h) (o 1 h) (og h) g
  have hi : (Rect.unit (s := S256x2048) ![0, 0] S256x2048.size inb_S256x2048_S256x2048_0_0).toLoadRect.idx (ix2 p k) = ix2 p k := by
    funext t; apply Fin.ext
    match t with
    | ⟨0, _⟩ => exact (Nat.zero_add _).trans (Nat.one_mul _)
    | ⟨1, _⟩ => exact (Nat.zero_add _).trans (Nat.one_mul _)
  refine (show _ = m.view.read (Elt F) (m.view.writes (Elt F) m.view.junk (headPieces o og g)) (ix2 p k) from
    congrArg (m.view.read (Elt F) (m.view.writes (Elt F) m.view.junk (headPieces o og g))) hi).trans ?_
  refine View.read_writes_apply_of_pieces m.view m.view.junk
    (fun y : S256x2048.Idx => B ⟨(y 1 : ℕ) / 128, by have := (y 1).isLt; simp at this; omega⟩
      (ix2 (y 0) ⟨(y 1 : ℕ) % 128, Nat.mod_lt _ (by decide)⟩)) (headPieces o og g) ?_ (ix2 p k) ?_
  · intro pc hpc x
    obtain ⟨h', -, rfl⟩ := List.mem_map.mp hpc
    have hx : (x 1 : ℕ) < 128 := (x 1).isLt
    have key : ∀ (a : Fin 16) (b : S256x128.Idx), h' = a → x = b → B h' x = B a b := by rintro _ _ rfl rfl; rfl
    refine key _ _ (Fin.ext (by show (h' : ℕ) = (128 * (h' : ℕ) + 1 * (x 1 : ℕ)) / 128; omega)) ?_
    funext t; apply Fin.ext
    match t with
    | ⟨0, _⟩ => exact ((Nat.zero_add _).trans (Nat.one_mul (x 0 : ℕ))).symm
    | ⟨1, _⟩ => show (x 1 : ℕ) = (128 * (h' : ℕ) + 1 * (x 1 : ℕ)) % 128; omega
  · refine ⟨_, List.mem_map.mpr ⟨⟨(k : ℕ) / 128, by omega⟩, List.mem_reverse.mpr (List.mem_finRange _), rfl⟩, ?_⟩
    refine (Rect.mem_set_unit (inb := inbX _)).mpr fun t => ?_
    match t with
    | ⟨0, _⟩ => exact ⟨Nat.zero_le _, lt_of_lt_of_le p.isLt (Nat.le_add_left _ _)⟩
    | ⟨1, _⟩ => exact ⟨by show 128 * ((k : ℕ) / 128) ≤ (k : ℕ); omega, by show (k : ℕ) < 128 * ((k : ℕ) / 128) + 128; omega⟩

/-- Column `256 g + d` of the groups' scratch is column `d` of group `g`'s block. -/
theorem groupsBack_at (m : Memref sig .tc .vmem S256x1024 .bf16) (w : BitVec 1) (a b : Fin 4 → Vec F S256x256 .bf16)
    (mx : Fin 4 → Vec F S1x1x256x256 .f32) (s : Fin 4 → Vec F S1x256 .f32) (p : Fin 256) (k : Fin 1024) :
    groupsBack m (groupPieces w a b mx s) (ix2 p k)
      = groupBlk w (a ⟨(k : ℕ) / 256, by omega⟩) (b ⟨(k : ℕ) / 256, by omega⟩) (mx ⟨(k : ℕ) / 256, by omega⟩)
          (s ⟨(k : ℕ) / 256, by omega⟩) (ix2 p ⟨(k : ℕ) % 256, by omega⟩) := by
  let B : Fin 4 → FVec F S256x256 .bf16 := fun g => groupBlk w (a g) (b g) (mx g) (s g)
  have hi : (Rect.unit (s := S256x1024) ![0, 0] S256x1024.size inb_S256x1024_S256x1024_0_0).toLoadRect.idx (ix2 p k) = ix2 p k := by
    funext t; apply Fin.ext
    match t with
    | ⟨0, _⟩ => exact (Nat.zero_add _).trans (Nat.one_mul _)
    | ⟨1, _⟩ => exact (Nat.zero_add _).trans (Nat.one_mul _)
  refine (show _ = m.view.read (Elt F) (m.view.writes (Elt F) m.view.junk (groupPieces w a b mx s)) (ix2 p k) from
    congrArg (m.view.read (Elt F) (m.view.writes (Elt F) m.view.junk (groupPieces w a b mx s))) hi).trans ?_
  refine View.read_writes_apply_of_pieces m.view m.view.junk
    (fun y : S256x1024.Idx => B ⟨(y 1 : ℕ) / 256, by have := (y 1).isLt; simp at this; omega⟩
      (ix2 (y 0) ⟨(y 1 : ℕ) % 256, Nat.mod_lt _ (by decide)⟩)) (groupPieces w a b mx s) ?_ (ix2 p k) ?_
  · intro pc hpc x
    obtain ⟨g', -, rfl⟩ := List.mem_map.mp hpc
    have hx : (x 1 : ℕ) < 256 := (x 1).isLt
    have key : ∀ (c : Fin 4) (d : S256x256.Idx), g' = c → x = d → B g' x = B c d := by rintro _ _ rfl rfl; rfl
    refine key _ _ (Fin.ext (by show (g' : ℕ) = (256 * (g' : ℕ) + 1 * (x 1 : ℕ)) / 256; omega)) ?_
    funext t; apply Fin.ext
    match t with
    | ⟨0, _⟩ => exact ((Nat.zero_add _).trans (Nat.one_mul (x 0 : ℕ))).symm
    | ⟨1, _⟩ => show (x 1 : ℕ) = (256 * (g' : ℕ) + 1 * (x 1 : ℕ)) % 256; omega
  · refine ⟨_, List.mem_map.mpr ⟨⟨(k : ℕ) / 256, by omega⟩, List.mem_reverse.mpr (List.mem_finRange _), rfl⟩, ?_⟩
    refine (Rect.mem_set_unit (inb := inbP _)).mpr fun t => ?_
    match t with
    | ⟨0, _⟩ => exact ⟨Nat.zero_le _, lt_of_lt_of_le p.isLt (Nat.le_add_left _ _)⟩
    | ⟨1, _⟩ => exact ⟨by show 256 * ((k : ℕ) / 256) ≤ (k : ℕ); omega, by show (k : ℕ) < 256 * ((k : ℕ) / 256) + 256; omega⟩

end

/-! ### Blocks -/

theorem dirOf_at (a : Vec Ideal S1x256x128 .bf16) (p : Fin 256) (d : Fin 128) : (dirOf a (ix2 p d) : EReal) = a (ix3 0 p d) := by
  pointwise [dirOf]

theorem scaleCol_at (o : FVec Ideal S256x128 .f32) (p : Fin 256) :
    (scaleCol o (ix2 p 0) : EReal) = headScale (fun k => o (ix2 p k)) := by
  pointwise [scaleCol, constCol]
  rfl

theorem sig128_at (z : FVec Ideal S256x128 .f32) (p : Fin 256) (d : Fin 128) :
    (sig128 z (ix2 p d) : EReal) = Cert.Merge.sig (z (ix2 p d)) := by
  pointwise [sig128, const128]
  rw [zero_sub]
  rfl

theorem sigWide_at (z : FVec Ideal S256x2048 .f32) (p : Fin 256) (n : Fin 2048) :
    (sigWide z (ix2 p n) : EReal) = Cert.Merge.sig (z (ix2 p n)) := by
  pointwise [sigWide, constWide]
  rw [zero_sub]
  rfl

theorem normed_at (o z : FVec Ideal S256x128 .f32) (g : Vec Ideal S1x128 .f32) (p : Fin 256) (d : Fin 128) :
    (normed o z g (ix2 p d) : EReal) = gatedOf (fun k => o (ix2 p k)) (g (ix2 0 d)) (z (ix2 p d)) d := by
  have h1 := scaleCol_at o p
  have h2 := sig128_at z p d
  unfold gatedOf
  beta_reduce
  rw [← h1, ← h2]
  pointwise [normed]

theorem headBlk_at (a b : Vec Ideal S1x256x128 .bf16) (og : Vec Ideal S256x128 .bf16) (g : Vec Ideal S1x128 .f32)
    (p : Fin 256) (d : Fin 128) :
    (headBlk a b og g (ix2 p d) : EReal)
      = gatedOf (fun k => (a (ix3 0 p k) : EReal) + b (ix3 0 p k)) (g (ix2 0 d)) (og (ix2 p d)) d := by
  refine Eq.trans (b := (normed (addf (dirOf a) (dirOf b)) (extf .f32 og bitsLt_bf16_f32) g (ix2 p d) : EReal)) ?_
    ((normed_at _ _ g p d).trans ?_)
  · pointwise [headBlk]
  · refine congrArg (fun x => gatedOf x _ _ d) (funext fun k => ?_)
    exact congrArg₂ (· + ·) (dirOf_at a p k) (dirOf_at b p k)

theorem groupBlk_at (w : BitVec 1) (a b : Vec Ideal S256x256 .bf16) (m : Vec Ideal S1x1x256x256 .f32) (s : Vec Ideal S1x256 .f32)
    (p d : Fin 256) :
    (groupBlk w a b m s (ix2 p d) : EReal)
      = (∑ k : Fin 256, ((Scalar.select w a b : Vec Ideal S256x256 .bf16) (ix2 p k) : EReal) * m (ix4 0 0 k d)) * s (ix2 0 d) := by
  pointwise [groupBlk]

theorem scanUp_at (a : Vec Ideal S256x2048 .bf16) (w : Vec Ideal S1x2048x2048 .f32) (p : Fin 256) (n : Fin 2048) :
    (scanUp a w (ix2 p n) : EReal) = ∑ k : Fin 2048, (a (ix2 p k) : EReal) * w (ix3 0 k n) := by
  pointwise [scanUp]

theorem poolUp_at (a : Vec Ideal S256x1024 .bf16) (w : Vec Ideal S1x1024x2048 .f32) (p : Fin 256) (n : Fin 2048) :
    (poolUp a w (ix2 p n) : EReal) = ∑ k : Fin 1024, (a (ix2 p k) : EReal) * w (ix3 0 k n) := by
  pointwise [poolUp]

/-- A staged merge gate, widened. -/
def wideOf (g : Vec Ideal S256x2048 .bf16) : FVec Ideal S256x2048 .f32 := extf .f32 g bitsLt_bf16_f32

theorem outBlk_at (y q : FVec Ideal S256x2048 .f32) (g1 g2 : Vec Ideal S256x2048 .bf16) (p : Fin 256) (n : Fin 2048) :
    (outBlk y q g1 g2 (ix2 p n) : EReal)
      = Cert.Merge.sig (g1 (ix2 p n)) * y (ix2 p n) + Cert.Merge.sig (g2 (ix2 p n)) * q (ix2 p n) :=
  Eq.trans (b := (sigWide (F := Ideal) (wideOf g1) (ix2 p n) : EReal) * y (ix2 p n) + (sigWide (F := Ideal) (wideOf g2) (ix2 p n) : EReal) * q (ix2 p n))
    rfl (congrArg₂ (· + ·) (congrArg (· * (y (ix2 p n) : EReal)) (sigWide_at (wideOf g1) p n))
      (congrArg (· * (q (ix2 p n) : EReal)) (sigWide_at (wideOf g2) p n)))

end Cert.Kernel3Ideal.Body

end
-- ==== Proof.MgBlocks.lean ====
/- The blocks a grid point of the merge works on, element by element of the arrays they are cut from. Point `t` works on rows 256 t to
   256 t + 255; points 0 to 63 on latent rows, the last four on the context's. -/
module

public import proofs.«01_k».proof.Proof.MgLoads

@[expose] public section

set_option maxRecDepth 65536

noncomputable section

namespace Cert.Kernel3Ideal.Blocks

open Idealize.ShloMosaic Idealize.ShloMosaic.TcCoe Idealize.ShloMosaic.Tactic
open Cert.Kernel3Ideal Cert.Kernel3Ideal.Gen Cert.Kernel3Ideal.Body Cert.Merge

theorem map0 : ∀ t : Fin grid0.N, cc0_transform_0 (grid0.coords t) 0 = 0 ∧ cc0_transform_0 (grid0.coords t) 1 = (t : ℕ)
    ∧ cc0_transform_0 (grid0.coords t) 2 = 0 := by
  decide +kernel
theorem map1 : ∀ t : Fin grid0.N, cc0_transform_1 (grid0.coords t) 0 = (t : ℕ) ∧ cc0_transform_1 (grid0.coords t) 1 = 3 := by
  decide +kernel
theorem map2 : ∀ t : Fin grid0.N, cc0_transform_2 (grid0.coords t) 0 = (t : ℕ) ∧ cc0_transform_2 (grid0.coords t) 1 = 4 := by
  decide +kernel
theorem map3 : ∀ t : Fin grid0.N, cc0_transform_3 (grid0.coords t) 0 = (t : ℕ) ∧ cc0_transform_3 (grid0.coords t) 1 = 5 := by
  decide +kernel
theorem map4 : ∀ t : Fin grid0.N, cc0_transform_4 (grid0.coords t) 0 = min (t : ℕ) 63 ∧ cc0_transform_4 (grid0.coords t) 1 = 0 := by
  decide +kernel
theorem map5 : ∀ t : Fin grid0.N, cc0_transform_5 (grid0.coords t) 0 = (t : ℕ) - 64 ∧ cc0_transform_5 (grid0.coords t) 1 = 0 := by
  decide +kernel
theorem map6 : ∀ t : Fin grid0.N, cc0_transform_6 (grid0.coords t) 0 = 0 ∧ cc0_transform_6 (grid0.coords t) 1 = 0 := by
  decide +kernel
theorem map7 : ∀ t : Fin grid0.N, cc0_transform_7 (grid0.coords t) 0 = 0 ∧ cc0_transform_7 (grid0.coords t) 1 = 0
    ∧ cc0_transform_7 (grid0.coords t) 2 = 0 ∧ cc0_transform_7 (grid0.coords t) 3 = 0 := by
  decide +kernel
theorem map8 : ∀ t : Fin grid0.N, cc0_transform_8 (grid0.coords t) 0 = 0 ∧ cc0_transform_8 (grid0.coords t) 1 = 0 := by
  decide +kernel
theorem map9 : ∀ t : Fin grid0.N, cc0_transform_9 (grid0.coords t) 0 = 0 ∧ cc0_transform_9 (grid0.coords t) 1 = 0
    ∧ cc0_transform_9 (grid0.coords t) 2 = 0 := by
  decide +kernel
theorem map10 : ∀ t : Fin grid0.N, cc0_transform_10 (grid0.coords t) 0 = 0 ∧ cc0_transform_10 (grid0.coords t) 1 = 0
    ∧ cc0_transform_10 (grid0.coords t) 2 = 0 := by
  decide +kernel
theorem map11 : ∀ t : Fin grid0.N, cc0_transform_11 (grid0.coords t) 0 = (t : ℕ) ∧ cc0_transform_11 (grid0.coords t) 1 = 0 := by
  decide +kernel

theorem isLat_val : ∀ t : Fin grid0.N, isLat (grid0.coords t) = if (t : ℕ) < 64 then 1#1 else 0#1 := by
  decide +kernel

theorem tlt (t : Fin cfg0.N) : (t : ℕ) < 68 := Nat.lt_of_lt_of_eq t.isLt N_0

/-- Row `p` of point `t`'s block of rows. -/
def rowAt (t : Fin cfg0.N) (p : Fin 256) : Fin 17408 := ⟨256 * (t : ℕ) + p, by have := tlt t; omega⟩

section
variable {F : FTy → Type} [FloatOps F] (m : (ℓ : Loc nD τ sig) → Buf (Elt F) ℓ) (c : Dev nD) (t : Fin cfg0.N)

theorem blk0 (j : Fin 2) (p : Fin 256) (k : Fin 2048) :
    (iblk m c 0 t : Vec F S2x256x2048 .bf16) (ix3 j p k) = m ((c : Thread nD τ).loc main_arg0) (ix3 j (rowAt t p) k) := by
  refine Eq.trans (show _ = V m c main_arg0 (((cfg0.win 0).rect t).emb (ix3 j p k)) from rfl) ?_
  rw [V_main_arg0]
  refine congrArg _ ?_
  funext x; apply Fin.ext
  refine ((cfg0.win 0).rect_emb_val t _ x).trans ?_
  match x with
  | ⟨0, _⟩ => exact (congrArg (· * 2 + (j : ℕ)) (map0 t).1).trans (by show 0 * 2 + (j : ℕ) = j; omega)
  | ⟨1, _⟩ => exact (congrArg (· * 256 + (p : ℕ)) (map0 t).2.1).trans (by show (t : ℕ) * 256 + (p : ℕ) = 256 * t + p; omega)
  | ⟨2, _⟩ => exact (congrArg (· * 2048 + (k : ℕ)) (map0 t).2.2).trans (by show 0 * 2048 + (k : ℕ) = k; omega)

theorem blk1 (p : Fin 256) (k : Fin 2048) :
    (X0_1 m c t : Vec F S256x2048 .bf16) (ix2 p k) = m ((c : Thread nD τ).loc main_arg1) (ix2 (rowAt t p) ⟨6144 + k, by omega⟩) := by
  refine (dif_pos (moved0_1 t (ix2 p k))).trans ?_
  refine Eq.trans (show _ = V m c main_arg1 (((cfg0.win 1).rect t).emb _) from rfl) ?_
  rw [V_main_arg1]
  refine congrArg _ ?_
  funext x; apply Fin.ext
  refine ((cfg0.win 1).rect_emb_val t _ x).trans ?_
  match x with
  | ⟨0, _⟩ => exact (congrArg (· * 256 + (p : ℕ)) (map1 t).1).trans (by show (t : ℕ) * 256 + (p : ℕ) = 256 * t + p; omega)
  | ⟨1, _⟩ => exact (congrArg (· * 2048 + (k : ℕ)) (map1 t).2).trans (by show 3 * 2048 + (k : ℕ) = 6144 + k; omega)

theorem blk2 (p : Fin 256) (k : Fin 2048) :
    (X0_2 m c t : Vec F S256x2048 .bf16) (ix2 p k) = m ((c : Thread nD τ).loc main_arg1) (ix2 (rowAt t p) ⟨8192 + k, by omega⟩) := by
  refine (dif_pos (moved0_2 t (ix2 p k))).trans ?_
  refine Eq.trans (show _ = V m c main_arg1 (((cfg0.win 2).rect t).emb _) from rfl) ?_
  rw [V_main_arg1]
  refine congrArg _ ?_
  funext x; apply Fin.ext
  refine ((cfg0.win 2).rect_emb_val t _ x).trans ?_
  match x with
  | ⟨0, _⟩ => exact (congrArg (· * 256 + (p : ℕ)) (map2 t).1).trans (by show (t : ℕ) * 256 + (p : ℕ) = 256 * t + p; omega)
  | ⟨1, _⟩ => exact (congrArg (· * 2048 + (k : ℕ)) (map2 t).2).trans (by show 4 * 2048 + (k : ℕ) = 8192 + k; omega)

theorem blk3 (p : Fin 256) (k : Fin 2048) :
    (X0_3 m c t : Vec F S256x2048 .bf16) (ix2 p k) = m ((c : Thread nD τ).loc main_arg1) (ix2 (rowAt t p) ⟨10240 + k, by omega⟩) := by
  refine (dif_pos (moved0_3 t (ix2 p k))).trans ?_
  refine Eq.trans (show _ = V m c main_arg1 (((cfg0.win 3).rect t).emb _) from rfl) ?_
  rw [V_main_arg1]
  refine congrArg _ ?_
  funext x; apply Fin.ext
  refine ((cfg0.win 3).rect_emb_val t _ x).trans ?_
  match x with
  | ⟨0, _⟩ => exact (congrArg (· * 256 + (p : ℕ)) (map3 t).1).trans (by show (t : ℕ) * 256 + (p : ℕ) = 256 * t + p; omega)
  | ⟨1, _⟩ => exact (congrArg (· * 2048 + (k : ℕ)) (map3 t).2).trans (by show 5 * 2048 + (k : ℕ) = 10240 + k; omega)

/-- The latent rows' tokens; from point 64 on the block of point 63. -/
theorem blk4 (p : Fin 256) (k : Fin 1024) :
    (iblk m c 4 t : Vec F S256x1024 .bf16) (ix2 p k)
      = m ((c : Thread nD τ).loc main_arg2) (ix2 ⟨256 * min (t : ℕ) 63 + p, by omega⟩ k) := by
  refine Eq.trans (show _ = V m c main_arg2 (((cfg0.win 4).rect t).emb (ix2 p k)) from rfl) ?_
  rw [V_main_arg2]
  refine congrArg _ ?_
  funext x; apply Fin.ext
  refine ((cfg0.win 4).rect_emb_val t _ x).trans ?_
  match x with
  | ⟨0, _⟩ => exact (congrArg (· * 256 + (p : ℕ)) (map4 t).1).trans (by show min (t : ℕ) 63 * 256 + (p : ℕ) = 256 * min (t : ℕ) 63 + p; omega)
  | ⟨1, _⟩ => exact (congrArg (· * 1024 + (k : ℕ)) (map4 t).2).trans (by show 0 * 1024 + (k : ℕ) = k; omega)

/-- The context's tokens; up to point 64 its first block. -/
theorem blk5 (p : Fin 256) (k : Fin 1024) :
    (iblk m c 5 t : Vec F S256x1024 .bf16) (ix2 p k)
      = m ((c : Thread nD τ).loc main_arg3) (ix2 ⟨256 * ((t : ℕ) - 64) + p, by have := tlt t; omega⟩ k) := by
  refine Eq.trans (show _ = V m c main_arg3 (((cfg0.win 5).rect t).emb (ix2 p k)) from rfl) ?_
  rw [V_main_arg3]
  refine congrArg _ ?_
  funext x; apply Fin.ext
  refine ((cfg0.win 5).rect_emb_val t _ x).trans ?_
  match x with
  | ⟨0, _⟩ => exact (congrArg (· * 256 + (p : ℕ)) (map5 t).1).trans (by show ((t : ℕ) - 64) * 256 + (p : ℕ) = 256 * (t - 64) + p; omega)
  | ⟨1, _⟩ => exact (congrArg (· * 1024 + (k : ℕ)) (map5 t).2).trans (by show 0 * 1024 + (k : ℕ) = k; omega)

theorem blk6 (d : Fin 128) : (iblk m c 6 t : Vec F S1x128 .f32) (ix2 0 d) = V m c main_v0 (ix2 0 d) := by
  refine Eq.trans (show _ = V m c main_v0 (((cfg0.win 6).rect t).emb (ix2 0 d)) from rfl) ?_
  refine congrArg _ ?_
  funext x; apply Fin.ext
  refine ((cfg0.win 6).rect_emb_val t _ x).trans ?_
  match x with
  | ⟨0, _⟩ => exact (congrArg (· * 1 + 0) (map6 t).1)
  | ⟨1, _⟩ => exact (congrArg (· * 128 + (d : ℕ)) (map6 t).2).trans (by show 0 * 128 + (d : ℕ) = d; omega)

theorem blk7 (g : Fin 4) (k d : Fin 256) :
    (iblk m c 7 t : Vec F S1x4x256x256 .f32) (ix4 0 g k d) = m ((c : Thread nD τ).loc main_arg5) (ix4 0 g k d) := by
  refine Eq.trans (show _ = V m c main_arg5 (((cfg0.win 7).rect t).emb (ix4 0 g k d)) from rfl) ?_
  rw [V_main_arg5]
  refine congrArg _ ?_
  funext x; apply Fin.ext
  refine ((cfg0.win 7).rect_emb_val t _ x).trans ?_
  match x with
  | ⟨0, _⟩ => exact (congrArg (· * 1 + 0) (map7 t).1)
  | ⟨1, _⟩ => exact (congrArg (· * 4 + (g : ℕ)) (map7 t).2.1).trans (by show 0 * 4 + (g : ℕ) = g; omega)
  | ⟨2, _⟩ => exact (congrArg (· * 256 + (k : ℕ)) (map7 t).2.2.1).trans (by show 0 * 256 + (k : ℕ) = k; omega)
  | ⟨3, _⟩ => exact (congrArg (· * 256 + (d : ℕ)) (map7 t).2.2.2).trans (by show 0 * 256 + (d : ℕ) = d; omega)

theorem blk8 (k : Fin 1024) : (iblk m c 8 t : Vec F S1x1024 .f32) (ix2 0 k) = V m c main_v1 (ix2 0 k) := by
  refine Eq.trans (show _ = V m c main_v1 (((cfg0.win 8).rect t).emb (ix2 0 k)) from rfl) ?_
  refine congrArg _ ?_
  funext x; apply Fin.ext
  refine ((cfg0.win 8).rect_emb_val t _ x).trans ?_
  match x with
  | ⟨0, _⟩ => exact (congrArg (· * 1 + 0) (map8 t).1)
  | ⟨1, _⟩ => exact (congrArg (· * 1024 + (k : ℕ)) (map8 t).2).trans (by show 0 * 1024 + (k : ℕ) = k; omega)

theorem blk9 (k n : Fin 2048) :
    (iblk m c 9 t : Vec F S1x2048x2048 .f32) (ix3 0 k n) = m ((c : Thread nD τ).loc main_arg7) (ix3 0 k n) := by
  refine Eq.trans (show _ = V m c main_arg7 (((cfg0.win 9).rect t).emb (ix3 0 k n)) from rfl) ?_
  rw [V_main_arg7]
  refine congrArg _ ?_
  funext x; apply Fin.ext
  refine ((cfg0.win 9).rect_emb_val t _ x).trans ?_
  match x with
  | ⟨0, _⟩ => exact (congrArg (· * 1 + 0) (map9 t).1)
  | ⟨1, _⟩ => exact (congrArg (· * 2048 + (k : ℕ)) (map9 t).2.1).trans (by show 0 * 2048 + (k : ℕ) = k; omega)
  | ⟨2, _⟩ => exact (congrArg (· * 2048 + (n : ℕ)) (map9 t).2.2).trans (by show 0 * 2048 + (n : ℕ) = n; omega)

theorem blk10 (k : Fin 1024) (n : Fin 2048) :
    (iblk m c 10 t : Vec F S1x1024x2048 .f32) (ix3 0 k n) = m ((c : Thread nD τ).loc main_arg8) (ix3 0 k n) := by
  refine Eq.trans (show _ = V m c main_arg8 (((cfg0.win 10).rect t).emb (ix3 0 k n)) from rfl) ?_
  rw [V_main_arg8]
  refine congrArg _ ?_
  funext x; apply Fin.ext
  refine ((cfg0.win 10).rect_emb_val t _ x).trans ?_
  match x with
  | ⟨0, _⟩ => exact (congrArg (· * 1 + 0) (map10 t).1)
  | ⟨1, _⟩ => exact (congrArg (· * 1024 + (k : ℕ)) (map10 t).2.1).trans (by show 0 * 1024 + (k : ℕ) = k; omega)
  | ⟨2, _⟩ => exact (congrArg (· * 2048 + (n : ℕ)) (map10 t).2.2).trans (by show 0 * 2048 + (n : ℕ) = n; omega)

end

/-! ### The two arguments reshaped before the call -/

section
variable (m : (ℓ : Loc nD τ sig) → Buf (Elt Ideal) ℓ) (c : Dev nD)

theorem V_gain (d : Fin 128) : (V m c main_v0 (ix2 0 d) : EReal) = (m ((c : Thread nD τ).loc main_arg4) (ix1 d) : EReal) := by
  show StableHlo.after _ _ (Proc.devRef .tc _) _ = _
  simp only [hostOps0, List.flatten_cons, List.flatten_nil, List.append_nil, List.cons_append, List.nil_append]
  after_results
  pointwise

theorem V_scale (k : Fin 1024) : (V m c main_v1 (ix2 0 k) : EReal) = (m ((c : Thread nD τ).loc main_arg6) (ix1 k) : EReal) := by
  show StableHlo.after _ _ (Proc.devRef .tc _) _ = _
  simp only [hostOps0, List.flatten_cons, List.flatten_nil, List.append_nil, List.cons_append, List.nil_append]
  after_results
  pointwise

/-- The tokens a point picks are its rows'. -/
theorem tokens_at (m4 : Memref sig .tc .vmem S256x1024 .bf16) (h4 : m4.IsWhole) (m5 : Memref sig .tc .vmem S256x1024 .bf16) (h5 : m5.IsWhole)
    (t : Fin cfg0.N) (g : Fin 4) (p k : Fin 256) :
    ((Scalar.select (isLat (grid0.coords t)) (tokOf m4 h4 (iblk m c 4 t) g) (tokOf m5 h5 (iblk m c 5 t) g) : Vec Ideal S256x256 .bf16) (ix2 p k) : EReal)
      = pooled (m ((c : Thread nD τ).loc main_arg2)) (m ((c : Thread nD τ).loc main_arg3)) (rowAt t p) ⟨(g : ℕ) * 256 + k, by omega⟩ := by
  rw [isLat_val t]
  unfold pooled
  by_cases ht : (t : ℕ) < 64
  · have hr : (rowAt t p : ℕ) < 16384 := by show 256 * (t : ℕ) + (p : ℕ) < 16384; omega
    rw [if_pos ht, dif_pos hr]
    refine Eq.trans (show _ = tokOf m4 h4 (iblk m c 4 t) g (ix2 p k) from rfl) ((tokOf_at m4 h4 _ g p k).trans ((blk4 m c t p _).trans ?_))
    exact congrArg _ (congrArg₂ ix2 (Fin.ext (by show 256 * min (t : ℕ) 63 + (p : ℕ) = 256 * t + p; omega)) rfl)
  · have hr : ¬ (rowAt t p : ℕ) < 16384 := by show ¬ 256 * (t : ℕ) + (p : ℕ) < 16384; omega
    rw [if_neg ht, dif_neg hr]
    refine Eq.trans (show _ = tokOf m5 h5 (iblk m c 5 t) g (ix2 p k) from rfl) ((tokOf_at m5 h5 _ g p k).trans ((blk5 m c t p _).trans ?_))
    exact congrArg _ (congrArg₂ ix2 (Fin.ext (by show 256 * ((t : ℕ) - 64) + (p : ℕ) = 256 * t + p - 16384; omega)) rfl)

end

end Cert.Kernel3Ideal.Blocks

end
-- ==== Proof.MgFinal.lean ====
/- The array the merge returns, element by element: the merged branches. -/
module

public import proofs.«01_k».proof.Proof.MgBlocks

@[expose] public section

set_option maxRecDepth 65536

noncomputable section

namespace Cert.Kernel3Ideal.Final

open Idealize.ShloMosaic Idealize.ShloMosaic.TcCoe Idealize.ShloMosaic.Tactic
open Cert.Kernel3Ideal Cert.Kernel3Ideal.Gen Cert.Kernel3Ideal.Body Cert.Kernel3Ideal.Blocks Cert.Merge

section
variable (m : (ℓ : Loc nD τ sig) → Buf (Elt Ideal) ℓ) (c : Dev nD)

/-- The merge of core `c`'s arguments. -/
def mergedOf (r : Fin 17408) (n : Fin 2048) : EReal :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) r n

/-- What point `t` computes. -/
def atPoint (t : Fin cfg0.N) : FVec Ideal S256x2048 .bf16 :=
  retBlk (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t)
    scM0_0 scM0_1 (iblk m c 0 t) (X0_1 m c t) (X0_2 m c t) (X0_3 m c t) (iblk m c 4 t) (iblk m c 5 t) (iblk m c 6 t) (iblk m c 7 t)
    (iblk m c 8 t) (iblk m c 9 t) (iblk m c 10 t)

/-- A column of the heads' scratch at point `t`. -/
theorem head_at (t : Fin cfg0.N) (p : Fin 256) (k : Fin 2048) :
    (headsBack scM0_0 (headPieces (oOf (ms0_0 t) (hs0_0 t) (iblk m c 0 t)) (ogOf (ms0_1 t) (hs0_1 t) (X0_1 m c t))
        (gainOf (ms0_6 t) (hs0_6 t) (iblk m c 6 t))) (ix2 p k) : EReal)
      = gated (m ((c : Thread nD τ).loc main_arg0)) (m ((c : Thread nD τ).loc main_arg1)) (m ((c : Thread nD τ).loc main_arg4))
          (rowAt t p) ⟨(k : ℕ) / 128, by omega⟩ ⟨(k : ℕ) % 128, by omega⟩ := by
  refine (headsBack_at _ _ _ _ p k).trans ((headBlk_at _ _ _ _ p _).trans ?_)
  unfold gated
  congr 1
  · funext j
    exact congrArg₂ (· + ·) ((oOf_at _ _ _ 0 _ p j).trans (blk0 m c t 0 p _)) ((oOf_at _ _ _ 1 _ p j).trans (blk0 m c t 1 p _))
  · rw [gainOf_eq]
    exact (blk6 m c t _).trans (V_gain m c _)
  · exact (ogOf_at _ _ _ _ p _).trans (blk1 m c t p _)

/-- A column of the groups' scratch at point `t`. -/
theorem group_at (t : Fin cfg0.N) (p : Fin 256) (k : Fin 1024) :
    (groupsBack scM0_1 (groupPieces (isLat (grid0.coords t)) (tokOf (ms0_4 t) (hs0_4 t) (iblk m c 4 t)) (tokOf (ms0_5 t) (hs0_5 t) (iblk m c 5 t))
        (mixOf (ms0_7 t) (hs0_7 t) (iblk m c 7 t)) (psOf (ms0_8 t) (hs0_8 t) (iblk m c 8 t))) (ix2 p k) : EReal)
      = mixed (m ((c : Thread nD τ).loc main_arg2)) (m ((c : Thread nD τ).loc main_arg3)) (m ((c : Thread nD τ).loc main_arg5))
          (m ((c : Thread nD τ).loc main_arg6)) (rowAt t p) ⟨(k : ℕ) / 256, by omega⟩ ⟨(k : ℕ) % 256, by omega⟩ := by
  refine (groupsBack_at _ _ _ _ _ _ p k).trans ((groupBlk_at _ _ _ _ _ p _).trans ?_)
  unfold mixed
  refine congrArg₂ (· * ·) (Finset.sum_congr rfl fun j _ => congrArg₂ (· * ·) ?_ ?_) ?_
  · exact tokens_at m c _ _ _ _ t _ p j
  · exact (mixOf_at _ _ _ _ j _).trans (blk7 m c t _ j _)
  · exact (psOf_at _ _ _ _ _).trans ((blk8 m c t _).trans (V_scale m c _))

/-- Point `t`'s block. -/
theorem block_at (t : Fin cfg0.N) (p : Fin 256) (n : Fin 2048) :
    (atPoint m c t (ix2 p n) : EReal) = mergedOf m c (rowAt t p) n := by
  unfold atPoint retBlk
  refine (outBlk_at _ _ _ _ p n).trans ?_
  unfold mergedOf merged upScan upPool
  rw [gateOf_eq, gateOf_eq, wdOf_eq, wuOf_eq]
  refine congrArg₂ (· + ·) (congrArg₂ (· * ·) (congrArg Cert.Merge.sig (blk2 m c t p n)) ?_)
    (congrArg₂ (· * ·) (congrArg Cert.Merge.sig (blk3 m c t p n)) ?_)
  · exact (scanUp_at _ _ p n).trans (Finset.sum_congr rfl fun k _ => congrArg₂ (· * ·) (head_at m c t p k) (blk9 m c t k n))
  · exact (poolUp_at _ _ p n).trans (Finset.sum_congr rfl fun k _ => congrArg₂ (· * ·) (group_at m c t p k) (blk10 m c t k n))

/-! ## The result -/

/-- The place of an element of point `t`'s block of the result. -/
theorem place (t : Fin cfg0.N) (p : Fin 256) (n : Fin 2048) :
    (((cfg0.win 11).blk t).view.emb (ix2 p n) : S17408x2048.Idx) = ix2 (rowAt t p) n := by
  refine Eq.trans (show _ = ((cfg0.win 11).rect t).emb (ix2 p n) from rfl) ?_
  funext x; apply Fin.ext
  refine ((cfg0.win 11).rect_emb_val t _ x).trans ?_
  match x with
  | ⟨0, _⟩ => exact (congrArg (· * 256 + (p : ℕ)) (map11 t).1).trans (by show (t : ℕ) * 256 + (p : ℕ) = 256 * t + p; omega)
  | ⟨1, _⟩ => exact (congrArg (· * 2048 + (n : ℕ)) (map11 t).2).trans (by show 0 * 2048 + (n : ℕ) = n; omega)

theorem covered (i : S17408x2048.Idx) :
    ∃ t : Fin cfg0.N, (cfg0.win 11).flush t = true ∧ i ∈ ((cfg0.win 11).blk t).view.set := by
  obtain ⟨r, n, rfl⟩ : ∃ (r : Fin 17408) (n : Fin 2048), i = ix2 r n :=
    ⟨i 0, i 1, by funext x; match x with | ⟨0, _⟩ => rfl | ⟨1, _⟩ => rfl⟩
  have ht : (r : ℕ) / 256 < cfg0.N := by
    refine Nat.lt_of_lt_of_eq ?_ N_0.symm; omega
  refine ⟨⟨_, ht⟩, flush0_11 _, ?_⟩
  have e : (ix2 r n : S17408x2048.Idx)
      = ((cfg0.win 11).blk ⟨_, ht⟩).view.emb (ix2 (⟨(r : ℕ) % 256, by omega⟩ : Fin 256) n) := by
    rw [place]
    refine congrArg₂ ix2 (Fin.ext ?_) rfl
    show (r : ℕ) = 256 * ((r : ℕ) / 256) + (r : ℕ) % 256
    omega
  rw [e]
  exact ((cfg0.win 11).blk ⟨_, ht⟩).view.emb_mem_set _

/-- A buffer stored to as a whole reads back as what was stored. -/
theorem read_all {sp : Space} {s : Shape} {e : EltTy} (V : View Cert.Kernel3Ideal.sig .tc sp s e) (f)
    {start : Fin s.rank → ℕ} (h0 : start = fun _ => 0) (inb : ∀ i, start i + s.size i ≤ s.size i) (x : s.Idx → Elt Ideal e) :
    V.read (Elt Ideal) (V.writes (Elt Ideal) f [⟨Rect.unit (s := s) start s.size inb, x⟩]) = x := by
  subst h0
  exact View.read_writes_whole V f x

/-- What a point leaves in its output's buffer is what it computes. -/
theorem left_at (t : Fin cfg0.N) : outsAt0 m c t = atPoint m c t := by
  unfold outsAt0 out0_A_11 atPoint
  rw [stored, read_all]
  exact funext (by decide)

theorem flushed_at (t : Fin cfg0.N) (p : Fin 256) (n : Fin 2048) :
    ((dats m 0 c).flushed 11 t (ix2 p n) : EReal) = mergedOf m c (rowAt t p) n := by
  refine Eq.trans (congrFun (?_ : (dats m 0 c).flushed 11 t = atPoint m c t) _) (block_at m c t p n)
  show (cfg0.win 11).cut (grid0.coords t) ((dats m 0 c).after 11 t) = _
  rw [after0_11, left_at]
  rfl

/-- Every element of the result is the merge's. -/
theorem returned (r : Fin 17408) (n : Fin 2048) : ((dats m 0 c).arrAt 11 cfg0.N (ix2 r n) : EReal) = mergedOf m c r n := by
  refine (dats m 0 c).arrAt_forall_of_cover 11
    (fun (i : S17408x2048.Idx) (v : EReal) => v = mergedOf m c (i 0) (i 1)) (fun t _ y => ?_) covered (ix2 r n)
  obtain ⟨p, q, rfl⟩ : ∃ (p : Fin 256) (q : Fin 2048), y = ix2 p q :=
    ⟨y 0, y 1, by funext x; match x with | ⟨0, _⟩ => rfl | ⟨1, _⟩ => rfl⟩
  show ((dats m 0 c).flushed 11 t (ix2 p q) : EReal) = mergedOf m c ((((cfg0.win 11).blk t).view.emb (ix2 p q) : S17408x2048.Idx) 0)
    ((((cfg0.win 11).blk t).view.emb (ix2 p q) : S17408x2048.Idx) 1)
  rw [place]
  exact flushed_at m c t p q

end

end Cert.Kernel3Ideal.Final

end
-- ==== Proof.MgRef.lean ====
/- The array the reference of the merge returns, element by element. -/
module

public import proofs.«01_k».proof.Proof.MgMath
public import proofs.«01_k».proof.Proof.Gen.Reference3Ideal.Run

@[expose] public section

set_option maxRecDepth 65536

noncomputable section

namespace Cert.Reference3Ideal.Run

open Idealize.ShloMosaic Idealize.ShloMosaic.TcCoe Idealize.ShloMosaic.Tactic Idealize.ShloMosaic.StableHlo
open Cert.Reference3Ideal Cert.Reference3Ideal.Gen Cert.Reference3Ideal.Value Cert.Merge

/-! ## The scan's branch -/

/-- Both directions' outputs added, head by head. -/
def bothT (O : FVec Ideal S2x17408x2048 .bf16) : FVec Ideal S17408x16x128 .f32 :=
  shapeCast S17408x16x128 (addf
    (extf .f32 (shapeCast S17408x2048 (extractStridedSlice S1x17408x2048 ![0, 0, 0] O slices_S2x17408x2048_S1x17408x2048_0_0_0)
      shapeCasts_S1x17408x2048_S17408x2048) bitsLt_bf16_f32)
    (extf .f32 (shapeCast S17408x2048 (extractStridedSlice S1x17408x2048 ![1, 0, 0] O slices_S2x17408x2048_S1x17408x2048_1_0_0)
      shapeCasts_S1x17408x2048_S17408x2048) bitsLt_bf16_f32)) shapeCasts_S17408x2048_S17408x16x128

/-- Every head's scale. -/
def scaleT (X : FVec Ideal S17408x16x128 .f32) : FVec Ideal S17408x16x1 .f32 :=
  Host.rsqrt (addf (Host.divf
      (broadcastInDim S17408x16x1 ![0, 1] bcast_S17408x16_S17408x16x1_0_1
        (Host.reduceAdd (mulf X X) (constant S_ .f32 0x00000000#32) reducesTo_S17408x16x128_S17408x16_d2 h_S_))
      (broadcastInDim S17408x16x1 ![] bcast_S_S17408x16x1 (constant S_ .f32 0x43000000#32)))
    (broadcastInDim S17408x16x1 ![] bcast_S_S17408x16x1 (constant S_ .f32 0x358637BD#32)))

/-- The output gate's columns, head by head. -/
def gateT (Z : FVec Ideal S17408x13312 .bf16) : FVec Ideal S17408x16x128 .f32 :=
  shapeCast S17408x16x128 (extractStridedSlice S17408x2048 ![0, 6144] (extf .f32 Z bitsLt_bf16_f32) slices_S17408x13312_S17408x2048_0_6144)
    shapeCasts_S17408x2048_S17408x16x128

/-- The logistic function of the output gate. -/
def sigT (z : FVec Ideal S17408x16x128 .f32) : FVec Ideal S17408x16x128 .f32 :=
  Host.divf (broadcastInDim S17408x16x128 ![] bcast_S_S17408x16x128 (constant S_ .f32 0x3F800000#32))
    (addf (broadcastInDim S17408x16x128 ![] bcast_S_S17408x16x128 (constant S_ .f32 0x3F800000#32)) (Host.exp (Host.negf z)))

/-- The heads after norm, gain and gate. -/
def gatedT (X z : FVec Ideal S17408x16x128 .f32) (G : FVec Ideal S128 .f32) : FVec Ideal S17408x16x128 .f32 :=
  mulf (mulf (mulf X (broadcastInDim S17408x16x128 ![0, 1, 2] bcast_S17408x16x1_S17408x16x128_0_1_2 (scaleT X)))
    (broadcastInDim S17408x16x128 ![0, 1, 2] bcast_S1x1x128_S17408x16x128_0_1_2 (broadcastInDim S1x1x128 ![2] bcast_S128_S1x1x128_2 G)))
    (mulf z (sigT z))

/-- The scan's branch projected up. -/
def scanT (Y : FVec Ideal S17408x16x128 .f32) (W : FVec Ideal S2x2048x2048 .f32) : FVec Ideal S17408x2048 .f32 :=
  Host.dotGeneral dot_S17408x2048_S2048x2048_S17408x2048_1_0_0_1_n_n none (shapeCast S17408x2048 Y shapeCasts_S17408x16x128_S17408x2048)
    (shapeCast S2048x2048 (extractStridedSlice S1x2048x2048 ![0, 0, 0] W slices_S2x2048x2048_S1x2048x2048_0_0_0)
      shapeCasts_S1x2048x2048_S2048x2048)

theorem bothT_at (O : FVec Ideal S2x17408x2048 .bf16) (r : Fin 17408) (h : Fin 16) (d : Fin 128) :
    (bothT O (ix3 r h d) : EReal) = both O r h d := by
  pointwise [bothT, both]

theorem scaleT_at (X : FVec Ideal S17408x16x128 .f32) (r : Fin 17408) (h : Fin 16) :
    (scaleT X (ix3 r h 0) : EReal) = headScale (fun k => X (ix3 r h k)) := by
  pointwise [scaleT]
  rfl

theorem gateT_at (Z : FVec Ideal S17408x13312 .bf16) (r : Fin 17408) (h : Fin 16) (d : Fin 128) :
    (gateT Z (ix3 r h d) : EReal) = Z (ix2 r ⟨6144 + ((h : ℕ) * 128 + d), by omega⟩) := by
  pointwise [gateT]

theorem sigT_at (z : FVec Ideal S17408x16x128 .f32) (r : Fin 17408) (h : Fin 16) (d : Fin 128) :
    (sigT z (ix3 r h d) : EReal) = Cert.Merge.sig (z (ix3 r h d)) := by
  pointwise [sigT]
  rfl

theorem gatedT_at (X z : FVec Ideal S17408x16x128 .f32) (G : FVec Ideal S128 .f32) (r : Fin 17408) (h : Fin 16) (d : Fin 128) :
    (gatedT X z G (ix3 r h d) : EReal) = gatedOf (fun k => X (ix3 r h k)) (G (ix1 d)) (z (ix3 r h d)) d := by
  have h1 := scaleT_at X r h
  have h2 := sigT_at z r h d
  unfold gatedOf
  beta_reduce
  rw [← h1, ← h2]
  pointwise [gatedT]

theorem scanT_at (Y : FVec Ideal S17408x16x128 .f32) (W : FVec Ideal S2x2048x2048 .f32) (r : Fin 17408) (n : Fin 2048) :
    (scanT Y W (ix2 r n) : EReal)
      = ∑ k : Fin 2048, (Y (ix3 r ⟨(k : ℕ) / 128, by omega⟩ ⟨(k : ℕ) % 128, by omega⟩) : EReal) * W (ix3 0 k n) := by
  pointwise [scanT]

/-! ## The pooled branch -/

/-- The pooled tokens, group by group. -/
def tokT (PL : FVec Ideal S16384x1024 .bf16) (PC : FVec Ideal S1024x1024 .bf16) : FVec Ideal S17408x4x256 .f32 :=
  shapeCast S17408x4x256 (extf .f32 (concatenate S17408x1024 0 [⟨S16384x1024, PL⟩, ⟨S1024x1024, PC⟩]
    concatenates_S16384x1024_S1024x1024_S17408x1024_d0) bitsLt_bf16_f32) shapeCasts_S17408x1024_S17408x4x256

/-- The tokens mixed within their groups. -/
def mixT (P : FVec Ideal S17408x4x256 .f32) (W : FVec Ideal S2x4x256x256 .f32) : FVec Ideal S17408x4x256 .f32 :=
  transpose S17408x4x256 [2, 0, 1] (Host.dotGeneral dot_S4x256x256_S17408x4x256_S4x256x17408_1_2_2_0_0_1 none
    (shapeCast S4x256x256 (extractStridedSlice S1x4x256x256 ![0, 0, 0, 0] W slices_S2x4x256x256_S1x4x256x256_0_0_0_0)
      shapeCasts_S1x4x256x256_S4x256x256) P) transposes_S4x256x17408_S17408x4x256_2_0_1

/-- The mixed tokens scaled. -/
def scaledT (X : FVec Ideal S17408x4x256 .f32) (S : FVec Ideal S1024 .f32) : FVec Ideal S17408x1024 .f32 :=
  mulf (shapeCast S17408x1024 X shapeCasts_S17408x4x256_S17408x1024)
    (broadcastInDim S17408x1024 ![0, 1] bcast_S1x1024_S17408x1024_0_1 (broadcastInDim S1x1024 ![1] bcast_S1024_S1x1024_1 S))

/-- The pooled branch projected up. -/
def poolT (Y : FVec Ideal S17408x1024 .f32) (W : FVec Ideal S2x1024x2048 .f32) : FVec Ideal S17408x2048 .f32 :=
  Host.dotGeneral dot_S17408x1024_S1024x2048_S17408x2048_1_0_0_1_n_n none Y
    (shapeCast S1024x2048 (extractStridedSlice S1x1024x2048 ![0, 0, 0] W slices_S2x1024x2048_S1x1024x2048_0_0_0)
      shapeCasts_S1x1024x2048_S1024x2048)

theorem tokT_at (PL : FVec Ideal S16384x1024 .bf16) (PC : FVec Ideal S1024x1024 .bf16) (r : Fin 17408) (g : Fin 4) (d : Fin 256) :
    (tokT PL PC (ix3 r g d) : EReal) = pooled PL PC r ⟨(g : ℕ) * 256 + d, by omega⟩ := by
  pointwise [tokT, pooled]

theorem mixT_at (P : FVec Ideal S17408x4x256 .f32) (W : FVec Ideal S2x4x256x256 .f32) (r : Fin 17408) (g : Fin 4) (d : Fin 256) :
    (mixT P W (ix3 r g d) : EReal) = ∑ k : Fin 256, (P (ix3 r g k) : EReal) * W (ix4 0 g k d) := by
  refine Eq.trans ?_ (Finset.sum_congr rfl fun k _ => mul_comm _ _)
  pointwise [mixT]

theorem scaledT_at (X : FVec Ideal S17408x4x256 .f32) (S : FVec Ideal S1024 .f32) (r : Fin 17408) (k : Fin 1024) :
    (scaledT X S (ix2 r k) : EReal) = (X (ix3 r ⟨(k : ℕ) / 256, by omega⟩ ⟨(k : ℕ) % 256, by omega⟩) : EReal) * S (ix1 k) := by
  pointwise [scaledT]

theorem poolT_at (Y : FVec Ideal S17408x1024 .f32) (W : FVec Ideal S2x1024x2048 .f32) (r : Fin 17408) (n : Fin 2048) :
    (poolT Y W (ix2 r n) : EReal) = ∑ k : Fin 1024, (Y (ix2 r k) : EReal) * W (ix3 0 k n) := by
  pointwise [poolT]

/-! ## The merge -/

/-- The merge gates. -/
def mergeT (Z : FVec Ideal S17408x13312 .bf16) : FVec Ideal S17408x4096 .f32 :=
  Host.divf (broadcastInDim S17408x4096 ![] bcast_S_S17408x4096 (constant S_ .f32 0x3F800000#32))
    (addf (broadcastInDim S17408x4096 ![] bcast_S_S17408x4096 (constant S_ .f32 0x3F800000#32))
      (Host.exp (Host.negf (extractStridedSlice S17408x4096 ![0, 8192] (extf .f32 Z bitsLt_bf16_f32) slices_S17408x13312_S17408x4096_0_8192))))

theorem mergeT_at (Z : FVec Ideal S17408x13312 .bf16) (r : Fin 17408) (n : Fin 4096) :
    (mergeT Z (ix2 r n) : EReal) = Cert.Merge.sig (Z (ix2 r ⟨8192 + n, by omega⟩)) := by
  pointwise [mergeT]
  rfl

/-- The two branches added with their gates. -/
def addT (M : FVec Ideal S17408x4096 .f32) (A B : FVec Ideal S17408x2048 .f32) : FVec Ideal S17408x2048 .bf16 :=
  truncf .bf16 (addf (mulf (extractStridedSlice S17408x2048 ![0, 0] M slices_S17408x4096_S17408x2048_0_0) A)
    (mulf (extractStridedSlice S17408x2048 ![0, 2048] M slices_S17408x4096_S17408x2048_0_2048) B)) bitsLt_bf16_f32

theorem addT_at (M : FVec Ideal S17408x4096 .f32) (A B : FVec Ideal S17408x2048 .f32) (r : Fin 17408) (n : Fin 2048) :
    (addT M A B (ix2 r n) : EReal)
      = (M (ix2 r ⟨n, by omega⟩) : EReal) * A (ix2 r n) + (M (ix2 r ⟨2048 + n, by omega⟩) : EReal) * B (ix2 r n) := by
  pointwise [addT]

section
variable (m : (ℓ : Loc nD τ sig) → Buf (Elt Ideal) ℓ) (c : Dev nD)

theorem res_eq : res_main_v56 m c
    = addT (mergeT (m ((c : Thread nD τ).loc main_arg1)))
        (scanT (gatedT (bothT (m ((c : Thread nD τ).loc main_arg0))) (gateT (m ((c : Thread nD τ).loc main_arg1)))
          (m ((c : Thread nD τ).loc main_arg4))) (m ((c : Thread nD τ).loc main_arg7)))
        (poolT (scaledT (mixT (tokT (m ((c : Thread nD τ).loc main_arg2)) (m ((c : Thread nD τ).loc main_arg3)))
          (m ((c : Thread nD τ).loc main_arg5))) (m ((c : Thread nD τ).loc main_arg6))) (m ((c : Thread nD τ).loc main_arg8))) := rfl

/-- The reference's result, element by element. -/
theorem result_at (r : Fin 17408) (n : Fin 2048) :
    (res_main_v56 m c (ix2 r n) : EReal)
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) r n := by
  refine (congrFun (res_eq m c) _).trans ((addT_at _ _ _ r n).trans ?_)
  unfold merged upScan upPool
  refine congrArg₂ (· + ·) (congrArg₂ (· * ·) (mergeT_at _ r _) ?_) (congrArg₂ (· * ·) ((mergeT_at _ r _).trans ?_) ?_)
  · refine (scanT_at _ _ r n).trans (Finset.sum_congr rfl fun k _ => congrArg (· * _) ?_)
    refine (gatedT_at _ _ _ r _ _).trans ?_
    unfold gated
    rw [gateT_at]
    exact congrArg (fun x => gatedOf x _ _ _) (funext fun j => bothT_at _ r _ j)
  · exact congrArg Cert.Merge.sig (congrArg _ (congrArg (ix2 r) (Fin.ext (by show 8192 + (2048 + (n : ℕ)) = 10240 + n; omega))))
  · refine (poolT_at _ _ r n).trans (Finset.sum_congr rfl fun k _ => congrArg (· * _) ?_)
    refine (scaledT_at _ _ r k).trans ?_
    unfold mixed
    refine congrArg₂ (· * ·) ((mixT_at _ _ r _ _).trans (Finset.sum_congr rfl fun j _ => congrArg (· * _) (tokT_at _ _ r _ j))) ?_
    exact congrArg _ (congrArg ix1 (Fin.ext (by show (k : ℕ) = (k : ℕ) / 256 * 256 + (k : ℕ) % 256; omega)))

end

end Cert.Reference3Ideal.Run

end
-- ==== Proof.lean ====
/- The certificate: the three kernels and their references run, keep their arguments and leave every counter at zero, and over exact
   numbers the first kernel's array is the recurrence's, on arguments that hold no infinity, the second kernel's two arrays are the
   projection's, and the third kernel's array is the merge of the branches. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Finite
public import proofs.«01_k».proof.Proof.Final
public import proofs.«01_k».proof.Proof.RefData
public import proofs.«01_k».proof.Proof.InBits
public import proofs.«01_k».proof.Proof.InFinal
public import proofs.«01_k».proof.Proof.InRef
public import proofs.«01_k».proof.Proof.MgFinal
public import proofs.«01_k».proof.Proof.MgRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Delta

/-- Every state of the reference has all its counters at zero: it has none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems rfl r.2⟩) (Cert.ReferenceIdeal.Value.run m ρ)

/-- The two arrays are equal. -/
theorem arrays_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (pre : Cert.Pre_KernelIdeal_finite m) (c : Dev Cert.KernelIdeal.nD)
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    (Cert.ReferenceIdeal.Value.out_main_v113
      (Cert.ReferenceIdeal.Value.STEP^[4352] (StableHlo.entryContents Cert.ReferenceIdeal.Value.preI m' c))
      : Cert.KernelIdeal.S2x17408x2048.Idx → EReal)
      = (Cert.KernelIdeal.Gen.dats m 0 c).arrAt 6 Cert.KernelIdeal.cfg0.N := by
  obtain ⟨r0, r1, r2, r3⟩ := Cert.Pre_finite.reals _ _ _ _ (pre c)
  funext i
  obtain ⟨d, b, n, h, e, hn, rfl, hv⟩ := Cert.KernelIdeal.Final.returned m c
    (X := fun r k => EReal.toReal (m ((c.tc : Thread Cert.KernelIdeal.nD Cert.KernelIdeal.τ).loc Cert.KernelIdeal.main_arg0) (ix2 r k)))
    (Ba := fun r k => EReal.toReal (m ((c.tc : Thread Cert.KernelIdeal.nD Cert.KernelIdeal.τ).loc Cert.KernelIdeal.main_arg1) (ix2 r k)))
    (Al := fun r k => EReal.toReal (m ((c.tc : Thread Cert.KernelIdeal.nD Cert.KernelIdeal.τ).loc Cert.KernelIdeal.main_arg2) (ix2 r k)))
    (Dt := fun r k => EReal.toReal (m ((c.tc : Thread Cert.KernelIdeal.nD Cert.KernelIdeal.τ).loc Cert.KernelIdeal.main_arg3) (ix2 r k)))
    (fun r k => r0 _) (fun r k => r1 _) (fun r k => r2 _) (fun r k => r3 _) i
  refine Eq.trans ?_ hv.symm
  exact Cert.ReferenceIdeal.Entry.returned m' c _ _ _ _ (fun r k => (congrFun e0 _).trans (r0 _)) (fun r k => (congrFun e1 _).trans (r1 _))
    (fun r k => (congrFun e2 _).trans (r2 _)) (fun r k => (congrFun e3 _).trans (r3 _)) d b n hn h e

/-- Every state of the projection's reference has all its counters at zero: it has none. -/
theorem reference_frame2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2)
          = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3)
          = m ((c.tc : Thread Cert.Reference2Ideal.nD Cert.Reference2Ideal.τ).loc Cert.Reference2Ideal.main_arg3))
        ∧ r.2.sem = fun _ => 0) :=
  (θ_run _ _ _).mono (fun r h => ⟨fun c => (h c).2.2, sem_eq_zero_of_no_sems rfl r.2⟩) (Cert.Reference2Ideal.Value.run m ρ)

section
variable (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (e0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1))
    (e2 : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2))
    (e3 : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3))
include e0 e1 e2 e3

/-- The reference's projection is the kernel's. -/
theorem projections_agree (r : Fin 17408) (n : Fin 13376) :
    Cert.InProj.Z (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3)) r n
      = Cert.Kernel2Ideal.Final.proj m c r n := by
  rw [e0, e1, e2, e3]
  rfl

/-- The two first results are equal. -/
theorem columns_agree : (Cert.Reference2Ideal.Value.res_main_v62 m' c : Cert.Kernel2Ideal.S17408x13312.Idx → EReal)
    = (Cert.Kernel2Ideal.Run.dats m 0 c).arrAt 6 Cert.Kernel2Ideal.cfg0.N := by
  funext i
  obtain ⟨r, n, rfl⟩ : ∃ (r : Fin 17408) (n : Fin 13312), i = ix2 r n :=
    ⟨i 0, i 1, by funext x; match x with | ⟨0, _⟩ => rfl | ⟨1, _⟩ => rfl⟩
  exact (Cert.Reference2Ideal.Run.result0_at m' c r n).trans
    ((projections_agree m m' c e0 e1 e2 e3 r _).trans (Cert.Kernel2Ideal.Final.returned6 m c r n).symm)

/-- The two second results are equal. -/
theorem gates_agree : (Cert.Reference2Ideal.Value.res_main_v63 m' c : Cert.Kernel2Ideal.S17408x128.Idx → EReal)
    = (Cert.Kernel2Ideal.Run.dats m 0 c).arrAt 7 Cert.Kernel2Ideal.cfg0.N := by
  funext i
  obtain ⟨r, n, rfl⟩ : ∃ (r : Fin 17408) (n : Fin 128), i = ix2 r n :=
    ⟨i 0, i 1, by funext x; match x with | ⟨0, _⟩ => rfl | ⟨1, _⟩ => rfl⟩
  refine (Cert.Reference2Ideal.Run.result1_at m' c r n).trans (Eq.trans ?_ (Cert.Kernel2Ideal.Final.returned7 m c r n).symm)
  unfold Cert.Kernel2Ideal.Final.gateOf
  by_cases hn : (n : ℕ) < 64
  · rw [dif_pos hn, dif_pos hn]
    exact projections_agree m m' c e0 e1 e2 e3 r _
  · rw [dif_neg hn, dif_neg hn]
end

/-- Every state of the merge's reference has all its counters at zero: it has none. -/
theorem reference_frame3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ (fun r => (∀ c : Dev Cert.Reference3Ideal.nD,
        r.2.mem ((c.tc : Thread Cert.Reference3Ideal.nD Cert.Reference3Ideal.τ).loc Cert.Reference3Ideal.main_arg0)
          = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1)
          = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2)
          = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3)
          = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4)
          = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5)
          = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6)
          = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7)
          = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8)
          = m ((c.tc : Thread Cert.Reference3Ideal.nD Cert.Reference3Ideal.τ).loc Cert.Reference3Ideal.main_arg8))
        ∧ r.2.sem = fun _ => 0) :=
  (θ_run _ _ _).mono (fun r h => ⟨fun c => (h c).2, sem_eq_zero_of_no_sems rfl r.2⟩) (Cert.Reference3Ideal.Value.run m ρ)

/-- The two merges are equal. -/
theorem merges_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (e0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1))
    (e2 : m' ((c.tc : Thread Cert.Reference3Ideal.nD Cert.Reference3Ideal.τ).loc Cert.Reference3Ideal.main_arg2)
      = m ((c.tc : Thread Cert.Kernel3Ideal.nD Cert.Kernel3Ideal.τ).loc Cert.Kernel3Ideal.main_arg2))
    (e3 : m' ((c.tc : Thread Cert.Reference3Ideal.nD Cert.Reference3Ideal.τ).loc Cert.Reference3Ideal.main_arg3)
      = m ((c.tc : Thread Cert.Kernel3Ideal.nD Cert.Kernel3Ideal.τ).loc Cert.Kernel3Ideal.main_arg3))
    (e4 : m' ((c.tc : Thread Cert.Reference3Ideal.nD Cert.Reference3Ideal.τ).loc Cert.Reference3Ideal.main_arg4)
      = m ((c.tc : Thread Cert.Kernel3Ideal.nD Cert.Kernel3Ideal.τ).loc Cert.Kernel3Ideal.main_arg4))
    (e5 : m' ((c.tc : Thread Cert.Reference3Ideal.nD Cert.Reference3Ideal.τ).loc Cert.Reference3Ideal.main_arg5)
      = m ((c.tc : Thread Cert.Kernel3Ideal.nD Cert.Kernel3Ideal.τ).loc Cert.Kernel3Ideal.main_arg5))
    (e6 : m' ((c.tc : Thread Cert.Reference3Ideal.nD Cert.Reference3Ideal.τ).loc Cert.Reference3Ideal.main_arg6)
      = m ((c.tc : Thread Cert.Kernel3Ideal.nD Cert.Kernel3Ideal.τ).loc Cert.Kernel3Ideal.main_arg6))
    (e7 : m' ((c.tc : Thread Cert.Reference3Ideal.nD Cert.Reference3Ideal.τ).loc Cert.Reference3Ideal.main_arg7)
      = m ((c.tc : Thread Cert.Kernel3Ideal.nD Cert.Kernel3Ideal.τ).loc Cert.Kernel3Ideal.main_arg7))
    (e8 : m' ((c.tc : Thread Cert.Reference3Ideal.nD Cert.Reference3Ideal.τ).loc Cert.Reference3Ideal.main_arg8)
      = m ((c.tc : Thread Cert.Kernel3Ideal.nD Cert.Kernel3Ideal.τ).loc Cert.Kernel3Ideal.main_arg8)) :
    (Cert.Reference3Ideal.Value.res_main_v56 m' c : Cert.Kernel3Ideal.S17408x2048.Idx → EReal)
      = (Cert.Kernel3Ideal.Gen.dats m 0 c).arrAt 11 Cert.Kernel3Ideal.cfg0.N := by
  funext i
  obtain ⟨r, n, rfl⟩ : ∃ (r : Fin 17408) (n : Fin 2048), i = ix2 r n :=
    ⟨i 0, i 1, by funext x; match x with | ⟨0, _⟩ => rfl | ⟨1, _⟩ => rfl⟩
  refine (Cert.Reference3Ideal.Run.result_at m' c r n).trans (Eq.trans ?_ (Cert.Kernel3Ideal.Final.returned m c r n).symm)
  rw [e0, e1, e2, e3, e4, e5, e6, e7, e8]
  rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    Cert.Kernel2Ideal.Run.frame_bits, fun m ρ _ => Cert.Kernel2Ideal.Run.frame m ρ, fun m ρ _ => reference_frame2 m ρ,
    fun m ρ _ => Cert.Kernel3.Gen.frame m ρ, fun m ρ _ => Cert.Kernel3Ideal.Gen.frame m ρ, fun m ρ _ => reference_frame3 m ρ,
    trivial,
    fun m ρ m' ρ' pre same => ⟨fun c => (Cert.KernelIdeal.Gen.dats m 0 c).arrAt 6 Cert.KernelIdeal.cfg0.N,
      Cert.KernelIdeal.Value.run_blocks m ρ,
      (θ_run _ _ _).mono (fun r h c => ⟨(h c).1.trans (arrays_agree m m' pre c (same c).1 (same c).2.1 (same c).2.2.1 (same c).2.2.2),
        (h c).2⟩) (Cert.ReferenceIdeal.Value.run m' ρ')⟩,
    trivial,
    fun m ρ m' ρ' _ same => ⟨fun c => (Cert.Kernel2Ideal.Run.dats m 0 c).arrAt 6 Cert.Kernel2Ideal.cfg0.N,
      fun c => (Cert.Kernel2Ideal.Run.dats m 0 c).arrAt 7 Cert.Kernel2Ideal.cfg0.N,
      Cert.Kernel2Ideal.Run.run_blocks m ρ,
      (θ_run _ _ _).mono (fun r h c =>
        ⟨(h c).1.trans (columns_agree m m' c (same c).1 (same c).2.1 (same c).2.2.1 (same c).2.2.2),
          (h c).2.1.trans (gates_agree m m' c (same c).1 (same c).2.1 (same c).2.2.1 (same c).2.2.2), (h c).2.2⟩)
        (Cert.Reference2Ideal.Value.run m' ρ')⟩,
    trivial,
    fun m ρ m' ρ' _ same => ⟨fun c => (Cert.Kernel3Ideal.Gen.dats m 0 c).arrAt 11 Cert.Kernel3Ideal.cfg0.N,
      Cert.Kernel3Ideal.Value.run_blocks m ρ,
      (θ_run _ _ _).mono (fun r h c =>
        have ⟨e0, e1, e2, e3, e4, e5, e6, e7, e8⟩ := same c
        ⟨(h c).1.trans (merges_agree m m' c e0 e1 e2 e3 e4 e5 e6 e7 e8), (h c).2⟩)
        (Cert.Reference3Ideal.Value.run m' ρ')⟩⟩

end Cert.Proof

end
